-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Exp [hPre_groups : Cert.Pre_groups.Facts] (m : (ℓ : Loc Cert.Exp.nD Cert.Exp.τ Cert.Exp.sig) → Buf (Elt Bits) ℓ) : Prop :=
  ∀ c : Dev Cert.Exp.nD,
    (Cert.Pre_groups.fn (F := Bits) (m ((c.tc : Thread Cert.Exp.nD Cert.Exp.τ).loc Cert.Exp.main_arg0)) (m ((c.tc : Thread Cert.Exp.nD Cert.Exp.τ).loc Cert.Exp.main_arg1)) (m ((c.tc : Thread Cert.Exp.nD Cert.Exp.τ).loc Cert.Exp.main_arg2)) (m ((c.tc : Thread Cert.Exp.nD Cert.Exp.τ).loc Cert.Exp.main_arg3)) (m ((c.tc : Thread Cert.Exp.nD Cert.Exp.τ).loc Cert.Exp.main_arg4)) (m ((c.tc : Thread Cert.Exp.nD Cert.Exp.τ).loc Cert.Exp.main_arg5))) = (fun _ => 1#1)

def Pre_ExpIdeal [hPre_groups : Cert.Pre_groups.Facts] (m : (ℓ : Loc Cert.ExpIdeal.nD Cert.ExpIdeal.τ Cert.ExpIdeal.sig) → Buf (Elt Ideal) ℓ) : Prop :=
  ∀ c : Dev Cert.ExpIdeal.nD,
    (Cert.Pre_groups.fn (F := Ideal) (m ((c.tc : Thread Cert.ExpIdeal.nD Cert.ExpIdeal.τ).loc Cert.ExpIdeal.main_arg0)) (m ((c.tc : Thread Cert.ExpIdeal.nD Cert.ExpIdeal.τ).loc Cert.ExpIdeal.main_arg1)) (m ((c.tc : Thread Cert.ExpIdeal.nD Cert.ExpIdeal.τ).loc Cert.ExpIdeal.main_arg2)) (m ((c.tc : Thread Cert.ExpIdeal.nD Cert.ExpIdeal.τ).loc Cert.ExpIdeal.main_arg3)) (m ((c.tc : Thread Cert.ExpIdeal.nD Cert.ExpIdeal.τ).loc Cert.ExpIdeal.main_arg4)) (m ((c.tc : Thread Cert.ExpIdeal.nD Cert.ExpIdeal.τ).loc Cert.ExpIdeal.main_arg5))) = (fun _ => 1#1)

def Pre_ExpIdeal_weighted [hPre_weighted : Cert.Pre_weighted.Facts] (m : (ℓ : Loc Cert.ExpIdeal.nD Cert.ExpIdeal.τ Cert.ExpIdeal.sig) → Buf (Elt Ideal) ℓ) : Prop :=
  ∀ c : Dev Cert.ExpIdeal.nD,
    (Cert.Pre_weighted.fn (F := Ideal) (m ((c.tc : Thread Cert.ExpIdeal.nD Cert.ExpIdeal.τ).loc Cert.ExpIdeal.main_arg0)) (m ((c.tc : Thread Cert.ExpIdeal.nD Cert.ExpIdeal.τ).loc Cert.ExpIdeal.main_arg1)) (m ((c.tc : Thread Cert.ExpIdeal.nD Cert.ExpIdeal.τ).loc Cert.ExpIdeal.main_arg2)) (m ((c.tc : Thread Cert.ExpIdeal.nD Cert.ExpIdeal.τ).loc Cert.ExpIdeal.main_arg3)) (m ((c.tc : Thread Cert.ExpIdeal.nD Cert.ExpIdeal.τ).loc Cert.ExpIdeal.main_arg4)) (m ((c.tc : Thread Cert.ExpIdeal.nD Cert.ExpIdeal.τ).loc Cert.ExpIdeal.main_arg5))) = (fun _ => 1#1)

def Pre_ExpRefIdeal (m : (ℓ : Loc Cert.ExpRefIdeal.nD Cert.ExpRefIdeal.τ Cert.ExpRefIdeal.sig) → Buf (Elt Ideal) ℓ) : Prop :=
  True

def Pre_ExpRefIdeal_weighted [hPre_weighted : Cert.Pre_weighted.Facts] (m : (ℓ : Loc Cert.ExpRefIdeal.nD Cert.ExpRefIdeal.τ Cert.ExpRefIdeal.sig) → Buf (Elt Ideal) ℓ) : Prop :=
  ∀ c : Dev Cert.ExpRefIdeal.nD,
    (Cert.Pre_weighted.fn (F := Ideal) (m ((c.tc : Thread Cert.ExpRefIdeal.nD Cert.ExpRefIdeal.τ).loc Cert.ExpRefIdeal.main_arg0)) (m ((c.tc : Thread Cert.ExpRefIdeal.nD Cert.ExpRefIdeal.τ).loc Cert.ExpRefIdeal.main_arg1)) (m ((c.tc : Thread Cert.ExpRefIdeal.nD Cert.ExpRefIdeal.τ).loc Cert.ExpRefIdeal.main_arg2)) (m ((c.tc : Thread Cert.ExpRefIdeal.nD Cert.ExpRefIdeal.τ).loc Cert.ExpRefIdeal.main_arg3)) (m ((c.tc : Thread Cert.ExpRefIdeal.nD Cert.ExpRefIdeal.τ).loc Cert.ExpRefIdeal.main_arg4)) (m ((c.tc : Thread Cert.ExpRefIdeal.nD Cert.ExpRefIdeal.τ).loc Cert.ExpRefIdeal.main_arg5))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_Exp [hExp : Cert.Exp.Facts] [hPre_groups : Cert.Pre_groups.Facts] : Prop :=
  ∀ (m : (ℓ : Loc Cert.Exp.nD Cert.Exp.τ Cert.Exp.sig) → Buf (Elt Bits) ℓ) (g : Dev Cert.Exp.nD → PrngReg), Pre_Exp m →
    θ_run (Cert.Exp.defs (F := Bits)) (onTc (τ := Cert.Exp.τ) (Cert.Exp.main (F := Bits))) ⟨m, fun _ => 0, g⟩ (fun r => (∀ c : Dev Cert.Exp.nD,
      r.2.mem ((c.tc : Thread Cert.Exp.nD Cert.Exp.τ).loc Cert.Exp.main_arg0) = m ((c.tc : Thread Cert.Exp.nD Cert.Exp.τ).loc Cert.Exp.main_arg0)
      ∧ r.2.mem ((c.tc : Thread Cert.Exp.nD Cert.Exp.τ).loc Cert.Exp.main_arg1) = m ((c.tc : Thread Cert.Exp.nD Cert.Exp.τ).loc Cert.Exp.main_arg1)
      ∧ r.2.mem ((c.tc : Thread Cert.Exp.nD Cert.Exp.τ).loc Cert.Exp.main_arg2) = m ((c.tc : Thread Cert.Exp.nD Cert.Exp.τ).loc Cert.Exp.main_arg2)
      ∧ r.2.mem ((c.tc : Thread Cert.Exp.nD Cert.Exp.τ).loc Cert.Exp.main_arg3) = m ((c.tc : Thread Cert.Exp.nD Cert.Exp.τ).loc Cert.Exp.main_arg3)
      ∧ r.2.mem ((c.tc : Thread Cert.Exp.nD Cert.Exp.τ).loc Cert.Exp.main_arg4) = m ((c.tc : Thread Cert.Exp.nD Cert.Exp.τ).loc Cert.Exp.main_arg4)
      ∧ r.2.mem ((c.tc : Thread Cert.Exp.nD Cert.Exp.τ).loc Cert.Exp.main_arg5) = m ((c.tc : Thread Cert.Exp.nD Cert.Exp.τ).loc Cert.Exp.main_arg5))
      ∧ r.2.sem = fun _ => 0)

def quiescent_ExpIdeal [hExpIdeal : Cert.ExpIdeal.Facts] [hPre_groups : Cert.Pre_groups.Facts] : Prop :=
  ∀ (m : (ℓ : Loc Cert.ExpIdeal.nD Cert.ExpIdeal.τ Cert.ExpIdeal.sig) → Buf (Elt Ideal) ℓ) (g : Dev Cert.ExpIdeal.nD → PrngReg), Pre_ExpIdeal m →
    θ_run (Cert.ExpIdeal.defs (F := Ideal)) (onTc (τ := Cert.ExpIdeal.τ) (Cert.ExpIdeal.main (F := Ideal))) ⟨m, fun _ => 0, g⟩ (fun r => (∀ c : Dev Cert.ExpIdeal.nD,
      r.2.mem ((c.tc : Thread Cert.ExpIdeal.nD Cert.ExpIdeal.τ).loc Cert.ExpIdeal.main_arg0) = m ((c.tc : Thread Cert.ExpIdeal.nD Cert.ExpIdeal.τ).loc Cert.ExpIdeal.main_arg0)
      ∧ r.2.mem ((c.tc : Thread Cert.ExpIdeal.nD Cert.ExpIdeal.τ).loc Cert.ExpIdeal.main_arg1) = m ((c.tc : Thread Cert.ExpIdeal.nD Cert.ExpIdeal.τ).loc Cert.ExpIdeal.main_arg1)
      ∧ r.2.mem ((c.tc : Thread Cert.ExpIdeal.nD Cert.ExpIdeal.τ).loc Cert.ExpIdeal.main_arg2) = m ((c.tc : Thread Cert.ExpIdeal.nD Cert.ExpIdeal.τ).loc Cert.ExpIdeal.main_arg2)
      ∧ r.2.mem ((c.tc : Thread Cert.ExpIdeal.nD Cert.ExpIdeal.τ).loc Cert.ExpIdeal.main_arg3) = m ((c.tc : Thread Cert.ExpIdeal.nD Cert.ExpIdeal.τ).loc Cert.ExpIdeal.main_arg3)
      ∧ r.2.mem ((c.tc : Thread Cert.ExpIdeal.nD Cert.ExpIdeal.τ).loc Cert.ExpIdeal.main_arg4) = m ((c.tc : Thread Cert.ExpIdeal.nD Cert.ExpIdeal.τ).loc Cert.ExpIdeal.main_arg4)
      ∧ r.2.mem ((c.tc : Thread Cert.ExpIdeal.nD Cert.ExpIdeal.τ).loc Cert.ExpIdeal.main_arg5) = m ((c.tc : Thread Cert.ExpIdeal.nD Cert.ExpIdeal.τ).loc Cert.ExpIdeal.main_arg5))
      ∧ r.2.sem = fun _ => 0)

def quiescent_ExpIdeal_pre_weighted [hExpIdeal : Cert.ExpIdeal.Facts] [hPre_weighted : Cert.Pre_weighted.Facts] : Prop :=
  ∀ (m : (ℓ : Loc Cert.ExpIdeal.nD Cert.ExpIdeal.τ Cert.ExpIdeal.sig) → Buf (Elt Ideal) ℓ) (g : Dev Cert.ExpIdeal.nD → PrngReg), Pre_ExpIdeal_weighted m →
    θ_run (Cert.ExpIdeal.defs (F := Ideal)) (onTc (τ := Cert.ExpIdeal.τ) (Cert.ExpIdeal.main (F := Ideal))) ⟨m, fun _ => 0, g⟩ (fun r => (∀ c : Dev Cert.ExpIdeal.nD,
      r.2.mem ((c.tc : Thread Cert.ExpIdeal.nD Cert.ExpIdeal.τ).loc Cert.ExpIdeal.main_arg0) = m ((c.tc : Thread Cert.ExpIdeal.nD Cert.ExpIdeal.τ).loc Cert.ExpIdeal.main_arg0)
      ∧ r.2.mem ((c.tc : Thread Cert.ExpIdeal.nD Cert.ExpIdeal.τ).loc Cert.ExpIdeal.main_arg1) = m ((c.tc : Thread Cert.ExpIdeal.nD Cert.ExpIdeal.τ).loc Cert.ExpIdeal.main_arg1)
      ∧ r.2.mem ((c.tc : Thread Cert.ExpIdeal.nD Cert.ExpIdeal.τ).loc Cert.ExpIdeal.main_arg2) = m ((c.tc : Thread Cert.ExpIdeal.nD Cert.ExpIdeal.τ).loc Cert.ExpIdeal.main_arg2)
      ∧ r.2.mem ((c.tc : Thread Cert.ExpIdeal.nD Cert.ExpIdeal.τ).loc Cert.ExpIdeal.main_arg3) = m ((c.tc : Thread Cert.ExpIdeal.nD Cert.ExpIdeal.τ).loc Cert.ExpIdeal.main_arg3)
      ∧ r.2.mem ((c.tc : Thread Cert.ExpIdeal.nD Cert.ExpIdeal.τ).loc Cert.ExpIdeal.main_arg4) = m ((c.tc : Thread Cert.ExpIdeal.nD Cert.ExpIdeal.τ).loc Cert.ExpIdeal.main_arg4)
      ∧ r.2.mem ((c.tc : Thread Cert.ExpIdeal.nD Cert.ExpIdeal.τ).loc Cert.ExpIdeal.main_arg5) = m ((c.tc : Thread Cert.ExpIdeal.nD Cert.ExpIdeal.τ).loc Cert.ExpIdeal.main_arg5))
      ∧ r.2.sem = fun _ => 0)

def quiescent_ExpRefIdeal [hExpRefIdeal : Cert.ExpRefIdeal.Facts] : Prop :=
  ∀ (m : (ℓ : Loc Cert.ExpRefIdeal.nD Cert.ExpRefIdeal.τ Cert.ExpRefIdeal.sig) → Buf (Elt Ideal) ℓ) (g : Dev Cert.ExpRefIdeal.nD → PrngReg), Pre_ExpRefIdeal m →
    θ_run (Cert.ExpRefIdeal.defs (F := Ideal)) (onTc (τ := Cert.ExpRefIdeal.τ) (Cert.ExpRefIdeal.main (F := Ideal))) ⟨m, fun _ => 0, g⟩ (fun r => (∀ c : Dev Cert.ExpRefIdeal.nD,
      r.2.mem ((c.tc : Thread Cert.ExpRefIdeal.nD Cert.ExpRefIdeal.τ).loc Cert.ExpRefIdeal.main_arg0) = m ((c.tc : Thread Cert.ExpRefIdeal.nD Cert.ExpRefIdeal.τ).loc Cert.ExpRefIdeal.main_arg0)
      ∧ r.2.mem ((c.tc : Thread Cert.ExpRefIdeal.nD Cert.ExpRefIdeal.τ).loc Cert.ExpRefIdeal.main_arg1) = m ((c.tc : Thread Cert.ExpRefIdeal.nD Cert.ExpRefIdeal.τ).loc Cert.ExpRefIdeal.main_arg1)
      ∧ r.2.mem ((c.tc : Thread Cert.ExpRefIdeal.nD Cert.ExpRefIdeal.τ).loc Cert.ExpRefIdeal.main_arg2) = m ((c.tc : Thread Cert.ExpRefIdeal.nD Cert.ExpRefIdeal.τ).loc Cert.ExpRefIdeal.main_arg2)
      ∧ r.2.mem ((c.tc : Thread Cert.ExpRefIdeal.nD Cert.ExpRefIdeal.τ).loc Cert.ExpRefIdeal.main_arg3) = m ((c.tc : Thread Cert.ExpRefIdeal.nD Cert.ExpRefIdeal.τ).loc Cert.ExpRefIdeal.main_arg3)
      ∧ r.2.mem ((c.tc : Thread Cert.ExpRefIdeal.nD Cert.ExpRefIdeal.τ).loc Cert.ExpRefIdeal.main_arg4) = m ((c.tc : Thread Cert.ExpRefIdeal.nD Cert.ExpRefIdeal.τ).loc Cert.ExpRefIdeal.main_arg4)
      ∧ r.2.mem ((c.tc : Thread Cert.ExpRefIdeal.nD Cert.ExpRefIdeal.τ).loc Cert.ExpRefIdeal.main_arg5) = m ((c.tc : Thread Cert.ExpRefIdeal.nD Cert.ExpRefIdeal.τ).loc Cert.ExpRefIdeal.main_arg5))
      ∧ r.2.sem = fun _ => 0)

def quiescent_ExpRefIdeal_pre_weighted [hExpRefIdeal : Cert.ExpRefIdeal.Facts] [hPre_weighted : Cert.Pre_weighted.Facts] : Prop :=
  ∀ (m : (ℓ : Loc Cert.ExpRefIdeal.nD Cert.ExpRefIdeal.τ Cert.ExpRefIdeal.sig) → Buf (Elt Ideal) ℓ) (g : Dev Cert.ExpRefIdeal.nD → PrngReg), Pre_ExpRefIdeal_weighted m →
    θ_run (Cert.ExpRefIdeal.defs (F := Ideal)) (onTc (τ := Cert.ExpRefIdeal.τ) (Cert.ExpRefIdeal.main (F := Ideal))) ⟨m, fun _ => 0, g⟩ (fun r => (∀ c : Dev Cert.ExpRefIdeal.nD,
      r.2.mem ((c.tc : Thread Cert.ExpRefIdeal.nD Cert.ExpRefIdeal.τ).loc Cert.ExpRefIdeal.main_arg0) = m ((c.tc : Thread Cert.ExpRefIdeal.nD Cert.ExpRefIdeal.τ).loc Cert.ExpRefIdeal.main_arg0)
      ∧ r.2.mem ((c.tc : Thread Cert.ExpRefIdeal.nD Cert.ExpRefIdeal.τ).loc Cert.ExpRefIdeal.main_arg1) = m ((c.tc : Thread Cert.ExpRefIdeal.nD Cert.ExpRefIdeal.τ).loc Cert.ExpRefIdeal.main_arg1)
      ∧ r.2.mem ((c.tc : Thread Cert.ExpRefIdeal.nD Cert.ExpRefIdeal.τ).loc Cert.ExpRefIdeal.main_arg2) = m ((c.tc : Thread Cert.ExpRefIdeal.nD Cert.ExpRefIdeal.τ).loc Cert.ExpRefIdeal.main_arg2)
      ∧ r.2.mem ((c.tc : Thread Cert.ExpRefIdeal.nD Cert.ExpRefIdeal.τ).loc Cert.ExpRefIdeal.main_arg3) = m ((c.tc : Thread Cert.ExpRefIdeal.nD Cert.ExpRefIdeal.τ).loc Cert.ExpRefIdeal.main_arg3)
      ∧ r.2.mem ((c.tc : Thread Cert.ExpRefIdeal.nD Cert.ExpRefIdeal.τ).loc Cert.ExpRefIdeal.main_arg4) = m ((c.tc : Thread Cert.ExpRefIdeal.nD Cert.ExpRefIdeal.τ).loc Cert.ExpRefIdeal.main_arg4)
      ∧ r.2.mem ((c.tc : Thread Cert.ExpRefIdeal.nD Cert.ExpRefIdeal.τ).loc Cert.ExpRefIdeal.main_arg5) = m ((c.tc : Thread Cert.ExpRefIdeal.nD Cert.ExpRefIdeal.τ).loc Cert.ExpRefIdeal.main_arg5))
      ∧ r.2.sem = fun _ => 0)

def preserves_Attn_AttnIdeal : Prop :=
  True

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v144)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v144) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v97) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)) →
    ∃ (v0 : (c : Dev Cert.InpIdeal.nD) → Buf (Elt Ideal) ((c.tc : Thread Cert.InpIdeal.nD Cert.InpIdeal.τ).loc Cert.InpIdeal.main_v0_0)) (v1 : (c : Dev Cert.InpIdeal.nD) → Buf (Elt Ideal) ((c.tc : Thread Cert.InpIdeal.nD Cert.InpIdeal.τ).loc Cert.InpIdeal.main_v0_1)) (v2 : (c : Dev Cert.InpIdeal.nD) → Buf (Elt Ideal) ((c.tc : Thread Cert.InpIdeal.nD Cert.InpIdeal.τ).loc Cert.InpIdeal.main_v0_2)) (v3 : (c : Dev Cert.InpIdeal.nD) → Buf (Elt Ideal) ((c.tc : Thread Cert.InpIdeal.nD Cert.InpIdeal.τ).loc Cert.InpIdeal.main_v0_3)) (v4 : (c : Dev Cert.InpIdeal.nD) → Buf (Elt Ideal) ((c.tc : Thread Cert.InpIdeal.nD Cert.InpIdeal.τ).loc Cert.InpIdeal.main_v0_4)) (v5 : (c : Dev Cert.InpIdeal.nD) → Buf (Elt Ideal) ((c.tc : Thread Cert.InpIdeal.nD Cert.InpIdeal.τ).loc Cert.InpIdeal.main_v0_5)) (v6 : (c : Dev Cert.InpIdeal.nD) → Buf (Elt Ideal) ((c.tc : Thread Cert.InpIdeal.nD Cert.InpIdeal.τ).loc Cert.InpIdeal.main_v0_6)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v0_0) = v0 c
          ∧ r.2.mem ((c.tc : Thread Cert.InpIdeal.nD Cert.InpIdeal.τ).loc Cert.InpIdeal.main_v0_1) = v1 c
          ∧ r.2.mem ((c.tc : Thread Cert.InpIdeal.nD Cert.InpIdeal.τ).loc Cert.InpIdeal.main_v0_2) = v2 c
          ∧ r.2.mem ((c.tc : Thread Cert.InpIdeal.nD Cert.InpIdeal.τ).loc Cert.InpIdeal.main_v0_3) = v3 c
          ∧ r.2.mem ((c.tc : Thread Cert.InpIdeal.nD Cert.InpIdeal.τ).loc Cert.InpIdeal.main_v0_4) = v4 c
          ∧ r.2.mem ((c.tc : Thread Cert.InpIdeal.nD Cert.InpIdeal.τ).loc Cert.InpIdeal.main_v0_5) = v5 c
          ∧ r.2.mem ((c.tc : Thread Cert.InpIdeal.nD Cert.InpIdeal.τ).loc Cert.InpIdeal.main_v0_6) = v6 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v13) = v0 c
          ∧ r.2.mem ((c.tc : Thread Cert.InpRefIdeal.nD Cert.InpRefIdeal.τ).loc Cert.InpRefIdeal.main_v14) = v1 c
          ∧ r.2.mem ((c.tc : Thread Cert.InpRefIdeal.nD Cert.InpRefIdeal.τ).loc Cert.InpRefIdeal.main_v20) = v2 c
          ∧ r.2.mem ((c.tc : Thread Cert.InpRefIdeal.nD Cert.InpRefIdeal.τ).loc Cert.InpRefIdeal.main_v21) = v3 c
          ∧ r.2.mem ((c.tc : Thread Cert.InpRefIdeal.nD Cert.InpRefIdeal.τ).loc Cert.InpRefIdeal.main_v22) = v4 c
          ∧ r.2.mem ((c.tc : Thread Cert.InpRefIdeal.nD Cert.InpRefIdeal.τ).loc Cert.InpRefIdeal.main_v23) = v5 c
          ∧ r.2.mem ((c.tc : Thread Cert.InpRefIdeal.nD Cert.InpRefIdeal.τ).loc Cert.InpRefIdeal.main_v24) = v6 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v0_0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_Exp_ExpIdeal : Prop :=
  True

def algebraic_ExpIdeal_ExpRefIdeal_pre_weighted [hExpIdeal : Cert.ExpIdeal.Facts] [hExpRefIdeal : Cert.ExpRefIdeal.Facts] [hPre_weighted : Cert.Pre_weighted.Facts] : Prop :=
  ∀ (m : (ℓ : Loc Cert.ExpIdeal.nD Cert.ExpIdeal.τ Cert.ExpIdeal.sig) → Buf (Elt Ideal) ℓ) (g : Dev Cert.ExpIdeal.nD → PrngReg)
    (m' : (ℓ : Loc Cert.ExpRefIdeal.nD Cert.ExpRefIdeal.τ Cert.ExpRefIdeal.sig) → Buf (Elt Ideal) ℓ) (g' : Dev Cert.ExpRefIdeal.nD → PrngReg), Pre_ExpIdeal_weighted m →
    (∀ c : Dev Cert.ExpIdeal.nD,
      m' ((c.tc : Thread Cert.ExpRefIdeal.nD Cert.ExpRefIdeal.τ).loc Cert.ExpRefIdeal.main_arg0) = m ((c.tc : Thread Cert.ExpIdeal.nD Cert.ExpIdeal.τ).loc Cert.ExpIdeal.main_arg0)
      ∧ m' ((c.tc : Thread Cert.ExpRefIdeal.nD Cert.ExpRefIdeal.τ).loc Cert.ExpRefIdeal.main_arg1) = m ((c.tc : Thread Cert.ExpIdeal.nD Cert.ExpIdeal.τ).loc Cert.ExpIdeal.main_arg1)
      ∧ m' ((c.tc : Thread Cert.ExpRefIdeal.nD Cert.ExpRefIdeal.τ).loc Cert.ExpRefIdeal.main_arg2) = m ((c.tc : Thread Cert.ExpIdeal.nD Cert.ExpIdeal.τ).loc Cert.ExpIdeal.main_arg2)
      ∧ m' ((c.tc : Thread Cert.ExpRefIdeal.nD Cert.ExpRefIdeal.τ).loc Cert.ExpRefIdeal.main_arg3) = m ((c.tc : Thread Cert.ExpIdeal.nD Cert.ExpIdeal.τ).loc Cert.ExpIdeal.main_arg3)
      ∧ m' ((c.tc : Thread Cert.ExpRefIdeal.nD Cert.ExpRefIdeal.τ).loc Cert.ExpRefIdeal.main_arg4) = m ((c.tc : Thread Cert.ExpIdeal.nD Cert.ExpIdeal.τ).loc Cert.ExpIdeal.main_arg4)
      ∧ m' ((c.tc : Thread Cert.ExpRefIdeal.nD Cert.ExpRefIdeal.τ).loc Cert.ExpRefIdeal.main_arg5) = m ((c.tc : Thread Cert.ExpIdeal.nD Cert.ExpIdeal.τ).loc Cert.ExpIdeal.main_arg5)) →
    ∃ (v0 : (c : Dev Cert.ExpIdeal.nD) → Buf (Elt Ideal) ((c.tc : Thread Cert.ExpIdeal.nD Cert.ExpIdeal.τ).loc Cert.ExpIdeal.main_v0)),
      θ_run (Cert.ExpIdeal.defs (F := Ideal)) (onTc (τ := Cert.ExpIdeal.τ) (Cert.ExpIdeal.main (F := Ideal))) ⟨m, fun _ => 0, g⟩ (fun r => ∀ c : Dev Cert.ExpIdeal.nD,
          r.2.mem ((c.tc : Thread Cert.ExpIdeal.nD Cert.ExpIdeal.τ).loc Cert.ExpIdeal.main_v0) = v0 c
          ∧ r.2.mem ((c.tc : Thread Cert.ExpIdeal.nD Cert.ExpIdeal.τ).loc Cert.ExpIdeal.main_arg0) = m ((c.tc : Thread Cert.ExpIdeal.nD Cert.ExpIdeal.τ).loc Cert.ExpIdeal.main_arg0)
          ∧ r.2.mem ((c.tc : Thread Cert.ExpIdeal.nD Cert.ExpIdeal.τ).loc Cert.ExpIdeal.main_arg1) = m ((c.tc : Thread Cert.ExpIdeal.nD Cert.ExpIdeal.τ).loc Cert.ExpIdeal.main_arg1)
          ∧ r.2.mem ((c.tc : Thread Cert.ExpIdeal.nD Cert.ExpIdeal.τ).loc Cert.ExpIdeal.main_arg2) = m ((c.tc : Thread Cert.ExpIdeal.nD Cert.ExpIdeal.τ).loc Cert.ExpIdeal.main_arg2)
          ∧ r.2.mem ((c.tc : Thread Cert.ExpIdeal.nD Cert.ExpIdeal.τ).loc Cert.ExpIdeal.main_arg3) = m ((c.tc : Thread Cert.ExpIdeal.nD Cert.ExpIdeal.τ).loc Cert.ExpIdeal.main_arg3)
          ∧ r.2.mem ((c.tc : Thread Cert.ExpIdeal.nD Cert.ExpIdeal.τ).loc Cert.ExpIdeal.main_arg4) = m ((c.tc : Thread Cert.ExpIdeal.nD Cert.ExpIdeal.τ).loc Cert.ExpIdeal.main_arg4)
          ∧ r.2.mem ((c.tc : Thread Cert.ExpIdeal.nD Cert.ExpIdeal.τ).loc Cert.ExpIdeal.main_arg5) = m ((c.tc : Thread Cert.ExpIdeal.nD Cert.ExpIdeal.τ).loc Cert.ExpIdeal.main_arg5))
      ∧ θ_run (Cert.ExpRefIdeal.defs (F := Ideal)) (onTc (τ := Cert.ExpRefIdeal.τ) (Cert.ExpRefIdeal.main (F := Ideal))) ⟨m', fun _ => 0, g'⟩ (fun r => ∀ c : Dev Cert.ExpRefIdeal.nD,
          r.2.mem ((c.tc : Thread Cert.ExpRefIdeal.nD Cert.ExpRefIdeal.τ).loc Cert.ExpRefIdeal.main_v49) = v0 c
          ∧ r.2.mem ((c.tc : Thread Cert.ExpRefIdeal.nD Cert.ExpRefIdeal.τ).loc Cert.ExpRefIdeal.main_arg0) = m' ((c.tc : Thread Cert.ExpRefIdeal.nD Cert.ExpRefIdeal.τ).loc Cert.ExpRefIdeal.main_arg0)
          ∧ r.2.mem ((c.tc : Thread Cert.ExpRefIdeal.nD Cert.ExpRefIdeal.τ).loc Cert.ExpRefIdeal.main_arg1) = m' ((c.tc : Thread Cert.ExpRefIdeal.nD Cert.ExpRefIdeal.τ).loc Cert.ExpRefIdeal.main_arg1)
          ∧ r.2.mem ((c.tc : Thread Cert.ExpRefIdeal.nD Cert.ExpRefIdeal.τ).loc Cert.ExpRefIdeal.main_arg2) = m' ((c.tc : Thread Cert.ExpRefIdeal.nD Cert.ExpRefIdeal.τ).loc Cert.ExpRefIdeal.main_arg2)
          ∧ r.2.mem ((c.tc : Thread Cert.ExpRefIdeal.nD Cert.ExpRefIdeal.τ).loc Cert.ExpRefIdeal.main_arg3) = m' ((c.tc : Thread Cert.ExpRefIdeal.nD Cert.ExpRefIdeal.τ).loc Cert.ExpRefIdeal.main_arg3)
          ∧ r.2.mem ((c.tc : Thread Cert.ExpRefIdeal.nD Cert.ExpRefIdeal.τ).loc Cert.ExpRefIdeal.main_arg4) = m' ((c.tc : Thread Cert.ExpRefIdeal.nD Cert.ExpRefIdeal.τ).loc Cert.ExpRefIdeal.main_arg4)
          ∧ r.2.mem ((c.tc : Thread Cert.ExpRefIdeal.nD Cert.ExpRefIdeal.τ).loc Cert.ExpRefIdeal.main_arg5) = m' ((c.tc : Thread Cert.ExpRefIdeal.nD Cert.ExpRefIdeal.τ).loc Cert.ExpRefIdeal.main_arg5))

def Claim : Prop :=
  ∃ (hAttn : Cert.Attn.Facts) (hAttnIdeal : Cert.AttnIdeal.Facts) (hAttnRefIdeal : Cert.AttnRefIdeal.Facts) (hInp : Cert.Inp.Facts) (hInpIdeal : Cert.InpIdeal.Facts) (hInpRefIdeal : Cert.InpRefIdeal.Facts) (hOut : Cert.Out.Facts) (hOutIdeal : Cert.OutIdeal.Facts) (hOutRefIdeal : Cert.OutRefIdeal.Facts) (hExp : Cert.Exp.Facts) (hExpIdeal : Cert.ExpIdeal.Facts) (hExpRefIdeal : Cert.ExpRefIdeal.Facts) (hPre_finite_scores : Cert.Pre_finite_scores.Facts) (hPre_groups : Cert.Pre_groups.Facts) (hPre_weighted : Cert.Pre_weighted.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Inp (hInp := hInp)
    ∧ quiescent_InpIdeal (hInpIdeal := hInpIdeal)
    ∧ quiescent_InpRefIdeal (hInpRefIdeal := hInpRefIdeal)
    ∧ quiescent_Out (hOut := hOut)
    ∧ quiescent_OutIdeal (hOutIdeal := hOutIdeal)
    ∧ quiescent_OutRefIdeal (hOutRefIdeal := hOutRefIdeal)
    ∧ quiescent_Exp (hExp := hExp) (hPre_groups := hPre_groups)
    ∧ quiescent_ExpIdeal (hExpIdeal := hExpIdeal) (hPre_groups := hPre_groups)
    ∧ quiescent_ExpIdeal_pre_weighted (hExpIdeal := hExpIdeal) (hPre_weighted := hPre_weighted)
    ∧ quiescent_ExpRefIdeal (hExpRefIdeal := hExpRefIdeal)
    ∧ quiescent_ExpRefIdeal_pre_weighted (hExpRefIdeal := hExpRefIdeal) (hPre_weighted := hPre_weighted)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Inp_InpIdeal
    ∧ algebraic_InpIdeal_InpRefIdeal (hInpIdeal := hInpIdeal) (hInpRefIdeal := hInpRefIdeal)
    ∧ preserves_Out_OutIdeal
    ∧ algebraic_OutIdeal_OutRefIdeal (hOutIdeal := hOutIdeal) (hOutRefIdeal := hOutRefIdeal)
    ∧ preserves_Exp_ExpIdeal
    ∧ algebraic_ExpIdeal_ExpRefIdeal_pre_weighted (hExpIdeal := hExpIdeal) (hExpRefIdeal := hExpRefIdeal) (hPre_weighted := hPre_weighted)
-- ==== Pre_finite_scores.lean ====
abbrev S8x2048x512 : Shape := ⟨3, ![8, 2048, 512]⟩
abbrev S8x257 : Shape := ⟨2, ![8, 257]⟩
abbrev S512 : Shape := ⟨1, ![512]⟩
abbrev S_ : Shape := ⟨0, ![]⟩

class Facts : Prop where
  bitsLt_bf16_f32 : FTy.bits .bf16 < FTy.bits .f32
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8x257 : S_.BroadcastsInDim S8x257 (![] : Fin 0 → Fin S8x257.rank)
  reducesTo_S8x257_S_d0_1 : S8x257.ReducesTo [0, 1] S_

variable [Facts]

def fn {F : FTy → Type} [FloatOps F] (main_arg0 : FVec F S8x2048x512 .bf16) (main_arg1 : FVec F S8x2048x512 .bf16) (main_arg2 : FVec F S8x2048x512 .bf16) (main_arg3 : FVec F S8x257 .f32) (main_arg4 : FVec F S512 .f32) : IVec S_ 1 :=
  let main_v0 : FVec F S8x2048x512 .f32 := (extf .f32 · bitsLt_bf16_f32) main_arg0
  let main_v1 : FVec F S8x2048x512 .f32 := Host.absf main_v0
  let main_cst : FVec F S_ .f32 := constant S_ .f32 0x7F800000#32
  let main_v2 : FVec F S8x2048x512 .f32 := broadcastInDim S8x2048x512 ![] bcast_S_S8x2048x512 main_cst
  let main_v3 : IVec S8x2048x512 1 := cmpf .olt main_v1 main_v2
  let main_c : IVec S_ 1 := constantI S_ 1 1#1
  let main_v4 : IVec S_ 1 := (fun x v => Host.reduce IntOp.andi x v reducesTo_S8x2048x512_S_d0_1_2 h_S_) main_v3 main_c
  let main_v5 : FVec F S8x2048x512 .f32 := (extf .f32 · bitsLt_bf16_f32) main_arg1
  let main_v6 : FVec F S8x2048x512 .f32 := Host.absf main_v5
  let main_cst_0 : FVec F S_ .f32 := constant S_ .f32 0x7F800000#32
  let main_v7 : FVec F S8x2048x512 .f32 := broadcastInDim S8x2048x512 ![] bcast_S_S8x2048x512 main_cst_0
  let main_v8 : IVec S8x2048x512 1 := cmpf .olt main_v6 main_v7
  let main_c_1 : IVec S_ 1 := constantI S_ 1 1#1
  let main_v9 : IVec S_ 1 := (fun x v => Host.reduce IntOp.andi x v reducesTo_S8x2048x512_S_d0_1_2 h_S_) main_v8 main_c_1
  let main_v10 : IVec S_ 1 := andi main_v4 main_v9
  let main_v11 : FVec F S8x257 .f32 := Host.absf main_arg3
  let main_cst_2 : FVec F S_ .f32 := constant S_ .f32 0x7F800000#32
  let main_v12 : FVec F S8x257 .f32 := broadcastInDim S8x257 ![] bcast_S_S8x257 main_cst_2
  let main_v13 : IVec S8x257 1 := cmpf .olt main_v11 main_v12
  let main_c_3 : IVec S_ 1 := constantI S_ 1 1#1
  let main_v14 : IVec S_ 1 := (fun x v => Host.reduce IntOp.andi x v reducesTo_S8x257_S_d0_1 h_S_) main_v13 main_c_3
  let main_v15 : IVec S_ 1 := andi main_v10 main_v14
  main_v15
-- ==== Pre_groups.lean ====
abbrev S68 : Shape := ⟨1, ![68]⟩
abbrev S1 : Shape := ⟨1, ![1]⟩
abbrev S17408x1152 : Shape := ⟨2, ![17408, 1152]⟩
abbrev S16x1024x512 : Shape := ⟨3, ![16, 1024, 512]⟩
abbrev S16x512x1024 : Shape := ⟨3, ![16, 512, 1024]⟩
abbrev S_ : Shape := ⟨0, ![]⟩

class Facts : Prop where
  bcast_S_S68 : S_.BroadcastsInDim S68 (![] : Fin 0 → Fin S68.rank)
  reducesTo_S68_S_d0 : S68.ReducesTo [0] S_
  h_S_ : 0 < S_.numel

variable [Facts]

def fn {F : FTy → Type} [FloatOps F] (main_arg0 : IVec S68 32) (main_arg1 : IVec S1 32) (main_arg2 : FVec F S17408x1152 .f32) (main_arg3 : FVec F S16x1024x512 .bf16) (main_arg4 : FVec F S16x1024x512 .bf16) (main_arg5 : FVec F S16x512x1024 .bf16) : IVec S_ 1 :=
  let main_c : IVec S_ 32 := constantI S_ 32 0#32
  let main_v0 : IVec S68 32 := broadcastInDim S68 ![] bcast_S_S68 main_c
  let main_v1 : IVec S68 1 := cmpi .sge main_arg0 main_v0
  let main_c_0 : IVec S_ 32 := constantI S_ 32 4#32
  let main_v2 : IVec S68 32 := broadcastInDim S68 ![] bcast_S_S68 main_c_0
  let main_v3 : IVec S68 1 := cmpi .slt main_arg0 main_v2
  let main_v4 : IVec S68 1 := andi main_v1 main_v3
  let main_c_1 : IVec S_ 1 := constantI S_ 1 1#1
  let main_v5 : IVec S_ 1 := (fun x v => Host.reduce IntOp.andi x v reducesTo_S68_S_d0 h_S_) main_v4 main_c_1
  main_v5
-- ==== Pre_weighted.lean ====
abbrev S68 : Shape := ⟨1, ![68]⟩
abbrev S1 : Shape := ⟨1, ![1]⟩
abbrev S17408x1152 : Shape := ⟨2, ![17408, 1152]⟩
abbrev S16x1024x512 : Shape := ⟨3, ![16, 1024, 512]⟩
abbrev S16x512x1024 : Shape := ⟨3, ![16, 512, 1024]⟩
abbrev S17408x4 : Shape := ⟨2, ![17408, 4]⟩
abbrev S_ : Shape := ⟨0, ![]⟩

class Facts : Prop where
  slices_S17408x1152_S17408x4_0_1024 : S17408x1152.Slices ![0, 1024] S17408x4
  bcast_S_S68 : S_.BroadcastsInDim S68 (![] : Fin 0 → Fin S68.rank)
  reducesTo_S68_S_d0 : S68.ReducesTo [0] S_
  h_S_ : 0 < S_.numel
  bcast_S_S17408x4 : S_.BroadcastsInDim S17408x4 (![] : Fin 0 → Fin S17408x4.rank)
  reducesTo_S17408x4_S_d0_1 : S17408x4.ReducesTo [0, 1] S_

variable [Facts]

def fn {F : FTy → Type} [FloatOps F] (main_arg0 : IVec S68 32) (main_arg1 : IVec S1 32) (main_arg2 : FVec F S17408x1152 .f32) (main_arg3 : FVec F S16x1024x512 .bf16) (main_arg4 : FVec F S16x1024x512 .bf16) (main_arg5 : FVec F S16x512x1024 .bf16) : IVec S_ 1 :=
  let main_v0 : FVec F S17408x4 .f32 := (extractStridedSlice S17408x4 ![0, 1024] · slices_S17408x1152_S17408x4_0_1024) main_arg2
  let main_c : IVec S_ 32 := constantI S_ 32 0#32
  let main_v1 : IVec S68 32 := broadcastInDim S68 ![] bcast_S_S68 main_c
  let main_v2 : IVec S68 1 := cmpi .sge main_arg0 main_v1
  let main_c_0 : IVec S_ 32 := constantI S_ 32 4#32
  let main_v3 : IVec S68 32 := broadcastInDim S68 ![] bcast_S_S68 main_c_0
  let main_v4 : IVec S68 1 := cmpi .slt main_arg0 main_v3
  let main_v5 : IVec S68 1 := andi main_v2 main_v4
  let main_c_1 : IVec S_ 1 := constantI S_ 1 1#1
  let main_v6 : IVec S_ 1 := (fun x v => Host.reduce IntOp.andi x v reducesTo_S68_S_d0 h_S_) main_v5 main_c_1
  let main_cst : FVec F S_ .f32 := constant S_ .f32 0x00000000#32
  let main_v7 : FVec F S17408x4 .f32 := broadcastInDim S17408x4 ![] bcast_S_S17408x4 main_cst
  let main_v8 : IVec S17408x4 1 := cmpf .oge main_v0 main_v7
  let main_cst_2 : FVec F S_ .f32 := constant S_ .f32 0x7F800000#32
  let main_v9 : FVec F S17408x4 .f32 := broadcastInDim S17408x4 ![] bcast_S_S17408x4 main_cst_2
  let main_v10 : IVec S17408x4 1 := cmpf .olt main_v0 main_v9
  let main_v11 : IVec S17408x4 1 := andi main_v8 main_v10
  let main_c_3 : IVec S_ 1 := constantI S_ 1 1#1
  let main_v12 : IVec S_ 1 := (fun x v => Host.reduce IntOp.andi x v reducesTo_S17408x4_S_d0_1 h_S_) main_v11 main_c_3
  let main_v13 : IVec S_ 1 := andi main_v6 main_v12
  main_v13
-- ==== Attn.lean ====
abbrev S8x2048x512 : Shape := ⟨3, ![8, 2048, 512]⟩
abbrev S8x257 : Shape := ⟨2, ![8, 257]⟩
abbrev S512 : Shape := ⟨1, ![512]⟩
abbrev S8x1 : Shape := ⟨2, ![8, 1]⟩
abbrev S8x448 : Shape := ⟨2, ![8, 448]⟩
abbrev S8x191 : Shape := ⟨2, ![8, 191]⟩
abbrev S8x639 : Shape := ⟨2, ![8, 639]⟩
abbrev S8x576 : Shape := ⟨2, ![8, 576]⟩
abbrev S8x1x576 : Shape := ⟨3, ![8, 1, 576]⟩
abbrev S8x16x576 : Shape := ⟨3, ![8, 16, 576]⟩
abbrev S8x64x576 : Shape := ⟨3, ![8, 64, 576]⟩
abbrev S_ : Shape := ⟨0, ![]⟩
abbrev S8x64x64 : Shape := ⟨3, ![8, 64, 64]⟩
abbrev S8x64x640 : Shape := ⟨3, ![8, 64, 640]⟩
abbrev S8x128x640 : Shape := ⟨3, ![8, 128, 640]⟩
abbrev S2x512x640 : Shape := ⟨3, ![2, 512, 640]⟩
abbrev S1x512 : Shape := ⟨2, ![1, 512]⟩
abbrev S1x2048x512 : Shape := ⟨3, ![1, 2048, 512]⟩
abbrev S128x256 : Shape := ⟨2, ![128, 256]⟩
abbrev S1x128x512 : Shape := ⟨3, ![1, 128, 512]⟩
abbrev S128x512 : Shape := ⟨2, ![128, 512]⟩
abbrev S512x256 : Shape := ⟨2, ![512, 256]⟩
abbrev S512x128 : Shape := ⟨2, ![512, 128]⟩
abbrev S1x512x640 : Shape := ⟨3, ![1, 512, 640]⟩
abbrev S512x640 : Shape := ⟨2, ![512, 640]⟩
abbrev S512x1 : Shape := ⟨2, ![512, 1]⟩
abbrev S128 : Shape := ⟨1, ![128]⟩
abbrev S128x1 : Shape := ⟨2, ![128, 1]⟩
abbrev S1x256x512 : Shape := ⟨3, ![1, 256, 512]⟩
abbrev S256x512 : Shape := ⟨2, ![256, 512]⟩
abbrev S256x256 : Shape := ⟨2, ![256, 256]⟩
abbrev S1x384x512 : Shape := ⟨3, ![1, 384, 512]⟩
abbrev S384x512 : Shape := ⟨2, ![384, 512]⟩
abbrev S384x256 : Shape := ⟨2, ![384, 256]⟩
abbrev S512x384 : Shape := ⟨2, ![512, 384]⟩
abbrev S1x512x512 : Shape := ⟨3, ![1, 512, 512]⟩
abbrev S512x512 : Shape := ⟨2, ![512, 512]⟩
abbrev S1x640x512 : Shape := ⟨3, ![1, 640, 512]⟩
abbrev S640x512 : Shape := ⟨2, ![640, 512]⟩
abbrev S640x256 : Shape := ⟨2, ![640, 256]⟩

abbrev nBuf : Space → Nat
  | .hbm => 151
  | .vmem => 10
  | .smem => 0
  | _ => 0

abbrev hbmTy0_0 (i : Nat) : BufTy := match i % 128 with
  | 0 => ⟨S8x2048x512, .bf16⟩
  | 1 => ⟨S8x2048x512, .bf16⟩
  | 2 => ⟨S8x2048x512, .bf16⟩
  | 3 => ⟨S8x257, .f32⟩
  | 4 => ⟨S512, .f32⟩
  | 5 => ⟨S8x1, .f32⟩
  | 6 => ⟨S8x448, .f32⟩
  | 7 => ⟨S8x191, .f32⟩
  | 8 => ⟨S8x191, .f32⟩
  | 9 => ⟨S8x639, .f32⟩
  | 10 => ⟨S8x576, .f32⟩
  | 11 => ⟨S8x576, .f32⟩
  | 12 => ⟨S8x576, .f32⟩
  | 13 => ⟨S8x576, .f32⟩
  | 14 => ⟨S8x576, .f32⟩
  | 15 => ⟨S8x576, .f32⟩
  | 16 => ⟨S8x576, .f32⟩
  | 17 => ⟨S8x576, .f32⟩
  | 18 => ⟨S8x576, .f32⟩
  | 19 => ⟨S8x576, .f32⟩
  | 20 => ⟨S8x576, .f32⟩
  | 21 => ⟨S8x576, .f32⟩
  | 22 => ⟨S8x576, .f32⟩
  | 23 => ⟨S8x576, .f32⟩
  | 24 => ⟨S8x576, .f32⟩
  | 25 => ⟨S8x576, .f32⟩
  | 26 => ⟨S8x576, .f32⟩
  | 27 => ⟨S8x576, .f32⟩
  | 28 => ⟨S8x576, .f32⟩
  | 29 => ⟨S8x576, .f32⟩
  | 30 => ⟨S8x576, .f32⟩
  | 31 => ⟨S8x576, .f32⟩
  | 32 => ⟨S8x576, .f32⟩
  | 33 => ⟨S8x576, .f32⟩
  | 34 => ⟨S8x576, .f32⟩
  | 35 => ⟨S8x576, .f32⟩
  | 36 => ⟨S8x576, .f32⟩
  | 37 => ⟨S8x576, .f32⟩
  | 38 => ⟨S8x576, .f32⟩
  | 39 => ⟨S8x576, .f32⟩
  | 40 => ⟨S8x576, .f32⟩
  | 41 => ⟨S8x576, .f32⟩
  | 42 => ⟨S8x576, .f32⟩
  | 43 => ⟨S8x576, .f32⟩
  | 44 => ⟨S8x576, .f32⟩
  | 45 => ⟨S8x576, .f32⟩
  | 46 => ⟨S8x576, .f32⟩
  | 47 => ⟨S8x576, .f32⟩
  | 48 => ⟨S8x576, .f32⟩
  | 49 => ⟨S8x576, .f32⟩
  | 50 => ⟨S8x576, .f32⟩
  | 51 => ⟨S8x576, .f32⟩
  | 52 => ⟨S8x576, .f32⟩
  | 53 => ⟨S8x576, .f32⟩
  | 54 => ⟨S8x576, .f32⟩
  | 55 => ⟨S8x576, .f32⟩
  | 56 => ⟨S8x576, .f32⟩
  | 57 => ⟨S8x576, .f32⟩
  | 58 => ⟨S8x576, .f32⟩
  | 59 => ⟨S8x576, .f32⟩
  | 60 => ⟨S8x576, .f32⟩
  | 61 => ⟨S8x576, .f32⟩
  | 62 => ⟨S8x576, .f32⟩
  | 63 => ⟨S8x576, .f32⟩
  | 64 => ⟨S8x576, .f32⟩
  | 65 => ⟨S8x576, .f32⟩
  | 66 => ⟨S8x576, .f32⟩
  | 67 => ⟨S8x576, .f32⟩
  | 68 => ⟨S8x576, .f32⟩
  | 69 => ⟨S8x576, .f32⟩
  | 70 => ⟨S8x576, .f32⟩
  | 71 => ⟨S8x576, .f32⟩
  | 72 => ⟨S8x576, .f32⟩
  | 73 => ⟨S8x576, .f32⟩
  | 74 => ⟨S8x1x576, .f32⟩
  | 75 => ⟨S8x1x576, .f32⟩
  | 76 => ⟨S8x1x576, .f32⟩
  | 77 => ⟨S8x1x576, .f32⟩
  | 78 => ⟨S8x1x576, .f32⟩
  | 79 => ⟨S8x1x576, .f32⟩
  | 80 => ⟨S8x1x576, .f32⟩
  | 81 => ⟨S8x1x576, .f32⟩
  | 82 => ⟨S8x1x576, .f32⟩
  | 83 => ⟨S8x1x576, .f32⟩
  | 84 => ⟨S8x1x576, .f32⟩
  | 85 => ⟨S8x1x576, .f32⟩
  | 86 => ⟨S8x1x576, .f32⟩
  | 87 => ⟨S8x1x576, .f32⟩
  | 88 => ⟨S8x1x576, .f32⟩
  | 89 => ⟨S8x1x576, .f32⟩
  | 90 => ⟨S8x1x576, .f32⟩
  | 91 => ⟨S8x1x576, .f32⟩
  | 92 => ⟨S8x1x576, .f32⟩
  | 93 => ⟨S8x1x576, .f32⟩
  | 94 => ⟨S8x1x576, .f32⟩
  | 95 => ⟨S8x1x576, .f32⟩
  | 96 => ⟨S8x1x576, .f32⟩
  | 97 => ⟨S8x1x576, .f32⟩
  | 98 => ⟨S8x1x576, .f32⟩
  | 99 => ⟨S8x1x576, .f32⟩
  | 100 => ⟨S8x1x576, .f32⟩
  | 101 => ⟨S8x1x576, .f32⟩
  | 102 => ⟨S8x1x576, .f32⟩
  | 103 => ⟨S8x1x576, .f32⟩
  | 104 => ⟨S8x1x576, .f32⟩
  | 105 => ⟨S8x1x576, .f32⟩
  | 106 => ⟨S8x1x576, .f32⟩
  | 107 => ⟨S8x1x576, .f32⟩
  | 108 => ⟨S8x1x576, .f32⟩
  | 109 => ⟨S8x1x576, .f32⟩
  | 110 => ⟨S8x1x576, .f32⟩
  | 111 => ⟨S8x1x576, .f32⟩
  | 112 => ⟨S8x1x576, .f32⟩
  | 113 => ⟨S8x1x576, .f32⟩
  | 114 => ⟨S8x1x576, .f32⟩
  | 115 => ⟨S8x1x576, .f32⟩
  | 116 => ⟨S8x1x576, .f32⟩
  | 117 => ⟨S8x1x576, .f32⟩
  | 118 => ⟨S8x1x576, .f32⟩
  | 119 => ⟨S8x1x576, .f32⟩
  | 120 => ⟨S8x1x576, .f32⟩
  | 121 => ⟨S8x1x576, .f32⟩
  | 122 => ⟨S8x1x576, .f32⟩
  | 123 => ⟨S8x1x576, .f32⟩
  | 124 => ⟨S8x1x576, .f32⟩
  | 125 => ⟨S8x1x576, .f32⟩
  | 126 => ⟨S8x1x576, .f32⟩
  | 127 => ⟨S8x1x576, .f32⟩
  | _ => ⟨S8x2048x512, .bf16⟩

abbrev hbmTy0_1 (i : Nat) : BufTy := match i % 128 with
  | 0 => ⟨S8x1x576, .f32⟩
  | 1 => ⟨S8x1x576, .f32⟩
  | 2 => ⟨S8x1x576, .f32⟩
  | 3 => ⟨S8x1x576, .f32⟩
  | 4 => ⟨S8x1x576, .f32⟩
  | 5 => ⟨S8x1x576, .f32⟩
  | 6 => ⟨S8x1x576, .f32⟩
  | 7 => ⟨S8x1x576, .f32⟩
  | 8 => ⟨S8x1x576, .f32⟩
  | 9 => ⟨S8x1x576, .f32⟩
  | 10 => ⟨S8x16x576, .f32⟩
  | 11 => ⟨S8x16x576, .f32⟩
  | 12 => ⟨S8x16x576, .f32⟩
  | 13 => ⟨S8x16x576, .f32⟩
  | 14 => ⟨S8x64x576, .f32⟩
  | 15 => ⟨S_, .f32⟩
  | 16 => ⟨S8x64x64, .f32⟩
  | 17 => ⟨S8x64x640, .f32⟩
  | 18 => ⟨S8x64x640, .f32⟩
  | 19 => ⟨S8x128x640, .f32⟩
  | 20 => ⟨S2x512x640, .f32⟩
  | 21 => ⟨S1x512, .f32⟩
  | 22 => ⟨S8x2048x512, .bf16⟩
  | _ => ⟨S8x2048x512, .bf16⟩

abbrev hbmTy (i : Nat) : BufTy := match i / 128 with
  | 0 => hbmTy0_0 i
  | 1 => hbmTy0_1 i
  | _ => ⟨S8x2048x512, .bf16⟩

abbrev bufTy : (tb : Table) → Fin (tcTables nBuf tb) → BufTy
  | .hbm, ⟨i, _⟩ => hbmTy i
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S2x512x640, .f32⟩
  | .local _ .vmem, ⟨7, _⟩ => ⟨S1x512, .f32⟩
  | .local _ .vmem, ⟨8, _⟩ => ⟨S1x2048x512, .bf16⟩
  | .local _ .vmem, ⟨9, _⟩ => ⟨S1x2048x512, .bf16⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_cst : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c4_i32 : BitVec 32 := 4#32
  let c12_i32 : BitVec 32 := 12#32
  let v493 : BitVec 32 := Scalar.addi c4_i32 c12_i32
  let c1_i32_184 : BitVec 32 := 1#32
  ⟨c4_i32, v493, c1_i32_184⟩
def k0_mult1 (k0_t1 : Fin k0_t1_loop.trips) : BitVec 32 :=
  let c4_i32 : BitVec 32 := 4#32
  let c1_i32_184 : BitVec 32 := 1#32
  let arg7 : BitVec 32 := Scf.iv c4_i32 c1_i32_184 k0_t1
  let c128_i32 : BitVec 32 := 128#32
  let v494 : BitVec 32 := Scalar.muli arg7 c128_i32
  v494
def k0_mult2 (k0_t1 : Fin k0_t1_loop.trips) : BitVec 32 :=
  let c4_i32 : BitVec 32 := 4#32
  let c1_i32_184 : BitVec 32 := 1#32
  let arg7 : BitVec 32 := Scf.iv c4_i32 c1_i32_184 k0_t1
  let c128_i32 : BitVec 32 := 128#32
  let v494 : BitVec 32 := Scalar.muli arg7 c128_i32
  let c512_i32 : BitVec 32 := 512#32
  let v495 : BitVec 32 := Scalar.subi v494 c512_i32
  let c0_i32_186 : BitVec 32 := 0#32
  let v496 : BitVec 32 := Scalar.addi v495 c0_i32_186
  v496
def k0_off1 (k0_t1 : Fin k0_t1_loop.trips) : Fin 3 → Nat :=
  let c0_187 : Index := 0#32
  let c4_i32 : BitVec 32 := 4#32
  let c1_i32_184 : BitVec 32 := 1#32
  let arg7 : BitVec 32 := Scf.iv c4_i32 c1_i32_184 k0_t1
  let c128_i32 : BitVec 32 := 128#32
  let v494 : BitVec 32 := Scalar.muli arg7 c128_i32
  let v497 : BitVec 32 := v494
  let v499 : Index := Scalar.indexCast v497
  let c0_188 : Index := 0#32
  ![0, v499.toNat, 0]
def k0_off2 (k0_t1 : Fin k0_t1_loop.trips) : Fin 3 → Nat :=
  let c0_189 : Index := 0#32
  let c4_i32 : BitVec 32 := 4#32
  let c1_i32_184 : BitVec 32 := 1#32
  let arg7 : BitVec 32 := Scf.iv c4_i32 c1_i32_184 k0_t1
  let c128_i32 : BitVec 32 := 128#32
  let v494 : BitVec 32 := Scalar.muli arg7 c128_i32
  let c512_i32 : BitVec 32 := 512#32
  let v495 : BitVec 32 := Scalar.subi v494 c512_i32
  let c0_i32_186 : BitVec 32 := 0#32
  let v496 : BitVec 32 := Scalar.addi v495 c0_i32_186
  let v498 : BitVec 32 := v496
  let v502 : Index := Scalar.indexCast v498
  let c0_190 : Index := 0#32
  ![0, v502.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x512x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AttnRefIdeal.lean ====
abbrev S8x2048x512 : Shape := ⟨3, ![8, 2048, 512]⟩
abbrev S8x257 : Shape := ⟨2, ![8, 257]⟩
abbrev S512 : Shape := ⟨1, ![512]⟩
abbrev S8x32x64x8x64 : Shape := ⟨5, ![8, 32, 64, 8, 64]⟩
abbrev S8x2048x8x64 : Shape := ⟨4, ![8, 2048, 8, 64]⟩
abbrev S_ : Shape := ⟨0, ![]⟩
abbrev S8x2560x8x64 : Shape := ⟨4, ![8, 2560, 8, 64]⟩
abbrev S8x40x64x8x64 : Shape := ⟨5, ![8, 40, 64, 8, 64]⟩
abbrev S8x32x576x8x64 : Shape := ⟨5, ![8, 32, 576, 8, 64]⟩
abbrev S64 : Shape := ⟨1, ![64]⟩
abbrev S576 : Shape := ⟨1, ![576]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S32 : Shape := ⟨1, ![32]⟩
abbrev S32x1 : Shape := ⟨2, ![32, 1]⟩
abbrev S32x576 : Shape := ⟨2, ![32, 576]⟩
abbrev S8x32x8x64x576 : Shape := ⟨5, ![8, 32, 8, 64, 576]⟩
abbrev S1x1x8x64x576 : Shape := ⟨5, ![1, 1, 8, 64, 576]⟩
abbrev S1x32x1x1x576 : Shape := ⟨5, ![1, 32, 1, 1, 576]⟩
abbrev S8x32x8x64 : Shape := ⟨4, ![8, 32, 8, 64]⟩
abbrev S8x32x8x64x1 : Shape := ⟨5, ![8, 32, 8, 64, 1]⟩
abbrev S8x32x8x64x64 : Shape := ⟨5, ![8, 32, 8, 64, 64]⟩
abbrev S8x2048 : Shape := ⟨2, ![8, 2048]⟩
abbrev S8x2048x1 : Shape := ⟨3, ![8, 2048, 1]⟩
abbrev S1x1x512 : Shape := ⟨3, ![1, 1, 512]⟩

abbrev nBuf : Space → Nat
  | .hbm => 131
  | .vmem => 0
  | .smem => 0
  | _ => 0

abbrev hbmTy0_0 (i : Nat) : BufTy := match i % 128 with
  | 0 => ⟨S8x2048x512, .bf16⟩
  | 1 => ⟨S8x2048x512, .bf16⟩
  | 2 => ⟨S8x2048x512, .bf16⟩
  | 3 => ⟨S8x257, .f32⟩
  | 4 => ⟨S512, .f32⟩
  | 5 => ⟨S8x2048x512, .f32⟩
  | 6 => ⟨S8x2048x512, .f32⟩
  | 7 => ⟨S8x2048x512, .f32⟩
  | 8 => ⟨S8x32x64x8x64, .f32⟩
  | 9 => ⟨S8x2048x8x64, .f32⟩
  | 10 => ⟨S_, .i32⟩
  | 11 => ⟨S_, .f32⟩
  | 12 => ⟨S8x2560x8x64, .f32⟩
  | 13 => ⟨S8x40x64x8x64, .f32⟩
  | 14 => ⟨S8x32x64x8x64, .f32⟩
  | 15 => ⟨S8x32x64x8x64, .f32⟩
  | 16 => ⟨S8x32x64x8x64, .f32⟩
  | 17 => ⟨S8x32x64x8x64, .f32⟩
  | 18 => ⟨S8x32x64x8x64, .f32⟩
  | 19 => ⟨S8x32x64x8x64, .f32⟩
  | 20 => ⟨S8x32x64x8x64, .f32⟩
  | 21 => ⟨S8x32x64x8x64, .f32⟩
  | 22 => ⟨S8x32x64x8x64, .f32⟩
  | 23 => ⟨S8x32x576x8x64, .f32⟩
  | 24 => ⟨S8x2048x8x64, .f32⟩
  | 25 => ⟨S_, .i32⟩
  | 26 => ⟨S_, .f32⟩
  | 27 => ⟨S8x2560x8x64, .f32⟩
  | 28 => ⟨S8x40x64x8x64, .f32⟩
  | 29 => ⟨S8x32x64x8x64, .f32⟩
  | 30 => ⟨S8x32x64x8x64, .f32⟩
  | 31 => ⟨S8x32x64x8x64, .f32⟩
  | 32 => ⟨S8x32x64x8x64, .f32⟩
  | 33 => ⟨S8x32x64x8x64, .f32⟩
  | 34 => ⟨S8x32x64x8x64, .f32⟩
  | 35 => ⟨S8x32x64x8x64, .f32⟩
  | 36 => ⟨S8x32x64x8x64, .f32⟩
  | 37 => ⟨S8x32x64x8x64, .f32⟩
  | 38 => ⟨S8x32x576x8x64, .f32⟩
  | 39 => ⟨S64, .i32⟩
  | 40 => ⟨S576, .i32⟩
  | 41 => ⟨S64x1, .i32⟩
  | 42 => ⟨S_, .i32⟩
  | 43 => ⟨S64x1, .i32⟩
  | 44 => ⟨S64x1, .i32⟩
  | 45 => ⟨S1x576, .i32⟩
  | 46 => ⟨S64x576, .i32⟩
  | 47 => ⟨S64x576, .i32⟩
  | 48 => ⟨S64x576, .i32⟩
  | 49 => ⟨S_, .i32⟩
  | 50 => ⟨S_, .i32⟩
  | 51 => ⟨S_, .i32⟩
  | 52 => ⟨S64x576, .i32⟩
  | 53 => ⟨S64x576, .i32⟩
  | 54 => ⟨S_, .i32⟩
  | 55 => ⟨S64x576, .i32⟩
  | 56 => ⟨S64x576, .i32⟩
  | 57 => ⟨S_, .i32⟩
  | 58 => ⟨S64x576, .i32⟩
  | 59 => ⟨S64x576, .i32⟩
  | 60 => ⟨S_, .i32⟩
  | 61 => ⟨S64x576, .i32⟩
  | 62 => ⟨S64x576, .i1⟩
  | 63 => ⟨S_, .i32⟩
  | 64 => ⟨S64x576, .i32⟩
  | 65 => ⟨S64x576, .i32⟩
  | 66 => ⟨S64x576, .i32⟩
  | 67 => ⟨S64x576x1, .i32⟩
  | 68 => ⟨S8x64x576, .f32⟩
  | 69 => ⟨S32, .i32⟩
  | 70 => ⟨S32x1, .i32⟩
  | 71 => ⟨S_, .i32⟩
  | 72 => ⟨S32x1, .i32⟩
  | 73 => ⟨S32x1, .i32⟩
  | 74 => ⟨S_, .i32⟩
  | 75 => ⟨S32x1, .i32⟩
  | 76 => ⟨S32x1, .i32⟩
  | 77 => ⟨S1x576, .i32⟩
  | 78 => ⟨S32x576, .i32⟩
  | 79 => ⟨S32x576, .i32⟩
  | 80 => ⟨S32x576, .i32⟩
  | 81 => ⟨S_, .i32⟩
  | 82 => ⟨S32x576, .i32⟩
  | 83 => ⟨S32x576, .i1⟩
  | 84 => ⟨S_, .f32⟩
  | 85 => ⟨S_, .f32⟩
  | 86 => ⟨S32x576, .f32⟩
  | 87 => ⟨S32x576, .f32⟩
  | 88 => ⟨S32x576, .f32⟩
  | 89 => ⟨S32x576, .f32⟩
  | 90 => ⟨S8x32x8x64x576, .f32⟩
  | 91 => ⟨S1x1x8x64x576, .f32⟩
  | 92 => ⟨S8x32x8x64x576, .f32⟩
  | 93 => ⟨S8x32x8x64x576, .f32⟩
  | 94 => ⟨S1x32x1x1x576, .f32⟩
  | 95 => ⟨S8x32x8x64x576, .f32⟩
  | 96 => ⟨S8x32x8x64x576, .f32⟩
  | 97 => ⟨S_, .f32⟩
  | 98 => ⟨S8x32x8x64, .f32⟩
  | 99 => ⟨S_, .f32⟩
  | 100 => ⟨S8x32x8x64, .f32⟩
  | 101 => ⟨S8x32x8x64, .f32⟩
  | 102 => ⟨S8x32x8x64x1, .f32⟩
  | 103 => ⟨S8x32x8x64x576, .f32⟩
  | 104 => ⟨S8x32x8x64x576, .f32⟩
  | 105 => ⟨S8x32x8x64x576, .f32⟩
  | 106 => ⟨S_, .f32⟩
  | 107 => ⟨S8x32x8x64, .f32⟩
  | 108 => ⟨S8x32x8x64x1, .f32⟩
  | 109 => ⟨S8x32x8x64x576, .f32⟩
  | 110 => ⟨S8x32x8x64x576, .f32⟩
  | 111 => ⟨S8x32x8x64x64, .f32⟩
  | 112 => ⟨S8x32x64x8x64, .f32⟩
  | 113 => ⟨S8x2048x512, .f32⟩
  | 114 => ⟨S8x2048x512, .f32⟩
  | 115 => ⟨S_, .f32⟩
  | 116 => ⟨S8x2048, .f32⟩
  | 117 => ⟨S8x2048x1, .f32⟩
  | 118 => ⟨S_, .f32⟩
  | 119 => ⟨S8x2048x1, .f32⟩
  | 120 => ⟨S8x2048x1, .f32⟩
  | 121 => ⟨S_, .f32⟩
  | 122 => ⟨S8x2048x1, .f32⟩
  | 123 => ⟨S8x2048x1, .f32⟩
  | 124 => ⟨S8x2048x1, .f32⟩
  | 125 => ⟨S8x2048x512, .f32⟩
  | 126 => ⟨S8x2048x512, .f32⟩
  | 127 => ⟨S1x1x512, .f32⟩
  | _ => ⟨S8x2048x512, .bf16⟩

abbrev hbmTy0_1 (i : Nat) : BufTy := match i % 128 with
  | 0 => ⟨S8x2048x512, .f32⟩
  | 1 => ⟨S8x2048x512, .f32⟩
  | 2 => ⟨S8x2048x512, .bf16⟩
  | _ => ⟨S8x2048x512, .bf16⟩

abbrev hbmTy (i : Nat) : BufTy := match i / 128 with
  | 0 => hbmTy0_0 i
  | 1 => hbmTy0_1 i
  | _ => ⟨S8x2048x512, .bf16⟩

abbrev bufTy : (tb : Table) → Fin (tcTables nBuf tb) → BufTy
  | .hbm, ⟨i, _⟩ => hbmTy i
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_0 : Ref sig .tc := ⟨.hbm, 25, rfl⟩
abbrev main_call1_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_1 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_2 : Ref sig .tc := ⟨.hbm, 49, rfl⟩
abbrev main_c_3 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_v39 : Ref sig .tc := ⟨.hbm, 56, rfl⟩
abbrev main_c_4 : Ref sig .tc := ⟨.hbm, 57, rfl⟩
abbrev main_v40 : Ref sig .tc := ⟨.hbm, 58, rfl⟩
abbrev main_v41 : Ref sig .tc := ⟨.hbm, 59, rfl⟩
abbrev main_c_5 : Ref sig .tc := ⟨.hbm, 60, rfl⟩
abbrev main_v42 : Ref sig .tc := ⟨.hbm, 61, rfl⟩
abbrev main_v43 : Ref sig .tc := ⟨.hbm, 62, rfl⟩
abbrev main_c_6 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_7 : Ref sig .tc := ⟨.hbm, 71, rfl⟩
abbrev main_v51 : Ref sig .tc := ⟨.hbm, 72, rfl⟩
abbrev main_v52 : Ref sig .tc := ⟨.hbm, 73, rfl⟩
abbrev main_c_8 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_9 : Ref sig .tc := ⟨.hbm, 81, rfl⟩
abbrev main_v59 : Ref sig .tc := ⟨.hbm, 82, rfl⟩
abbrev main_v60 : Ref sig .tc := ⟨.hbm, 83, rfl⟩
abbrev main_cst : Ref sig .tc := ⟨.hbm, 84, rfl⟩
abbrev main_cst_10 : Ref sig .tc := ⟨.hbm, 85, rfl⟩
abbrev main_call3_v0 : Ref sig .tc := ⟨.hbm, 86, rfl⟩
abbrev main_call3_v1 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_11 : Ref sig .tc := ⟨.hbm, 97, rfl⟩
abbrev main_v70 : Ref sig .tc := ⟨.hbm, 98, rfl⟩
abbrev main_cst_12 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_13 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_14 : Ref sig .tc := ⟨.hbm, 115, rfl⟩
abbrev main_v85 : Ref sig .tc := ⟨.hbm, 116, rfl⟩
abbrev main_v86 : Ref sig .tc := ⟨.hbm, 117, rfl⟩
abbrev main_cst_15 : Ref sig .tc := ⟨.hbm, 118, rfl⟩
abbrev main_v87 : Ref sig .tc := ⟨.hbm, 119, rfl⟩
abbrev main_v88 : Ref sig .tc := ⟨.hbm, 120, rfl⟩
abbrev main_cst_16 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩

abbrev nD : Nat := 1
abbrev τ : Topo := Topo.v7x

variable {F : FTy → Type} [FloatOps F]
-- ==== Inp.lean ====
abbrev S16384x1024 : Shape := ⟨2, ![16384, 1024]⟩
abbrev S1x1024 : Shape := ⟨2, ![1, 1024]⟩
abbrev S1024x2560 : Shape := ⟨2, ![1024, 2560]⟩
abbrev S8192x1024 : Shape := ⟨2, ![8192, 1024]⟩
abbrev S1024x1024 : Shape := ⟨2, ![1024, 1024]⟩
abbrev S16384x512 : Shape := ⟨2, ![16384, 512]⟩
abbrev S512x1024 : Shape := ⟨2, ![512, 1024]⟩
abbrev S256x1024 : Shape := ⟨2, ![256, 1024]⟩
abbrev S32x1024 : Shape := ⟨2, ![32, 1024]⟩
abbrev S512x512 : Shape := ⟨2, ![512, 512]⟩
abbrev S512 : Shape := ⟨1, ![512]⟩
abbrev S512x1 : Shape := ⟨2, ![512, 1]⟩
abbrev S512x2560 : Shape := ⟨2, ![512, 2560]⟩

abbrev nBuf : Space → Nat
  | .hbm => 12
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2560, .f32⟩
  | .hbm, ⟨3, _⟩ => ⟨S8192x1024, .f32⟩
  | .hbm, ⟨4, _⟩ => ⟨S1024x1024, .f32⟩
  | .hbm, ⟨5, _⟩ => ⟨S16384x512, .f32⟩
  | .hbm, ⟨6, _⟩ => ⟨S16384x512, .f32⟩
  | .hbm, ⟨7, _⟩ => ⟨S16384x512, .bf16⟩
  | .hbm, ⟨8, _⟩ => ⟨S16384x512, .bf16⟩
  | .hbm, ⟨9, _⟩ => ⟨S16384x512, .bf16⟩
  | .hbm, ⟨10, _⟩ => ⟨S8192x1024, .bf16⟩
  | .hbm, ⟨11, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2560, .f32⟩
  | .local _ .vmem, ⟨4, _⟩ => ⟨S256x1024, .f32⟩
  | .local _ .vmem, ⟨5, _⟩ => ⟨S256x1024, .f32⟩
  | .local _ .vmem, ⟨6, _⟩ => ⟨S32x1024, .f32⟩
  | .local _ .vmem, ⟨7, _⟩ => ⟨S32x1024, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S256x1024, .bf16⟩
  | .local _ .vmem, ⟨19, _⟩ => ⟨S256x1024, .bf16⟩
  | .local _ .vmem, ⟨20, _⟩ => ⟨S32x1024, .bf16⟩
  | .local _ .vmem, ⟨21, _⟩ => ⟨S32x1024, .bf16⟩
  | .local _ .vmem, ⟨22, _⟩ => ⟨S1024x2560, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InpRefIdeal.lean ====
abbrev S16384x1024 : Shape := ⟨2, ![16384, 1024]⟩
abbrev S1x1024 : Shape := ⟨2, ![1, 1024]⟩
abbrev S1024x2560 : Shape := ⟨2, ![1024, 2560]⟩
abbrev S8192x1024 : Shape := ⟨2, ![8192, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S16384x2560 : Shape := ⟨2, ![16384, 2560]⟩
abbrev S16384x512 : Shape := ⟨2, ![16384, 512]⟩

abbrev nBuf : Space → Nat
  | .hbm => 34
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2560, .f32⟩
  | .hbm, ⟨3, _⟩ => ⟨S8192x1024, .f32⟩
  | .hbm, ⟨4, _⟩ => ⟨S1024x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x2560, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S_, .f32⟩
  | .hbm, ⟨27, _⟩ => ⟨S16384x512, .f32⟩
  | .hbm, ⟨28, _⟩ => ⟨S16384x512, .f32⟩
  | .hbm, ⟨29, _⟩ => ⟨S16384x512, .bf16⟩
  | .hbm, ⟨30, _⟩ => ⟨S16384x512, .bf16⟩
  | .hbm, ⟨31, _⟩ => ⟨S16384x512, .bf16⟩
  | .hbm, ⟨32, _⟩ => ⟨S8192x1024, .bf16⟩
  | .hbm, ⟨33, _⟩ => ⟨S1024x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Out.lean ====
abbrev S16384x512 : Shape := ⟨2, ![16384, 512]⟩
abbrev S1024x1024 : Shape := ⟨2, ![1024, 1024]⟩
abbrev S16384x1024 : Shape := ⟨2, ![16384, 1024]⟩
abbrev S1x1024 : Shape := ⟨2, ![1, 1024]⟩
abbrev S1024x256 : Shape := ⟨2, ![1024, 256]⟩
abbrev S1x128 : Shape := ⟨2, ![1, 128]⟩
abbrev S16384x1152 : Shape := ⟨2, ![16384, 1152]⟩
abbrev S8x16384 : Shape := ⟨2, ![8, 16384]⟩
abbrev S1024x512 : Shape := ⟨2, ![1024, 512]⟩
abbrev S1024x1152 : Shape := ⟨2, ![1024, 1152]⟩
abbrev S8x1024 : Shape := ⟨2, ![8, 1024]⟩
abbrev S1024 : Shape := ⟨1, ![1024]⟩
abbrev S1024x1 : Shape := ⟨2, ![1024, 1]⟩
abbrev S1024x128 : Shape := ⟨2, ![1024, 128]⟩
abbrev S128x1024 : Shape := ⟨2, ![128, 1024]⟩
abbrev S120x1024 : Shape := ⟨2, ![120, 1024]⟩

abbrev nBuf : Space → Nat
  | .hbm => 10
  | .vmem => 16
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S1024x1024, .bf16⟩
  | .hbm, ⟨3, _⟩ => ⟨S16384x1024, .f32⟩
  | .hbm, ⟨4, _⟩ => ⟨S1x1024, .f32⟩
  | .hbm, ⟨5, _⟩ => ⟨S1024x256, .bf16⟩
  | .hbm, ⟨6, _⟩ => ⟨S1x128, .f32⟩
  | .hbm, ⟨7, _⟩ => ⟨S16384x1024, .f32⟩
  | .hbm, ⟨8, _⟩ => ⟨S16384x1152, .f32⟩
  | .hbm, ⟨9, _⟩ => ⟨S8x16384, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x256, .bf16⟩
  | .local _ .vmem, ⟨9, _⟩ => ⟨S1x128, .f32⟩
  | .local _ .vmem, ⟨10, _⟩ => ⟨S1024x1024, .f32⟩
  | .local _ .vmem, ⟨11, _⟩ => ⟨S1024x1024, .f32⟩
  | .local _ .vmem, ⟨12, _⟩ => ⟨S1024x1152, .f32⟩
  | .local _ .vmem, ⟨13, _⟩ => ⟨S1024x1152, .f32⟩
  | .local _ .vmem, ⟨14, _⟩ => ⟨S8x1024, .f32⟩
  | .local _ .vmem, ⟨15, _⟩ => ⟨S8x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutRefIdeal.lean ====
abbrev S16384x512 : Shape := ⟨2, ![16384, 512]⟩
abbrev S1024x1024 : Shape := ⟨2, ![1024, 1024]⟩
abbrev S16384x1024 : Shape := ⟨2, ![16384, 1024]⟩
abbrev S1x1024 : Shape := ⟨2, ![1, 1024]⟩
abbrev S1024x256 : Shape := ⟨2, ![1024, 256]⟩
abbrev S1x128 : Shape := ⟨2, ![1, 128]⟩

abbrev nBuf : Space → Nat
  | .hbm => 12
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S1024x1024, .bf16⟩
  | .hbm, ⟨3, _⟩ => ⟨S16384x1024, .f32⟩
  | .hbm, ⟨4, _⟩ => ⟨S1x1024, .f32⟩
  | .hbm, ⟨5, _⟩ => ⟨S1024x256, .bf16⟩
  | .hbm, ⟨6, _⟩ => ⟨S1x128, .f32⟩
  | .hbm, ⟨7, _⟩ => ⟨S16384x1024, .bf16⟩
  | .hbm, ⟨8, _⟩ => ⟨S16384x1024, .f32⟩
  | .hbm, ⟨9, _⟩ => ⟨S1024x1024, .f32⟩
  | .hbm, ⟨10, _⟩ => ⟨S16384x1024, .f32⟩
  | .hbm, ⟨11, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩

abbrev nD : Nat := 1
abbrev τ : Topo := Topo.v7x

variable {F : FTy → Type} [FloatOps F]
-- ==== Exp.lean ====
abbrev S68 : Shape := ⟨1, ![68]⟩
abbrev S1 : Shape := ⟨1, ![1]⟩
abbrev S17408x1152 : Shape := ⟨2, ![17408, 1152]⟩
abbrev S16x1024x512 : Shape := ⟨3, ![16, 1024, 512]⟩
abbrev S16x512x1024 : Shape := ⟨3, ![16, 512, 1024]⟩
abbrev S17408x1024 : Shape := ⟨2, ![17408, 1024]⟩
abbrev S256x1152 : Shape := ⟨2, ![256, 1152]⟩
abbrev S4x1024x512 : Shape := ⟨3, ![4, 1024, 512]⟩
abbrev S4x512x1024 : Shape := ⟨3, ![4, 512, 1024]⟩
abbrev S256x1024 : Shape := ⟨2, ![256, 1024]⟩
abbrev S256x128 : Shape := ⟨2, ![256, 128]⟩
abbrev S1x1024x512 : Shape := ⟨3, ![1, 1024, 512]⟩
abbrev S1024x512 : Shape := ⟨2, ![1024, 512]⟩
abbrev S256x512 : Shape := ⟨2, ![256, 512]⟩
abbrev S256x1 : Shape := ⟨2, ![256, 1]⟩
abbrev S256x2048 : Shape := ⟨2, ![256, 2048]⟩
abbrev S2048x1024 : Shape := ⟨2, ![2048, 1024]⟩

abbrev nBuf : Space → Nat
  | .hbm => 5
  | .vmem => 10
  | .smem => 2
  | _ => 0

abbrev bufTy : (tb : Table) → Fin (tcTables nBuf tb) → BufTy
  | .hbm, ⟨0, _⟩ => ⟨S17408x1152, .f32⟩
  | .hbm, ⟨1, _⟩ => ⟨S16x1024x512, .bf16⟩
  | .hbm, ⟨2, _⟩ => ⟨S16x1024x512, .bf16⟩
  | .hbm, ⟨3, _⟩ => ⟨S16x512x1024, .bf16⟩
  | .hbm, ⟨4, _⟩ => ⟨S17408x1024, .f32⟩
  | .local _ .vmem, ⟨0, _⟩ => ⟨S256x1152, .f32⟩
  | .local _ .vmem, ⟨1, _⟩ => ⟨S256x1152, .f32⟩
  | .local _ .vmem, ⟨2, _⟩ => ⟨S4x1024x512, .bf16⟩
  | .local _ .vmem, ⟨3, _⟩ => ⟨S4x1024x512, .bf16⟩
  | .local _ .vmem, ⟨4, _⟩ => ⟨S4x1024x512, .bf16⟩
  | .local _ .vmem, ⟨5, _⟩ => ⟨S4x1024x512, .bf16⟩
  | .local _ .vmem, ⟨6, _⟩ => ⟨S4x512x1024, .bf16⟩
  | .local _ .vmem, ⟨7, _⟩ => ⟨S4x512x1024, .bf16⟩
  | .local _ .vmem, ⟨8, _⟩ => ⟨S256x1024, .f32⟩
  | .local _ .vmem, ⟨9, _⟩ => ⟨S256x1024, .f32⟩
  | .local _ .smem, ⟨0, _⟩ => ⟨S68, .i32⟩
  | .local _ .smem, ⟨1, _⟩ => ⟨S1, .i32⟩
  | _, _ => ⟨S17408x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![68], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S68.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S68) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S68.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S68) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S68.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S68) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpRefIdeal.lean ====
abbrev S68 : Shape := ⟨1, ![68]⟩
abbrev S1 : Shape := ⟨1, ![1]⟩
abbrev S17408x1152 : Shape := ⟨2, ![17408, 1152]⟩
abbrev S16x1024x512 : Shape := ⟨3, ![16, 1024, 512]⟩
abbrev S16x512x1024 : Shape := ⟨3, ![16, 512, 1024]⟩
abbrev S17408x1024 : Shape := ⟨2, ![17408, 1024]⟩
abbrev S68x256x1024 : Shape := ⟨3, ![68, 256, 1024]⟩
abbrev S17408x4 : Shape := ⟨2, ![17408, 4]⟩
abbrev S68x256x4 : Shape := ⟨3, ![68, 256, 4]⟩
abbrev S4x4x1024x512 : Shape := ⟨4, ![4, 4, 1024, 512]⟩
abbrev S_ : Shape := ⟨0, ![]⟩
abbrev S68x1 : Shape := ⟨2, ![68, 1]⟩
abbrev S68x4x1024x512 : Shape := ⟨4, ![68, 4, 1024, 512]⟩
abbrev S4x4x512x1024 : Shape := ⟨4, ![4, 4, 512, 1024]⟩
abbrev S68x4x512x1024 : Shape := ⟨4, ![68, 4, 512, 1024]⟩
abbrev S68x4x512x256 : Shape := ⟨4, ![68, 4, 512, 256]⟩
abbrev S68x4x256x512 : Shape := ⟨4, ![68, 4, 256, 512]⟩
abbrev S68x4x1024x256 : Shape := ⟨4, ![68, 4, 1024, 256]⟩
abbrev S68x256x4x1024 : Shape := ⟨4, ![68, 256, 4, 1024]⟩
abbrev S68x256x4x1 : Shape := ⟨4, ![68, 256, 4, 1]⟩
abbrev S68x1x1 : Shape := ⟨3, ![68, 1, 1]⟩

abbrev nBuf : Space → Nat
  | .hbm => 75
  | .vmem => 0
  | .smem => 0
  | _ => 0

abbrev bufTy : (tb : Table) → Fin (tcTables nBuf tb) → BufTy
  | .hbm, ⟨0, _⟩ => ⟨S68, .i32⟩
  | .hbm, ⟨1, _⟩ => ⟨S1, .i32⟩
  | .hbm, ⟨2, _⟩ => ⟨S17408x1152, .f32⟩
  | .hbm, ⟨3, _⟩ => ⟨S16x1024x512, .bf16⟩
  | .hbm, ⟨4, _⟩ => ⟨S16x1024x512, .bf16⟩
  | .hbm, ⟨5, _⟩ => ⟨S16x512x1024, .bf16⟩
  | .hbm, ⟨6, _⟩ => ⟨S17408x1024, .f32⟩
  | .hbm, ⟨7, _⟩ => ⟨S68x256x1024, .f32⟩
  | .hbm, ⟨8, _⟩ => ⟨S17408x4, .f32⟩
  | .hbm, ⟨9, _⟩ => ⟨S68x256x4, .f32⟩
  | .hbm, ⟨10, _⟩ => ⟨S16x1024x512, .f32⟩
  | .hbm, ⟨11, _⟩ => ⟨S4x4x1024x512, .f32⟩
  | .hbm, ⟨12, _⟩ => ⟨S_, .i32⟩
  | .hbm, ⟨13, _⟩ => ⟨S68, .i32⟩
  | .hbm, ⟨14, _⟩ => ⟨S68, .i1⟩
  | .hbm, ⟨15, _⟩ => ⟨S_, .i32⟩
  | .hbm, ⟨16, _⟩ => ⟨S68, .i32⟩
  | .hbm, ⟨17, _⟩ => ⟨S68, .i32⟩
  | .hbm, ⟨18, _⟩ => ⟨S68, .i32⟩
  | .hbm, ⟨19, _⟩ => ⟨S68x1, .i32⟩
  | .hbm, ⟨20, _⟩ => ⟨S68x4x1024x512, .f32⟩
  | .hbm, ⟨21, _⟩ => ⟨S16x1024x512, .f32⟩
  | .hbm, ⟨22, _⟩ => ⟨S4x4x1024x512, .f32⟩
  | .hbm, ⟨23, _⟩ => ⟨S_, .i32⟩
  | .hbm, ⟨24, _⟩ => ⟨S68, .i32⟩
  | .hbm, ⟨25, _⟩ => ⟨S68, .i1⟩
  | .hbm, ⟨26, _⟩ => ⟨S_, .i32⟩
  | .hbm, ⟨27, _⟩ => ⟨S68, .i32⟩
  | .hbm, ⟨28, _⟩ => ⟨S68, .i32⟩
  | .hbm, ⟨29, _⟩ => ⟨S68, .i32⟩
  | .hbm, ⟨30, _⟩ => ⟨S68x1, .i32⟩
  | .hbm, ⟨31, _⟩ => ⟨S68x4x1024x512, .f32⟩
  | .hbm, ⟨32, _⟩ => ⟨S16x512x1024, .f32⟩
  | .hbm, ⟨33, _⟩ => ⟨S4x4x512x1024, .f32⟩
  | .hbm, ⟨34, _⟩ => ⟨S_, .i32⟩
  | .hbm, ⟨35, _⟩ => ⟨S68, .i32⟩
  | .hbm, ⟨36, _⟩ => ⟨S68, .i1⟩
  | .hbm, ⟨37, _⟩ => ⟨S_, .i32⟩
  | .hbm, ⟨38, _⟩ => ⟨S68, .i32⟩
  | .hbm, ⟨39, _⟩ => ⟨S68, .i32⟩
  | .hbm, ⟨40, _⟩ => ⟨S68, .i32⟩
  | .hbm, ⟨41, _⟩ => ⟨S68x1, .i32⟩
  | .hbm, ⟨42, _⟩ => ⟨S68x4x512x1024, .f32⟩
  | .hbm, ⟨43, _⟩ => ⟨S68x4x512x256, .f32⟩
  | .hbm, ⟨44, _⟩ => ⟨S68x4x256x512, .f32⟩
  | .hbm, ⟨45, _⟩ => ⟨S68x4x256x512, .f32⟩
  | .hbm, ⟨46, _⟩ => ⟨S68x4x256x512, .f32⟩
  | .hbm, ⟨47, _⟩ => ⟨S_, .f32⟩
  | .hbm, ⟨48, _⟩ => ⟨S68x4x256x512, .f32⟩
  | .hbm, ⟨49, _⟩ => ⟨S68x4x256x512, .f32⟩
  | .hbm, ⟨50, _⟩ => ⟨S_, .f32⟩
  | .hbm, ⟨51, _⟩ => ⟨S68x4x256x512, .f32⟩
  | .hbm, ⟨52, _⟩ => ⟨S68x4x256x512, .f32⟩
  | .hbm, ⟨53, _⟩ => ⟨S68x4x256x512, .f32⟩
  | .hbm, ⟨54, _⟩ => ⟨S68x4x512x256, .f32⟩
  | .hbm, ⟨55, _⟩ => ⟨S68x4x256x512, .f32⟩
  | .hbm, ⟨56, _⟩ => ⟨S68x4x256x512, .f32⟩
  | .hbm, ⟨57, _⟩ => ⟨S68x4x1024x256, .f32⟩
  | .hbm, ⟨58, _⟩ => ⟨S68x256x4x1024, .f32⟩
  | .hbm, ⟨59, _⟩ => ⟨S68x256x4x1, .f32⟩
  | .hbm, ⟨60, _⟩ => ⟨S68x256x4x1024, .f32⟩
  | .hbm, ⟨61, _⟩ => ⟨S68x256x4x1024, .f32⟩
  | .hbm, ⟨62, _⟩ => ⟨S_, .f32⟩
  | .hbm, ⟨63, _⟩ => ⟨S68x256x1024, .f32⟩
  | .hbm, ⟨64, _⟩ => ⟨S68, .i32⟩
  | .hbm, ⟨65, _⟩ => ⟨S_, .i32⟩
  | .hbm, ⟨66, _⟩ => ⟨S68, .i32⟩
  | .hbm, ⟨67, _⟩ => ⟨S68, .i1⟩
  | .hbm, ⟨68, _⟩ => ⟨S68x1x1, .i1⟩
  | .hbm, ⟨69, _⟩ => ⟨S_, .f32⟩
  | .hbm, ⟨70, _⟩ => ⟨S_, .f32⟩
  | .hbm, ⟨71, _⟩ => ⟨S68x256x1024, .i1⟩
  | .hbm, ⟨72, _⟩ => ⟨S68x256x1024, .f32⟩
  | .hbm, ⟨73, _⟩ => ⟨S68x256x1024, .f32⟩
  | .hbm, ⟨74, _⟩ => ⟨S17408x1024, .f32⟩
  | _, _ => ⟨S68, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_5 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v48 : Ref sig .tc := ⟨.hbm, 73, rfl⟩
abbrev main_v49 : Ref sig .tc := ⟨.hbm, 74, rfl⟩

abbrev nD : Nat := 1
abbrev τ : Topo := Topo.v7x

variable {F : FTy → Type} [FloatOps F]
-- ==== Proof.Soft.lean ====
/- Softmax-weighted means over a row of positions: the canonical form both programs are brought to, the move of a
   window's sum and maximum to the whole row, and the quotient taken inside or outside the weighted sum. -/
module

public import Idealize.ShloMosaic.Lib.Pointwise

@[expose] public section

noncomputable section

namespace Cert.Soft

open Idealize.ShloMosaic Finset

/-- The largest score of the positions `0 … N - 1`. -/
def top (N : ℕ) (S : ℕ → EReal) : EReal := (range N).sup S

/-- The weight of position `P`: the exponential of its score less the largest. -/
def wt (N : ℕ) (S : ℕ → EReal) (P : ℕ) : EReal := Ideal.exp (S P - top N S)

/-- The softmax-weighted mean of `V` with scores `S` over the positions `0 … N - 1`, divided once at the end. -/
def mean (N : ℕ) (S V : ℕ → EReal) : EReal :=
  Ideal.div (∑ P ∈ range N, wt N S P * V P) (∑ P ∈ range N, wt N S P)

/-- A position whose score is −∞ has weight zero. -/
theorem wt_bot {N : ℕ} {S : ℕ → EReal} {P : ℕ} (h : S P = ⊥) : wt N S P = 0 := by
  simp [wt, h, EReal.bot_sub]

/-- A sum over a window of the row, the summand zero off the window, is the sum over the row. -/
theorem sum_window {N a K : ℕ} (hK : a + K ≤ N) {f : Fin K → EReal} {g : ℕ → EReal}
    (hf : ∀ c : Fin K, f c = g (a + c.val)) (h0 : ∀ P, P < N → ¬(a ≤ P ∧ P < a + K) → g P = 0) :
    ∑ c, f c = ∑ P ∈ range N, g P := by
  have e : ∑ c, f c = ∑ P ∈ (range K).image (a + ·), g P := by
    rw [sum_image (fun x _ y _ h => by simpa using h), ← Fin.sum_univ_eq_sum_range (fun P => g (a + P))]
    exact sum_congr rfl fun c _ => hf c
  rw [e]
  refine sum_subset (fun P hP => ?_) fun P hP hn => h0 P (mem_range.mp hP) fun h => hn ?_
  · obtain ⟨x, hx, rfl⟩ := mem_image.mp hP
    have := mem_range.mp hx
    exact mem_range.mpr (by omega)
  · exact mem_image.mpr ⟨P - a, mem_range.mpr (by omega), by show a + (P - a) = P; omega⟩

/-- The largest score of a window of the row, the others −∞, is the largest of the row. -/
theorem sup_window {N a K : ℕ} (hK : a + K ≤ N) {f : Fin K → EReal} {S : ℕ → EReal}
    (hf : ∀ c : Fin K, f c = S (a + c.val)) (h0 : ∀ P, P < N → ¬(a ≤ P ∧ P < a + K) → S P = ⊥) :
    univ.fold max ⊥ f = top N S := by
  show univ.sup f = (range N).sup S
  refine le_antisymm (Finset.sup_le fun c _ => ?_) (Finset.sup_le fun P hP => ?_)
  · rw [hf]
    exact le_sup (f := S) (mem_range.mpr (by have := c.isLt; omega))
  · by_cases h : a ≤ P ∧ P < a + K
    · have hc : f ⟨P - a, by omega⟩ = S P := by rw [hf]; congr 1; show a + (P - a) = P; omega
      rw [← hc]
      exact le_sup (mem_univ _)
    · rw [h0 P (mem_range.mp hP) h]; exact bot_le

/-- A window's weighted sum and its weights' sum are the row's: the window's values need agree with the row's only where
    the score is not −∞. -/
theorem window {N a K : ℕ} (hK : a + K ≤ N) {s v : Fin K → EReal} {S V : ℕ → EReal}
    (hs : ∀ c : Fin K, s c = S (a + c.val)) (hv : ∀ c : Fin K, s c ≠ ⊥ → v c = V (a + c.val))
    (h0 : ∀ P, P < N → ¬(a ≤ P ∧ P < a + K) → S P = ⊥) :
    univ.fold max ⊥ s = top N S ∧
    (∑ c, Ideal.exp (s c - univ.fold max ⊥ s)) = ∑ P ∈ range N, wt N S P ∧
    (∑ c, Ideal.exp (s c - univ.fold max ⊥ s) * v c) = ∑ P ∈ range N, wt N S P * V P := by
  have hm := sup_window hK hs h0
  have hw : ∀ c : Fin K, Ideal.exp (s c - univ.fold max ⊥ s) = wt N S (a + c.val) := fun c => by rw [hm, hs, wt]
  refine ⟨hm, sum_window hK hw fun P hP h => wt_bot (h0 P hP h), sum_window (g := fun P => wt N S P * V P) hK (fun c => ?_) fun P hP h => ?_⟩
  · rw [hw]
    by_cases hb : s c = ⊥
    · rw [wt_bot ((hs c).symm.trans hb), zero_mul, zero_mul]
    · rw [hv c hb]
  · show wt N S P * V P = 0
    rw [wt_bot (h0 P hP h), zero_mul]

/-- A factor that is a real and not negative comes out of a sum. -/
theorem sum_mul_real {ι : Type*} (s : Finset ι) (f : ι → EReal) {r : ℝ} (hr : 0 ≤ r) :
    (∑ i ∈ s, f i) * (r : EReal) = ∑ i ∈ s, f i * (r : EReal) := by
  classical
  induction s using Finset.induction with
  | empty => simp
  | insert i s hi ih => rw [sum_insert hi, sum_insert hi, ← ih, EReal.right_distrib_of_nonneg_of_ne_top (by exact_mod_cast hr) (EReal.coe_ne_top r)]

/-- Where every score is real or −∞ and one is real, the weights' sum is a positive real. -/
theorem den_real {N : ℕ} {S : ℕ → EReal} (hS : ∀ P, P < N → S P ≠ ⊤) {P₀ : ℕ} (h₀ : P₀ < N) (hr : S P₀ ≠ ⊥) :
    ∃ d : ℝ, 0 < d ∧ ∑ P ∈ range N, wt N S P = (d : EReal) := by
  have hle : ∀ P, P < N → S P ≤ top N S := fun P hP => le_sup (f := S) (mem_range.mpr hP)
  have hb : top N S ≠ ⊥ := fun h => hr (le_bot_iff.mp (h ▸ hle P₀ h₀))
  have ht : top N S ≠ ⊤ := by
    intro h
    have hlt : (range N).sup S < ⊤ := (Finset.sup_lt_iff bot_lt_top).mpr fun P hP => lt_top_iff_ne_top.mpr (hS P (mem_range.mp hP))
    exact hlt.ne h
  obtain ⟨M, hM⟩ : ∃ M : ℝ, top N S = (M : EReal) := ⟨_, (EReal.coe_toReal ht hb).symm⟩
  have hw : ∀ P, P < N → ∃ w : ℝ, 0 ≤ w ∧ (S P ≠ ⊥ → 0 < w) ∧ wt N S P = (w : EReal) := by
    intro P hP
    by_cases hbot : S P = ⊥
    · exact ⟨0, le_rfl, fun h => (h hbot).elim, by rw [wt_bot hbot]; rfl⟩
    · obtain ⟨x, hx⟩ : ∃ x : ℝ, S P = (x : EReal) := ⟨_, (EReal.coe_toReal (hS P hP) hbot).symm⟩
      refine ⟨Real.exp (x - M), (Real.exp_pos _).le, fun _ => Real.exp_pos _, ?_⟩
      rw [wt, hM, hx, ← EReal.coe_sub, Ideal.exp_coe]
  choose! w hw0 hwp hwe using hw
  refine ⟨∑ P ∈ range N, w P, ?_, ?_⟩
  · exact sum_pos' (fun P hP => hw0 P (mem_range.mp hP)) ⟨P₀, mem_range.mpr h₀, hwp P₀ h₀ hr⟩
  · rw [sum_congr rfl fun P hP => hwe P (mem_range.mp hP)]
    exact (map_sum (⟨⟨Real.toEReal, EReal.coe_zero⟩, EReal.coe_add⟩ : ℝ →+ EReal) w (range N)).symm

/-- Dividing every weight by the weights' sum before the weighted sum, or the weighted sum once at the end, is the
    same where the weights' sum is a positive real. -/
theorem div_inside {ι : Type*} (s : Finset ι) (e v : ι → EReal) {d : ℝ} (hd : 0 < d) :
    ∑ i ∈ s, Ideal.div (e i) (d : EReal) * v i = Ideal.div (∑ i ∈ s, e i * v i) (d : EReal) := by
  rw [Ideal.div_coe hd.ne', sum_mul_real s _ (by positivity)]
  refine sum_congr rfl fun i _ => ?_
  rw [Ideal.div_coe hd.ne', mul_assoc, mul_comm _ (v i), ← mul_assoc]

end Cert.Soft

end
-- ==== Proof.Tile.lean ====
/- One query tile of the kernel, for any number of keys: its stages, the payloads of the five widths as instances of
   them, and the tile read at an index. -/
module

public import proofs.«01_k».proof.Proof.Gen.AttnIdeal.Skeleton
public import proofs.«01_k».proof.Proof.Soft
public import Idealize.ShloMosaic.Lib.Pointwise.IndexVar

@[expose] public section

set_option maxRecDepth 16384

noncomputable section

namespace Cert.Tile

open Cert.AttnIdeal Cert.AttnIdeal.Gen Idealize.ShloMosaic

/-- The lane's head within its group, as the kernel computes it. -/
abbrev lh : IVec S128x256 32 := k0_pay9

/-- The lane's head within its group is the lane over 64. -/
theorem lh_at (i : Fin 128) (x : Fin 256) : lh (ix2 i x) = BitVec.ofNat 32 (x.val / 64) := by
  have h : ∀ x : Fin 256, lh (ix2 0 x) = BitVec.ofNat 32 (x.val / 64) := by decide +kernel
  exact h x

/-- The lanes of head `j` of a group. -/
def lanes (j : BitVec 32) : IVec S128x256 1 := cmpi .eq lh (broadcast S128x256 j)

/-- The queries of one group, stacked: one copy of the rows per head, the other heads' lanes zero. -/
def stack (q : FVec Ideal S128x256 .bf16) : FVec Ideal S512x256 .bf16 :=
  concatenate S512x256 0
    [⟨S128x256, select (lanes 0#32) q (broadcast S128x256 (Scalar.ofBits .bf16 0x0000#16))⟩,
     ⟨S128x256, select (lanes 1#32) q (broadcast S128x256 (Scalar.ofBits .bf16 0x0000#16))⟩,
     ⟨S128x256, select (lanes 2#32) q (broadcast S128x256 (Scalar.ofBits .bf16 0x0000#16))⟩,
     ⟨S128x256, select (lanes 3#32) q (broadcast S128x256 (Scalar.ofBits .bf16 0x0000#16))⟩]
    concatenates_S128x256_S128x256_S128x256_S128x256_S512x256_d0

/-- Each head's lanes from its own copy of the rows. -/
def pick (o : FVec Ideal S512x256 .f32) : FVec Ideal S128x256 .f32 :=
  select (lanes 3#32) (extractStridedSlice S128x256 ![384, 0] o slices_S512x256_o384_0_S128x256)
    (select (lanes 2#32) (extractStridedSlice S128x256 ![256, 0] o slices_S512x256_o256_0_S128x256)
      (select (lanes 1#32) (extractStridedSlice S128x256 ![128, 0] o slices_S512x256_o128_0_S128x256)
        (extractStridedSlice S128x256 ![0, 0] o slices_S512x256_o0_0_S128x256)))

/-- The contractions, reductions and slices of a tile of `K` keys, with the two contractions read at an index. -/
structure Width (K : ℕ) where
  scoreDims : DotDims S512x256 ⟨2, ![K, 256]⟩ ⟨2, ![512, K]⟩
  mixDims : DotDims ⟨2, ![512, K]⟩ ⟨2, ![K, 256]⟩ S512x256
  reduces : (⟨2, ![512, K]⟩ : Shape).Reduces [1] S512
  spread : S512x1.Broadcasts ⟨2, ![512, K]⟩
  left : (⟨2, ![K, 512]⟩ : Shape).Slices ![0, 0] ⟨2, ![K, 256]⟩
  right : (⟨2, ![K, 512]⟩ : Shape).Slices ![0, 256] ⟨2, ![K, 256]⟩
  score_at : ∀ (q : FVec Ideal S512x256 .bf16) (k : FVec Ideal ⟨2, ![K, 256]⟩ .bf16) (r : Fin 512) (w : Fin K),
    matmul (F := Ideal) scoreDims none q k (constant ⟨2, ![512, K]⟩ .f32 0x00000000#32) (ix2 r w) =
      ∑ x : Fin 256, q (ix2 r x) * k (ix2 w x)
  mix_at : ∀ (e : FVec Ideal ⟨2, ![512, K]⟩ .bf16) (v : FVec Ideal ⟨2, ![K, 256]⟩ .bf16) (r : Fin 512) (x : Fin 256),
    matmul (F := Ideal) mixDims none e v (constant S512x256 .f32 0x00000000#32) (ix2 r x) =
      ∑ w : Fin K, e (ix2 r w) * v (ix2 w x)

section
variable {K : ℕ} (W : Width K)

/-- The scores of one group: the stacked queries against the keys, and the bias. -/
def scores (q : FVec Ideal S128x256 .bf16) (k : FVec Ideal ⟨2, ![K, 256]⟩ .bf16) (b : FVec Ideal ⟨2, ![512, K]⟩ .f32) :
    FVec Ideal ⟨2, ![512, K]⟩ .f32 :=
  addf (matmul W.scoreDims none (stack q) k (constant ⟨2, ![512, K]⟩ .f32 0x00000000#32)) b

/-- The exponentials of the scores less their row's largest. -/
def weights (s : FVec Ideal ⟨2, ![512, K]⟩ .f32) : FVec Ideal ⟨2, ![512, K]⟩ .f32 :=
  exp (subf s (broadcastTo ⟨2, ![512, K]⟩
    (shapeCast S512x1 (multiReduction .maximumf [1] S512 s 0xFF800000#32 W.reduces (.inl rfl) rfl) shapeCasts_S512_S512x1)
    W.spread))

/-- The weighted sum of the values over the weights' sum. -/
def mix (e : FVec Ideal ⟨2, ![512, K]⟩ .f32) (v : FVec Ideal ⟨2, ![K, 256]⟩ .bf16) : FVec Ideal S512x256 .f32 :=
  divf (matmul W.mixDims none (truncf .bf16 e bitsLt_bf16_f32) v (constant S512x256 .f32 0x00000000#32))
    (broadcastTo S512x256
      (shapeCast S512x1 (multiReduction .add [1] S512 e 0x00000000#32 W.reduces (.inl rfl) rfl) shapeCasts_S512_S512x1)
      broadcasts_S512x1_S512x256)

/-- Both groups' outputs side by side. -/
def heads (q : FVec Ideal S128x512 .bf16) (k v : FVec Ideal ⟨2, ![K, 512]⟩ .bf16) (b₀ b₁ : FVec Ideal ⟨2, ![512, K]⟩ .f32) :
    FVec Ideal S128x512 .f32 :=
  concatenate S128x512 1
    [⟨S128x256, pick (mix W (weights W (scores W (extractStridedSlice S128x256 ![0, 0] q slices_S128x512_o0_0_S128x256)
        (extractStridedSlice ⟨2, ![K, 256]⟩ ![0, 0] k W.left) b₀)) (extractStridedSlice ⟨2, ![K, 256]⟩ ![0, 0] v W.left))⟩,
     ⟨S128x256, pick (mix W (weights W (scores W (extractStridedSlice S128x256 ![0, 256] q slices_S128x512_o0_256_S128x256)
        (extractStridedSlice ⟨2, ![K, 256]⟩ ![0, 256] k W.right) b₁)) (extractStridedSlice ⟨2, ![K, 256]⟩ ![0, 256] v W.right))⟩]
    concatenates_S128x256_S128x256_S128x512_d1

end

/-- A row over its root mean square, times the gain. -/
def normed (y : FVec Ideal S128x512 .f32) (g : Vec Ideal S1x512 .f32) : FVec Ideal S1x128x512 .bf16 :=
  shapeCast S1x128x512
    (truncf .bf16
      (mulf
        (mulf y (broadcastTo S128x512
          (rsqrt (addf
            (divf (shapeCast S128x1 (multiReduction .add [1] S128 (mulf y y) 0x00000000#32 reduces_S128x512_S128 (.inl rfl) rfl)
                shapeCasts_S128_S128x1)
              (broadcast S128x1 (Scalar.ofBits .f32 0x44000000#32)))
            (broadcast S128x1 (Scalar.ofBits .f32 0x358637BD#32))))
          broadcasts_S128x1_S128x512))
        (broadcastTo S128x512 (shapeCast S1x512 g shapeCasts_S1x512_S1x512) broadcasts_S1x512_S128x512))
      bitsLt_bf16_f32)
    shapeCasts_S128x512_S1x128x512

/-! ## The five widths -/

def w128 : Width 128 where
  scoreDims := dot_S512x256_S128x256_S512x128_1_1_0_0_n_n
  mixDims := dot_S512x128_S128x256_S512x256_1_0_0_1_n_n
  reduces := reduces_S512x128_S512
  spread := broadcasts_S512x1_S512x128
  left := slices_S128x512_o0_0_S128x256
  right := slices_S128x512_o0_256_S128x256
  score_at q k r w := by pointwise
  mix_at e v r x := by pointwise

def w256 : Width 256 where
  scoreDims := dot_S512x256_S256x256_S512x256_1_1_0_0_n_n
  mixDims := dot_S512x256_S256x256_S512x256_1_0_0_1_n_n
  reduces := reduces_S512x256_S512
  spread := broadcasts_S512x1_S512x256
  left := slices_S256x512_o0_0_S256x256
  right := slices_S256x512_o0_256_S256x256
  score_at q k r w := by pointwise
  mix_at e v r x := by pointwise

def w384 : Width 384 where
  scoreDims := dot_S512x256_S384x256_S512x384_1_1_0_0_n_n
  mixDims := dot_S512x384_S384x256_S512x256_1_0_0_1_n_n
  reduces := reduces_S512x384_S512
  spread := broadcasts_S512x1_S512x384
  left := slices_S384x512_o0_0_S384x256
  right := slices_S384x512_o0_256_S384x256
  score_at q k r w := by pointwise
  mix_at e v r x := by pointwise

def w512 : Width 512 where
  scoreDims := dot_S512x256_S512x256_S512x512_1_1_0_0_n_n
  mixDims := dot_S512x512_S512x256_S512x256_1_0_0_1_n_n
  reduces := reduces_S512x512_S512
  spread := broadcasts_S512x1_S512x512
  left := slices_S512x512_o0_0_S512x256
  right := slices_S512x512_o0_256_S512x256
  score_at q k r w := by pointwise
  mix_at e v r x := by pointwise

def w640 : Width 640 where
  scoreDims := dot_S512x256_S640x256_S512x640_1_1_0_0_n_n
  mixDims := dot_S512x640_S640x256_S512x256_1_0_0_1_n_n
  reduces := reduces_S512x640_S512
  spread := broadcasts_S512x1_S512x640
  left := slices_S640x512_o0_0_S640x256
  right := slices_S640x512_o0_256_S640x256
  score_at q k r w := by pointwise
  mix_at e v r x := by pointwise

end Cert.Tile

end
-- ==== Proof.TileAt.lean ====
/- A query tile read at an index: per row and head the softmax quotient over the window's keys, then the row's norm. -/
module

public import proofs.«01_k».proof.Proof.Tile

@[expose] public section

set_option maxRecDepth 16384

noncomputable section

namespace Cert.Tile

open Cert.AttnIdeal Cert.AttnIdeal.Gen Idealize.ShloMosaic

/-- The mask of head `j`'s lanes at a lane. -/
theorem lanes_at (j : ℕ) (hj : j < 4) (i : Fin 128) (x : Fin 256) :
    lanes (BitVec.ofNat 32 j) (ix2 i x) = if x.val / 64 = j then 1#1 else 0#1 := by
  show Scalar.cmpi .eq (lh (ix2 i x)) (BitVec.ofNat 32 j) = _
  rw [lh_at]
  have h : ∀ a < 4, ∀ j < 4, Scalar.cmpi .eq (BitVec.ofNat 32 a) (BitVec.ofNat 32 j) = if a = j then 1#1 else 0#1 := by decide
  exact h _ (by omega) _ hj

/-- A select by a mask that a proposition decides. -/
theorem select_if {α : Type} (p : Prop) [Decidable p] (a b : α) :
    Scalar.select (if p then 1#1 else 0#1) a b = if p then a else b := by
  split <;> rfl

/-- The stacked queries: copy `j` keeps head `j`'s lanes. -/
theorem stack_at (q : FVec Ideal S128x256 .bf16) (j : Fin 4) (i : Fin 128) (x : Fin 256) :
    stack q (ix2 ⟨128 * j.val + i.val, by omega⟩ x) = if x.val / 64 = j.val then q (ix2 i x) else 0 := by
  have h0 := lanes_at 0 (by omega) i x
  have h1 := lanes_at 1 (by omega) i x
  have h2 := lanes_at 2 (by omega) i x
  have h3 := lanes_at 3 (by omega) i x
  have e2 : 256 + i.val - 128 - 128 = i.val := by omega
  have e3 : 384 + i.val - 128 - 128 - 128 = i.val := by omega
  fin_cases j <;> pointwise [stack]
  · rw [h0, select_if]
  · rw [h1, select_if]
  · rw [dif_neg (by omega), dif_neg (by omega), dif_pos (by omega)]
    simp only [e2, Fin.eta, h2, select_if]
  · rw [dif_neg (by omega), dif_neg (by omega), dif_neg (by omega)]
    simp only [e3, Fin.eta, h3, select_if]

/-- The picked outputs: lane `x` from the copy of its head. -/
theorem pick_at (o : FVec Ideal S512x256 .f32) (i : Fin 128) (x : Fin 256) :
    pick o (ix2 i x) = o (ix2 ⟨128 * (x.val / 64) + i.val, by omega⟩ x) := by
  have h1 := lanes_at 1 (by omega) i x
  have h2 := lanes_at 2 (by omega) i x
  have h3 := lanes_at 3 (by omega) i x
  pointwise [pick]
  rw [h1, h2, h3, select_if, select_if, select_if]
  have hx : x.val / 64 = 0 ∨ x.val / 64 = 1 ∨ x.val / 64 = 2 ∨ x.val / 64 = 3 := by omega
  rcases hx with h | h | h | h <;> simp [h]

/-- A sum over a group's lanes whose summand is zero off one head's lanes is the sum over the head's lanes. -/
theorem sum_lanes (j : Fin 4) (f : Fin 256 → EReal) :
    (∑ x : Fin 256, (if x.val / 64 = j.val then f x else 0)) = ∑ d : Fin 64, f ⟨64 * j.val + d.val, by omega⟩ := by
  symm
  refine Fintype.sum_of_injective (fun d : Fin 64 => (⟨64 * j.val + d.val, by omega⟩ : Fin 256)) (fun a b h => ?_) _ _
    (fun x hx => if_neg fun h => hx ⟨⟨x.val - 64 * j.val, by omega⟩, Fin.ext ?_⟩) fun d => ?_
  · have := congrArg Fin.val h
    exact Fin.ext (by simpa using this)
  · show 64 * j.val + (x.val - 64 * j.val) = x.val
    omega
  · rw [if_pos (by show (64 * j.val + d.val) / 64 = j.val; omega)]

section
variable {K : ℕ} (W : Width K)

/-- A score: the query's lanes of the head against the key's, and the bias. -/
theorem scores_at (q : FVec Ideal S128x256 .bf16) (k : FVec Ideal ⟨2, ![K, 256]⟩ .bf16) (b : FVec Ideal ⟨2, ![512, K]⟩ .f32)
    (j : Fin 4) (i : Fin 128) (w : Fin K) :
    scores W q k b (ix2 ⟨128 * j.val + i.val, by omega⟩ w) =
      (∑ d : Fin 64, q (ix2 i ⟨64 * j.val + d.val, by omega⟩) * k (ix2 w ⟨64 * j.val + d.val, by omega⟩)) +
        b (ix2 ⟨128 * j.val + i.val, by omega⟩ w) := by
  show matmul (F := Ideal) W.scoreDims none (stack q) k (constant ⟨2, ![512, K]⟩ .f32 0x00000000#32) _ + b _ = _
  rw [W.score_at, ← sum_lanes j fun x => q (ix2 i x) * k (ix2 w x)]
  congr 1
  refine Finset.sum_congr rfl fun x _ => ?_
  rw [stack_at]
  split <;> simp

/-- A weight: the exponential of the score less the row's largest. -/
theorem weights_at (s : FVec Ideal ⟨2, ![512, K]⟩ .f32) (r : Fin 512) (w : Fin K) :
    weights W s (ix2 r w) = Ideal.exp (s (ix2 r w) - Finset.univ.fold max ⊥ fun w' : Fin K => s (ix2 r w')) := by
  have hb : Ideal.ofBits .f32 0xFF800000#32 = ⊥ := by simp [Ideal.ofBits, Ideal.ieee]
  pointwise [weights]
  rw [hb]

/-- The quotient of the weighted sum by the weights' sum. -/
theorem mix_at (e : FVec Ideal ⟨2, ![512, K]⟩ .f32) (v : FVec Ideal ⟨2, ![K, 256]⟩ .bf16) (r : Fin 512) (x : Fin 256) :
    mix W e v (ix2 r x) = Ideal.div (∑ w : Fin K, e (ix2 r w) * v (ix2 w x)) (∑ w : Fin K, e (ix2 r w)) := by
  have h := W.mix_at (truncf .bf16 e bitsLt_bf16_f32) v r x
  pointwise [mix]
  exact congrArg (Ideal.div · _) h

/-- A head's output at a lane, over any window whose scores and values are known by position: the softmax-weighted mean
    over the row of positions. -/
theorem group_at (q : FVec Ideal S128x256 .bf16) (k v : FVec Ideal ⟨2, ![K, 256]⟩ .bf16) (b : FVec Ideal ⟨2, ![512, K]⟩ .f32)
    (i : Fin 128) (x : Fin 256) {N a : ℕ} {S V : ℕ → EReal} (hK : a + K ≤ N)
    (hs : ∀ w : Fin K, (∑ d : Fin 64, q (ix2 i ⟨64 * (x.val / 64) + d.val, by omega⟩) *
        k (ix2 w ⟨64 * (x.val / 64) + d.val, by omega⟩)) + b (ix2 ⟨128 * (x.val / 64) + i.val, by omega⟩ w) = S (a + w.val))
    (hv : ∀ w : Fin K, S (a + w.val) ≠ ⊥ → v (ix2 w x) = V (a + w.val))
    (h0 : ∀ P, P < N → ¬(a ≤ P ∧ P < a + K) → S P = ⊥) :
    pick (mix W (weights W (scores W q k b)) v) (ix2 i x) = Soft.mean N S V := by
  have hsc : ∀ w : Fin K, scores W q k b (ix2 ⟨128 * (x.val / 64) + i.val, by omega⟩ w) = S (a + w.val) := fun w =>
    (scores_at W q k b ⟨x.val / 64, by omega⟩ i w).trans (hs w)
  obtain ⟨_, hd, hn⟩ := Soft.window (v := fun w => v (ix2 w x)) (V := V) hK hsc (fun w h => hv w (hsc w ▸ h)) h0
  rw [pick_at, mix_at]
  simp only [weights_at]
  rw [hd, hn, Soft.mean]

/-- Both groups' outputs at a lane: the softmax-weighted mean over the row of positions. -/
theorem heads_at (q : FVec Ideal S128x512 .bf16) (k v : FVec Ideal ⟨2, ![K, 512]⟩ .bf16) (b₀ b₁ : FVec Ideal ⟨2, ![512, K]⟩ .f32)
    (i : Fin 128) (x : Fin 512) {N a : ℕ} {S V : ℕ → EReal} (hK : a + K ≤ N)
    (hs : ∀ w : Fin K, (∑ d : Fin 64, q (ix2 i ⟨64 * (x.val / 64) + d.val, by omega⟩) *
        k (ix2 w ⟨64 * (x.val / 64) + d.val, by omega⟩)) +
        (if x.val < 256 then b₀ else b₁) (ix2 ⟨128 * (x.val % 256 / 64) + i.val, by omega⟩ w) = S (a + w.val))
    (hv : ∀ w : Fin K, S (a + w.val) ≠ ⊥ → v (ix2 w x) = V (a + w.val))
    (h0 : ∀ P, P < N → ¬(a ≤ P ∧ P < a + K) → S P = ⊥) :
    heads W q k v b₀ b₁ (ix2 i x) = Soft.mean N S V := by
  by_cases h : x.val < 256
  · refine Eq.trans (b := pick _ (ix2 i ⟨x.val, h⟩)) (by unfold heads; pointwise; rw [dif_pos h]) (group_at W _ _ _ _ i ⟨x.val, h⟩ hK (fun w => ?_) (fun w hw => ?_) h0)
    · rw [← hs w, if_pos h]
      have e : x.val % 256 = x.val := by omega
      pointwise [e]
    · rw [← hv w hw]
      pointwise
  · refine Eq.trans (b := pick _ (ix2 i ⟨x.val - 256, by omega⟩)) (by unfold heads; pointwise; rw [dif_neg h]) (group_at W _ _ _ _ i ⟨x.val - 256, by omega⟩ hK (fun w => ?_) (fun w hw => ?_) h0)
    · rw [← hs w, if_neg h]
      have e : x.val % 256 = x.val - 256 := by omega
      have e' : ∀ d : ℕ, 256 + (64 * ((x.val - 256) / 64) + d) = 64 * (x.val / 64) + d := fun d => by omega
      pointwise [e, e']
    · rw [← hv w hw]
      have e' : 256 + (x.val - 256) = x.val := by omega
      pointwise [e']

end

/-- A row's element over the row's root mean square, times the gain. -/
theorem normed_at (y : FVec Ideal S128x512 .f32) (g : Vec Ideal S1x512 .f32) (i : Fin 128) (x : Fin 512) :
    normed y g (ix3 0 i x) = y (ix2 i x) *
      Ideal.rsqrt (Ideal.div (∑ x, y (ix2 i x) * y (ix2 i x)) (Ideal.ofBits .f32 0x44000000#32) + Ideal.ofBits .f32 0x358637BD#32) *
        g (ix2 0 x) := by
  pointwise [normed]

end Cert.Tile

end
-- ==== Proof.Mean.lean ====
/- What the layer's attention computes, as a function of the arrays: the score of a query against a position of the
   padded sequence, the mean of the values under the scores' softmax, and the row's normalisation. One query tile of the
   kernel computes it. -/
module

public import proofs.«01_k».proof.Proof.TileAt

@[expose] public section

set_option maxRecDepth 16384

noncomputable section

namespace Cert.Mean

open Cert.AttnIdeal Cert.AttnIdeal.Gen Idealize.ShloMosaic

/-- The bias of head `h` at `a` places beyond the window's start, for the query `b` of its chunk. -/
def bias (rel : Fin 8 → Fin 257 → EReal) (h : Fin 8) (b a : ℕ) : EReal := rel h ⟨min (640 + b - a) 256, by omega⟩

/-- The score of query `s`, in the head of lane `x`, against place `P` of the sequence with 512 places put before it:
    the queries of chunk `c` see the places from `64 c` to `64 c + 575` that the sequence has. -/
def score (q k : Fin 2048 → Fin 512 → EReal) (rel : Fin 8 → Fin 257 → EReal) (s : Fin 2048) (x : Fin 512) (P : ℕ) : EReal :=
  if h : 64 * (s.val / 64) ≤ P ∧ P < 64 * (s.val / 64) + 576 ∧ 512 ≤ P then
    (∑ d : Fin 64, q s ⟨64 * (x.val / 64) + d.val, by omega⟩ * k ⟨P - 512, by omega⟩ ⟨64 * (x.val / 64) + d.val, by omega⟩)
      + bias rel ⟨x.val / 64, by omega⟩ (s.val % 64) (P - 64 * (s.val / 64))
  else ⊥

/-- The value at place `P`. -/
def value (v : Fin 2048 → Fin 512 → EReal) (x : Fin 512) (P : ℕ) : EReal :=
  if h : 512 ≤ P ∧ P < 2560 then v ⟨P - 512, by omega⟩ x else 0

/-- The attention's output at query `s`, lane `x`. -/
def mean (q k v : Fin 2048 → Fin 512 → EReal) (rel : Fin 8 → Fin 257 → EReal) (s : Fin 2048) (x : Fin 512) : EReal :=
  Soft.mean 2560 (score q k rel s x) (value v x)

/-- An entry of a row over the row's root mean square, times the gain. -/
def normal (y g : Fin 512 → EReal) (x : Fin 512) : EReal :=
  y x * Ideal.rsqrt (Ideal.div (∑ x, y x * y x) (Ideal.ofBits .f32 0x44000000#32) + Ideal.ofBits .f32 0x358637BD#32) * g x

/-- The layer's attention: the means, normalised. -/
def out (q k v : Fin 2048 → Fin 512 → EReal) (rel : Fin 8 → Fin 257 → EReal) (g : Fin 512 → EReal) (s : Fin 2048)
    (x : Fin 512) : EReal :=
  normal (mean q k v rel s) g x

/-- The layer's attention of the argument arrays. -/
def layer (q k v : (⟨3, ![8, 2048, 512]⟩ : Shape).Idx → EReal) (rel : (⟨2, ![8, 257]⟩ : Shape).Idx → EReal)
    (g : (⟨1, ![512]⟩ : Shape).Idx → EReal) (i : (⟨3, ![8, 2048, 512]⟩ : Shape).Idx) : EReal :=
  out (fun s x => q (ix3 (i 0) s x)) (fun s x => k (ix3 (i 0) s x)) (fun s x => v (ix3 (i 0) s x)) (fun h a => rel (ix2 h a))
    (fun x => g (ix1 x)) (i 1) (i 2)

/-- A bias tile at row `r` and column `u`, for the head group `G`. -/
def tile (rel : Fin 8 → Fin 257 → EReal) (G : Fin 2) (r : Fin 512) (u : ℕ) : EReal :=
  if 64 * (r.val / 64 % 2) ≤ u ∧ u < 64 * (r.val / 64 % 2) + 576 then
    bias rel ⟨4 * G.val + r.val / 128, by omega⟩ (r.val % 64) (u - 64 * (r.val / 64 % 2))
  else ⊥

/-- The tile of the queries `128 t` to `128 t + 127`, over `K` keys from place `a`, computes the attention. -/
theorem tile_at {K : ℕ} (W : Tile.Width K) (t a : ℕ) (ht : t < 16) (h₁ : 512 ≤ a) (h₂ : 128 * t ≤ a)
    (h₃ : a = 512 ∨ a = 128 * t) (h₄ : a + K = 128 * t + 640)
    (q k v : Fin 2048 → Fin 512 → EReal) (rel : Fin 8 → Fin 257 → EReal) (g : Fin 512 → EReal)
    (Q : FVec Ideal S128x512 .bf16) (Kk Vv : FVec Ideal ⟨2, ![K, 512]⟩ .bf16) (b₀ b₁ : FVec Ideal ⟨2, ![512, K]⟩ .f32)
    (G : Vec Ideal S1x512 .f32)
    (hQ : ∀ (i : Fin 128) (x : Fin 512), Q (ix2 i x) = q ⟨128 * t + i.val, by omega⟩ x)
    (hK : ∀ (w : Fin K) (x : Fin 512), Kk (ix2 w x) = k ⟨a + w.val - 512, by omega⟩ x)
    (hV : ∀ (w : Fin K) (x : Fin 512), Vv (ix2 w x) = v ⟨a + w.val - 512, by omega⟩ x)
    (hb₀ : ∀ (r : Fin 512) (w : Fin K), b₀ (ix2 r w) = tile rel 0 r (a + w.val - 128 * t))
    (hb₁ : ∀ (r : Fin 512) (w : Fin K), b₁ (ix2 r w) = tile rel 1 r (a + w.val - 128 * t))
    (hG : ∀ x : Fin 512, G (ix2 0 x) = g x) (i : Fin 128) (x : Fin 512) :
    Tile.normed (Tile.heads W Q Kk Vv b₀ b₁) G (ix3 0 i x) = out q k v rel g ⟨128 * t + i.val, by omega⟩ x := by
  have H : ∀ x : Fin 512, Tile.heads W Q Kk Vv b₀ b₁ (ix2 i x) = mean q k v rel ⟨128 * t + i.val, by omega⟩ x := by
    intro x
    refine Tile.heads_at W Q Kk Vv b₀ b₁ i x (a := a) (N := 2560) (S := score q k rel ⟨128 * t + i.val, by omega⟩ x)
      (V := value v x) (by omega) (fun w => ?_) (fun w _ => ?_) (fun P _ hP => ?_)
    · have hb : (if x.val < 256 then b₀ else b₁) (ix2 ⟨128 * (x.val % 256 / 64) + i.val, by omega⟩ w) =
          if 64 * ((128 * t + i.val) / 64) ≤ a + w.val ∧ a + w.val < 64 * ((128 * t + i.val) / 64) + 576 then
            bias rel ⟨x.val / 64, by omega⟩ ((128 * t + i.val) % 64) (a + w.val - 64 * ((128 * t + i.val) / 64)) else ⊥ := by
        have key : ∀ (n : Fin 2) (hn : n.val = x.val / 256), tile rel n ⟨128 * (x.val % 256 / 64) + i.val, by omega⟩ (a + w.val - 128 * t) =
            if 64 * ((128 * t + i.val) / 64) ≤ a + w.val ∧ a + w.val < 64 * ((128 * t + i.val) / 64) + 576 then
            bias rel ⟨x.val / 64, by omega⟩ ((128 * t + i.val) % 64) (a + w.val - 64 * ((128 * t + i.val) / 64)) else ⊥ := by
          intro n hn
          unfold tile
          have e₁ : (⟨4 * n.val + (128 * (x.val % 256 / 64) + i.val) / 128, by omega⟩ : Fin 8) = ⟨x.val / 64, by omega⟩ :=
            Fin.ext (by dsimp only; omega)
          have e₂ : (128 * (x.val % 256 / 64) + i.val) % 64 = (128 * t + i.val) % 64 := by omega
          have e₃ : a + w.val - 128 * t - 64 * ((128 * (x.val % 256 / 64) + i.val) / 64 % 2) =
              a + w.val - 64 * ((128 * t + i.val) / 64) := by omega
          dsimp only
          rw [e₁, e₂, e₃]
          exact if_congr (by omega) rfl rfl
        by_cases hx : x.val < 256
        · rw [if_pos hx, hb₀]; exact key 0 (by simp only [Fin.val_zero]; omega)
        · rw [if_neg hx, hb₁]; exact key 1 (by simp only [Fin.val_one]; omega)
      rw [hb]
      unfold score
      by_cases hc : 64 * ((128 * t + i.val) / 64) ≤ a + w.val ∧ a + w.val < 64 * ((128 * t + i.val) / 64) + 576
      · rw [if_pos hc, dif_pos ⟨hc.1, hc.2, by omega⟩]
        simp only [hQ, hK]
      · rw [if_neg hc, dif_neg (fun h => hc ⟨h.1, h.2.1⟩), EReal.add_bot]
    · rw [hV, value, dif_pos (by omega)]
    · exact dif_neg fun h => hP (by dsimp only at h; omega)
  rw [Tile.normed_at, H, hG]
  simp only [H]
  rfl

end Cert.Mean

end
-- ==== Proof.Bias.lean ====
/- The bias tiles and the gain as the kernel's call finds them: the host's slices of the relative bias, read at an index. -/
module

public import proofs.«01_k».proof.Proof.Gen.AttnIdeal.Frame
public import Idealize.ShloMosaic.Lib.Pipeline.ValueKit
public import Idealize.ShloMosaic.Lib.StableHlo.RunRead
public import Idealize.ShloMosaic.Lib.Pointwise

@[expose] public section

set_option maxRecDepth 65536

noncomputable section

namespace Cert.Bias

open Cert.AttnIdeal Cert.AttnIdeal.Gen Idealize.ShloMosaic Idealize.ShloMosaic.TcCoe Idealize.SL.Sem

variable (m : (ℓ : Loc nD τ sig) → Buf (Elt Ideal) ℓ) (c : Dev nD)

/-- The relative bias, as launched. -/
abbrev rel : (⟨2, ![8, 257]⟩ : Shape).Idx → EReal := m ((c : Thread nD τ).loc main_arg3)

/-- The gain reaches the call as one row. -/
theorem gain_at (x : Fin 512) : V m c main_v143 (ix2 0 x) = (m ((c : Thread nD τ).loc main_arg4) : S512.Idx → EReal) (ix1 x) := by
  unfold V
  after_reads_simp
  pointwise

/-- The bias by distance, far to near: the last entry repeated, then the entries of the window in falling order. -/
theorem diag_at (h : Fin 8) (n : ℕ) (hn : n < 639) :
    (if hh : n < 448 then
      StableHlo.upto hostOps0 (fun b => m (c, b)) 4 (Proc.tc.devRef main_v1) (ix2 h ⟨n, hh⟩)
    else StableHlo.upto hostOps0 (fun b => m (c, b)) 4 (Proc.tc.devRef main_v3) (ix2 h ⟨n - 448, by omega⟩)) =
      rel m c (ix2 h ⟨min (703 - n) 256, by omega⟩) := by
  after_reads_simp
  pointwise
  split
  · exact congrArg (fun a => rel m c (ix2 h a)) (Fin.ext (by show 256 = min (703 - n) 256; omega))
  · exact congrArg (fun a => rel m c (ix2 h a)) (Fin.ext (by
      show 65 + (191 - (n - 448 + 1)) = min (703 - n) 256
      omega))

set_option maxHeartbeats 4000000 in
/-- The bias rows sixteen at a time, as the host stacks them. -/
theorem quarters_at (h : Fin 8) (q : Fin 16) (k : Fin 576) :
    StableHlo.upto hostOps0 (fun b => m (c, b)) 137 (Proc.tc.devRef main_v133) (ix3 h q k) =
      rel m c (ix2 h ⟨min (640 + q.val - k.val) 256, by omega⟩) ∧
    StableHlo.upto hostOps0 (fun b => m (c, b)) 137 (Proc.tc.devRef main_v134) (ix3 h q k) =
      rel m c (ix2 h ⟨min (656 + q.val - k.val) 256, by omega⟩) ∧
    StableHlo.upto hostOps0 (fun b => m (c, b)) 137 (Proc.tc.devRef main_v135) (ix3 h q k) =
      rel m c (ix2 h ⟨min (672 + q.val - k.val) 256, by omega⟩) ∧
    StableHlo.upto hostOps0 (fun b => m (c, b)) 137 (Proc.tc.devRef main_v136) (ix3 h q k) =
      rel m c (ix2 h ⟨min (688 + q.val - k.val) 256, by omega⟩) := by
  have hk : k.val < 576 := k.isLt
  refine ⟨?_, ?_, ?_, ?_⟩
  all_goals
    after_reads_simp
    concat_tiles i hi
  all_goals
    refine (congrFun (StableHlo.unary_result ..) _).trans ?_
    after_reads_simp
    idx_vars i
    pointwise
    refine (diag_at m c i0 _ (by omega)).trans ?_
    obtain rfl : i0 = h := Fin.ext hi0
    exact congrArg (fun a => rel m c (ix2 i0 a)) (Fin.ext (by dsimp only; omega))

/-- The bias tiles: over each chunk's rows the chunk's window of keys has its bias, the rest −∞. -/
theorem tile_at (g : Fin 2) (r : Fin 512) (w : Fin 640) :
    V m c main_v142 (ix3 g r w) =
      if h : 64 * (r.val / 64 % 2) ≤ w.val ∧ w.val < 64 * (r.val / 64 % 2) + 576 then
        rel m c (ix2 ⟨4 * g.val + r.val / 128, by omega⟩
          ⟨min (640 + r.val % 64 - (w.val - 64 * (r.val / 64 % 2))) 256, by omega⟩)
      else ⊥ := by
  unfold V
  after_reads_simp
  pointwise
  after_reads_simp
  pointwise
  simp only [fun h q k => (quarters_at m c h q k).1, fun h q k => (quarters_at m c h q k).2.1,
    fun h q k => (quarters_at m c h q k).2.2.1, fun h q k => (quarters_at m c h q k).2.2.2]
  have hw : w.val < 640 := w.isLt
  have hb : Ideal.ofBits .f32 0xFF800000#32 = ⊥ := by simp [Ideal.ofBits, Ideal.ieee]
  have e : ∀ (a a' : Fin 8) (b b' : Fin 257), a.val = a'.val → b.val = b'.val →
      rel m c (ix2 a b) = rel m c (ix2 a' b') := fun a a' b b' ha hb => by rw [Fin.ext ha, Fin.ext hb]
  repeat' split
  all_goals first
    | exact hb
    | (exfalso; omega)
    | exact e _ _ _ _ (by dsimp only; omega) (by dsimp only; omega)

end Cert.Bias

end
-- ==== Proof.Block.lean ====
/- The kernel's output array: at every index, the layer's attention of the argument arrays. -/
module

public import proofs.«01_k».proof.Proof.Gen.AttnIdeal.Value
public import proofs.«01_k».proof.Proof.Mean
public import proofs.«01_k».proof.Proof.Bias
public import Idealize.ShloMosaic.Lib.Pipeline.ValueKit
public import Idealize.ShloMosaic.Lib.WholeRead
public import Idealize.ShloMosaic.Lib.ValueLayout

@[expose] public section

set_option maxRecDepth 16384

noncomputable section

namespace Cert.Block

open Cert.AttnIdeal Cert.AttnIdeal.Gen Idealize.ShloMosaic Idealize.ShloMosaic.TcCoe Idealize.SL.Sem

/-! ## The payloads, one per width, are the tile -/

/-- The printed term of the tile over 128 places is the tile of width 128. -/
theorem pay_128 (q k v : Vec Ideal S1x128x512 .bf16) (b₀ b₁ : Vec Ideal S1x512x640 .f32) (g : Vec Ideal S1x512 .f32) :
    k0_pay25 (k0_pay22 k0_pay9 (k0_pay11 k) (k0_pay12 v)
        (k0_pay17 k0_pay9 (k0_pay11 k) (k0_pay12 v) (k0_pay13 q) k0_pay14 (k0_pay15 q) (k0_pay16 q) 2#32 b₀)
        (k0_pay18 (k0_pay10 q)) k0_pay19 (k0_pay20 k0_pay9 (k0_pay10 q)) (k0_pay21 k0_pay9 (k0_pay10 q)) b₁)
      (k0_pay23 g)
      (k0_pay24 k0_pay9 (k0_pay11 k) (k0_pay12 v)
        (k0_pay17 k0_pay9 (k0_pay11 k) (k0_pay12 v) (k0_pay13 q) k0_pay14 (k0_pay15 q) (k0_pay16 q) 2#32 b₀)
        (k0_pay18 (k0_pay10 q)) k0_pay19 (k0_pay20 k0_pay9 (k0_pay10 q)) (k0_pay21 k0_pay9 (k0_pay10 q)) b₁)
      (FloatOps.ofBits FTy.f32 1140850688#32) =
    Tile.normed (Tile.heads Tile.w128 (shapeCast S128x512 q shapeCasts_S1x128x512_S128x512)
      (shapeCast S128x512 k shapeCasts_S1x128x512_S128x512) (shapeCast S128x512 v shapeCasts_S1x128x512_S128x512)
      (extractStridedSlice S512x128 ![0, 512] (shapeCast S512x640 b₀ shapeCasts_S1x512x640_S512x640) slices_S512x640_o0_512_S512x128)
      (extractStridedSlice S512x128 ![0, 512] (shapeCast S512x640 b₁ shapeCasts_S1x512x640_S512x640) slices_S512x640_o0_512_S512x128)) g :=
  rfl

/-- The printed term of the tile over 256 places is the tile of width 256. -/
theorem pay_256 (q : Vec Ideal S1x128x512 .bf16) (k v : Vec Ideal S1x256x512 .bf16) (b₀ b₁ : Vec Ideal S1x512x640 .f32)
    (g : Vec Ideal S1x512 .f32) :
    k0_pay33 (k0_pay32 k0_pay9 (k0_pay28 v) (k0_pay30 k0_pay9 (k0_pay28 v) (k0_pay29 k0_pay9 q k) b₀)
      (k0_pay31 k0_pay9 (k0_pay26 q) (k0_pay27 k)) b₁ g) =
    Tile.normed (Tile.heads Tile.w256 (shapeCast S128x512 q shapeCasts_S1x128x512_S128x512)
      (shapeCast S256x512 k shapeCasts_S1x256x512_S256x512) (shapeCast S256x512 v shapeCasts_S1x256x512_S256x512)
      (extractStridedSlice S512x256 ![0, 384] (shapeCast S512x640 b₀ shapeCasts_S1x512x640_S512x640) slices_S512x640_o0_384_S512x256)
      (extractStridedSlice S512x256 ![0, 384] (shapeCast S512x640 b₁ shapeCasts_S1x512x640_S512x640) slices_S512x640_o0_384_S512x256)) g :=
  rfl

/-- The printed term of the tile over 384 places is the tile of width 384. -/
theorem pay_384 (q : Vec Ideal S1x128x512 .bf16) (k v : Vec Ideal S1x384x512 .bf16) (b₀ b₁ : Vec Ideal S1x512x640 .f32)
    (g : Vec Ideal S1x512 .f32) :
    k0_pay46 k0_pay9
      (k0_pay41 k0_pay9 (k0_pay38 k0_pay9 q k b₀) (k0_pay39 k0_pay9 q k b₀) (k0_pay40 v) (constant S512x256 .f32 0x00000000#32))
      (k0_pay43 k0_pay9 (k0_pay34 q) (k0_pay35 k) b₁) (k0_pay44 k0_pay9 (k0_pay34 q) (k0_pay35 k) b₁)
      (k0_pay45 (k0_pay36 v)) g =
    Tile.normed (Tile.heads Tile.w384 (shapeCast S128x512 q shapeCasts_S1x128x512_S128x512)
      (shapeCast S384x512 k shapeCasts_S1x384x512_S384x512) (shapeCast S384x512 v shapeCasts_S1x384x512_S384x512)
      (extractStridedSlice S512x384 ![0, 256] (shapeCast S512x640 b₀ shapeCasts_S1x512x640_S512x640) slices_S512x640_o0_256_S512x384)
      (extractStridedSlice S512x384 ![0, 256] (shapeCast S512x640 b₁ shapeCasts_S1x512x640_S512x640) slices_S512x640_o0_256_S512x384)) g :=
  rfl

/-- The printed term of the tile over 512 places is the tile of width 512. -/
theorem pay_512 (q : Vec Ideal S1x128x512 .bf16) (k v : Vec Ideal S1x512x512 .bf16) (b₀ b₁ : Vec Ideal S1x512x640 .f32)
    (g : Vec Ideal S1x512 .f32) :
    k0_pay1 k0_pay9
      (k0_pay52 k0_pay9 (k0_pay50 k0_pay9 (k0_pay47 q) (k0_pay48 k) v b₀) (k0_pay51 k0_pay9 (k0_pay47 q) (k0_pay48 k) v b₀) 3#32)
      (k0_pay53 k0_pay9 (k0_pay47 q) (k0_pay48 k) (k0_pay49 v) b₁) (k0_pay54 k0_pay9 (k0_pay47 q) (k0_pay48 k) (k0_pay49 v) b₁) g =
    Tile.normed (Tile.heads Tile.w512 (shapeCast S128x512 q shapeCasts_S1x128x512_S128x512)
      (shapeCast S512x512 k shapeCasts_S1x512x512_S512x512) (shapeCast S512x512 v shapeCasts_S1x512x512_S512x512)
      (extractStridedSlice S512x512 ![0, 128] (shapeCast S512x640 b₀ shapeCasts_S1x512x640_S512x640) slices_S512x640_o0_128_S512x512)
      (extractStridedSlice S512x512 ![0, 128] (shapeCast S512x640 b₁ shapeCasts_S1x512x640_S512x640) slices_S512x640_o0_128_S512x512)) g :=
  rfl

/-- The printed term of the tile over 640 places is the tile of width 640. -/
theorem pay_640 (q : Vec Ideal S1x128x512 .bf16) (k v : Vec Ideal S1x640x512 .bf16) (b₀ b₁ : Vec Ideal S1x512x640 .f32)
    (g : Vec Ideal S1x512 .f32) :
    k0_pay2 k0_pay9 (k0_pay5 v) (k0_pay7 k0_pay9 (k0_pay5 v) (k0_pay6 k0_pay9 q k b₀))
      (k0_pay8 k0_pay9 (k0_pay3 q) (k0_pay4 k) b₁) g =
    Tile.normed (Tile.heads Tile.w640 (shapeCast S128x512 q shapeCasts_S1x128x512_S128x512)
      (shapeCast S640x512 k shapeCasts_S1x640x512_S640x512) (shapeCast S640x512 v shapeCasts_S1x640x512_S640x512)
      (shapeCast S512x640 b₀ shapeCasts_S1x512x640_S512x640) (shapeCast S512x640 b₁ shapeCasts_S1x512x640_S512x640)) g := rfl

/-! ## The pieces the kernel stores are blocks of one function -/

/-- A load of some rows of a batch entry's block, at an index. -/
theorem rows_at {m : ℕ} (X : Vec Ideal S1x2048x512 .bf16) (off : Fin 3 → ℕ)
    (inb : ∀ a, off a + (![1, m, 512] : Fin 3 → ℕ) a ≤ S1x2048x512.size a) (N : ℕ) (ho : off = ![0, N, 0])
    (s : Fin m) (x : Fin 512) (hs : N + s.val < 2048) :
    View.ld X (Rect.unit (s := S1x2048x512) off ![1, m, 512] inb) (ix3 0 s x) = X (ix3 0 ⟨N + s.val, hs⟩ x) := by
  subst ho
  pointwise

/-- A load of the whole gain. -/
theorem gain_ld (g : Vec Ideal S1x512 .f32) :
    View.ld g (Rect.unit (s := S1x512) ![0, 0] ![1, 512] inb_S1x512_S1x512_0_0) = g := by
  funext x
  idx_vars x
  obtain rfl : x0 = 0 := Subsingleton.elim _ _
  pointwise

/-- A block of one batch entry as a matrix. -/
theorem flat_at {m : ℕ} (X : Vec Ideal ⟨3, ![1, m, 512]⟩ .bf16) (h : (⟨3, ![1, m, 512]⟩ : Shape).ShapeCasts ⟨2, ![m, 512]⟩)
    (s : Fin m) (x : Fin 512) : shapeCast ⟨2, ![m, 512]⟩ X h (ix2 s x) = X (ix3 0 s x) := by
  pointwise
  exact congrArg X (ValueIdx.reshapeEquiv_ix2_1ab h s x)

/-- The first group's bias tile. -/
theorem bias_at₀ (b : Vec Ideal S2x512x640 .f32) (r : Fin 512) (w : Fin 640) :
    shapeCast S512x640 (View.ld b (Rect.unit (s := S2x512x640) ![0, 0, 0] ![1, 512, 640] inb_S2x512x640_S1x512x640_0_0_0))
      shapeCasts_S1x512x640_S512x640 (ix2 r w) = b (ix3 0 r w) := by pointwise

/-- The second group's bias tile. -/
theorem bias_at₁ (b : Vec Ideal S2x512x640 .f32) (r : Fin 512) (w : Fin 640) :
    shapeCast S512x640 (View.ld b (Rect.unit (s := S2x512x640) ![1, 0, 0] ![1, 512, 640] inb_S2x512x640_S1x512x640_1_0_0))
      shapeCasts_S1x512x640_S512x640 (ix2 r w) = b (ix3 1 r w) := by pointwise

section
variable (q k v : Vec Ideal S1x2048x512 .bf16) (b : Vec Ideal S2x512x640 .f32) (g : Vec Ideal S1x512 .f32)
  (rel : Fin 8 → Fin 257 → EReal)

/-- The attention over one batch entry's block. -/
def field (y : S1x2048x512.Idx) : EReal :=
  Mean.out (fun s x => q (ix3 0 s x)) (fun s x => k (ix3 0 s x)) (fun s x => v (ix3 0 s x)) rel (fun x => g (ix2 0 x)) (y 1) (y 2)

variable (hb : ∀ (G : Fin 2) (r : Fin 512) (w : Fin 640), b (ix3 G r w) = Mean.tile rel G r w.val)

include hb in
/-- What a tile's store leaves is the attention's rows of that tile. -/
theorem piece {K : ℕ} (W : Tile.Width K) (t a : ℕ) (ht : t < 16) (h₁ : 512 ≤ a) (h₂ : 128 * t ≤ a)
    (h₃ : a = 512 ∨ a = 128 * t) (h₄ : a + K = 128 * t + 640)
    (Q : FVec Ideal S128x512 .bf16) (Kk Vv : FVec Ideal ⟨2, ![K, 512]⟩ .bf16) (b₀ b₁ : FVec Ideal ⟨2, ![512, K]⟩ .f32)
    (hQ : ∀ (i : Fin 128) (x : Fin 512), Q (ix2 i x) = q (ix3 0 ⟨128 * t + i.val, by omega⟩ x))
    (hK : ∀ (w : Fin K) (x : Fin 512), Kk (ix2 w x) = k (ix3 0 ⟨a + w.val - 512, by omega⟩ x))
    (hV : ∀ (w : Fin K) (x : Fin 512), Vv (ix2 w x) = v (ix3 0 ⟨a + w.val - 512, by omega⟩ x))
    (hb₀ : ∀ (r : Fin 512) (w : Fin K), b₀ (ix2 r w) = b (ix3 0 r ⟨a + w.val - 128 * t, by omega⟩))
    (hb₁ : ∀ (r : Fin 512) (w : Fin K), b₁ (ix2 r w) = b (ix3 1 r ⟨a + w.val - 128 * t, by omega⟩))
    (off : Fin 3 → ℕ) (inb : ∀ a, off a + (![1, 128, 512] : Fin 3 → ℕ) a ≤ S1x2048x512.size a)
    (ho : off = ![0, 128 * t, 0]) (y : S1x128x512.Idx) :
    Tile.normed (Tile.heads W Q Kk Vv b₀ b₁) g y =
      field q k v g rel ((Rect.unit (s := S1x2048x512) off ![1, 128, 512] inb).emb y) := by
  subst ho
  idx_vars y
  obtain rfl : y0 = 0 := Subsingleton.elim _ _
  refine (Mean.tile_at W t a ht h₁ h₂ h₃ h₄
    (fun s x => q (ix3 0 s x)) (fun s x => k (ix3 0 s x)) (fun s x => v (ix3 0 s x)) rel (fun x => g (ix2 0 x)) _ _ _ _ _ _
    hQ hK hV (fun r w => (hb₀ r w).trans (hb ..)) (fun r w => (hb₁ r w).trans (hb ..)) (fun _ => rfl) y1 y2).trans ?_
  have e : (Rect.unit (s := S1x2048x512) ![0, 128 * t, 0] ![1, 128, 512] inb).emb (ix3 0 y1 y2) =
      ix3 0 ⟨128 * t + y1.val, by omega⟩ y2 :=
    funext (Fin.forall_fin_succ.2 ⟨Fin.ext (by show 0 + 1 * 0 = 0; omega), Fin.forall_fin_succ.2
      ⟨Fin.ext (by show 128 * t + 1 * y1.val = 128 * t + y1.val; omega), Fin.forall_fin_succ.2
        ⟨Fin.ext (by show 0 + 1 * y2.val = y2.val; omega), fun i => i.elim0⟩⟩⟩)
  rw [e]
  rfl

include hb in
/-- The first tiles, of the queries that see the sequence's start: `K` keys from the first one on. -/
theorem start_piece {K : ℕ} (W : Tile.Width K) (t : ℕ) (ht : t < 4) (hK : K = 128 * (t + 1)) (off : Fin 3 → ℕ) (ho : off = ![0, 128 * t, 0])
    (inb : ∀ a, off a + (![1, 128, 512] : Fin 3 → ℕ) a ≤ S1x2048x512.size a)
    (inb' : ∀ a, (![0, 0, 0] : Fin 3 → ℕ) a + (![1, K, 512] : Fin 3 → ℕ) a ≤ S1x2048x512.size a)
    (hk : (⟨3, ![1, K, 512]⟩ : Shape).ShapeCasts ⟨2, ![K, 512]⟩)
    (o : Fin 2 → ℕ) (hoo : o = ![0, 512 - 128 * t]) (hs : S512x640.Slices o ⟨2, ![512, K]⟩) (y : S1x128x512.Idx) :
    Tile.normed (Tile.heads W
      (shapeCast S128x512 (View.ld q (Rect.unit (s := S1x2048x512) off ![1, 128, 512] inb)) shapeCasts_S1x128x512_S128x512)
      (shapeCast ⟨2, ![K, 512]⟩ (View.ld k (Rect.unit (s := S1x2048x512) ![0, 0, 0] ![1, K, 512] inb')) hk)
      (shapeCast ⟨2, ![K, 512]⟩ (View.ld v (Rect.unit (s := S1x2048x512) ![0, 0, 0] ![1, K, 512] inb')) hk)
      (extractStridedSlice ⟨2, ![512, K]⟩ o (shapeCast S512x640
        (View.ld b (Rect.unit (s := S2x512x640) ![0, 0, 0] ![1, 512, 640] inb_S2x512x640_S1x512x640_0_0_0)) shapeCasts_S1x512x640_S512x640) hs)
      (extractStridedSlice ⟨2, ![512, K]⟩ o (shapeCast S512x640
        (View.ld b (Rect.unit (s := S2x512x640) ![1, 0, 0] ![1, 512, 640] inb_S2x512x640_S1x512x640_1_0_0)) shapeCasts_S1x512x640_S512x640) hs)) g y =
      field q k v g rel ((Rect.unit (s := S1x2048x512) off ![1, 128, 512] inb).emb y) := by
  subst hoo
  have hsl : ∀ (X : FVec Ideal S512x640 .f32) (r : Fin 512) (w : Fin K),
      extractStridedSlice ⟨2, ![512, K]⟩ ![0, 512 - 128 * t] X hs (ix2 r w) = X (ix2 r ⟨512 - 128 * t + w.val, by omega⟩) := by
    intro X r w
    pointwise
  refine piece q k v b g rel hb W t 512 (by omega) (by omega) (by omega) (by omega) (by omega) _ _ _ _ _
    (fun s x => (flat_at ..).trans (rows_at _ _ _ _ ho s x _))
    (fun s x => (flat_at ..).trans ((rows_at _ _ _ 0 rfl s x (by omega)).trans (congrArg (fun r => k (ix3 0 r x)) (Fin.ext (by dsimp only; omega)))))
    (fun s x => (flat_at ..).trans ((rows_at _ _ _ 0 rfl s x (by omega)).trans (congrArg (fun r => v (ix3 0 r x)) (Fin.ext (by dsimp only; omega)))))
    (fun s x => (hsl ..).trans ((bias_at₀ b s _).trans (congrArg (fun u => b (ix3 0 s u)) (Fin.ext (by dsimp only; omega)))))
    (fun s x => (hsl ..).trans ((bias_at₁ b s _).trans (congrArg (fun u => b (ix3 1 s u)) (Fin.ext (by dsimp only; omega)))))
    off inb ho y

/-- One trip's store: the full tile of its rows. -/
theorem trip_eq (𝒱 : Variants) (c : Dev nD) (bd : Option 𝒱.V) (i : grid0.Coords)
    (arg1 : Memref sig .tc .vmem S1x2048x512 .bf16) (harg1 : arg1.IsWhole) (arg2 : Memref sig .tc .vmem S1x2048x512 .bf16) (harg2 : arg2.IsWhole)
    (arg3 : Memref sig .tc .vmem S1x2048x512 .bf16) (harg3 : arg3.IsWhole) (arg4 : Memref sig .tc .vmem S2x512x640 .f32) (harg4 : arg4.IsWhole)
    (arg5 : Memref sig .tc .vmem S1x512 .f32) (harg5 : arg5.IsWhole) (arg6 : Memref sig .tc .vmem S1x2048x512 .bf16) (harg6 : arg6.IsWhole)
    (j : Fin k0_t1_loop.trips) :
    tripL_k0_t1 (F := Ideal) 𝒱 c bd i arg1 harg1 arg2 harg2 arg3 harg3 arg4 harg4 arg5 harg5 arg6 harg6 k0_pay9
      (harg1.unread q) (harg2.unread k) (harg3.unread v) (harg4.unread b) (harg5.unread g) j =
    [⟨Rect.unit (s := S1x2048x512) (k0_off1 j) ![1, 128, 512] (k0_off1_inb j),
      Tile.normed (Tile.heads Tile.w640
        (shapeCast S128x512 (View.ld q (Rect.unit (s := S1x2048x512) (k0_off1 j) ![1, 128, 512] (k0_off1_inb j))) shapeCasts_S1x128x512_S128x512)
        (shapeCast S640x512 (View.ld k (Rect.unit (s := S1x2048x512) (k0_off2 j) ![1, 640, 512] (k0_off2_inb j))) shapeCasts_S1x640x512_S640x512)
        (shapeCast S640x512 (View.ld v (Rect.unit (s := S1x2048x512) (k0_off2 j) ![1, 640, 512] (k0_off2_inb j))) shapeCasts_S1x640x512_S640x512)
        (shapeCast S512x640 (View.ld b (Rect.unit (s := S2x512x640) ![0, 0, 0] ![1, 512, 640] inb_S2x512x640_S1x512x640_0_0_0)) shapeCasts_S1x512x640_S512x640)
        (shapeCast S512x640 (View.ld b (Rect.unit (s := S2x512x640) ![1, 0, 0] ![1, 512, 640] inb_S2x512x640_S1x512x640_1_0_0)) shapeCasts_S1x512x640_S512x640))
        (View.ld g (Rect.unit (s := S1x512) ![0, 0] ![1, 512] inb_S1x512_S1x512_0_0))⟩] := by
  have e : ∀ {s : Shape} {e : EltTy} (A : Memref sig .tc .vmem s e) (hA : A.IsWhole) (X : s.Idx → Elt Ideal e) (R : Rect s),
      View.readAt (Elt Ideal) A.view R.toLoadRect (hA.unread X) = View.ld X R :=
    fun A hA X R => funext fun x => hA.readAt_unread X R.toLoadRect x
  unfold tripL_k0_t1 trip_k0_t1
  unfold trip_k0_t1.sl.r_2 trip_k0_t1.sl.r_4 trip_k0_t1.sl.r_5
  unfold trip_k0_t1.sl.r_2 trip_k0_t1.sl.r_3 trip_k0_t1.sl.r trip_k0_t1.sl.r_1
  simp only [e]
  rw [← pay_640]

include hb in
/-- The pieces of the first `n` trips of the loop over the full tiles. -/
theorem trips_piece (𝒱 : Variants) (c : Dev nD) (bd : Option 𝒱.V) (i : grid0.Coords)
    (arg1 : Memref sig .tc .vmem S1x2048x512 .bf16) (harg1 : arg1.IsWhole) (arg2 : Memref sig .tc .vmem S1x2048x512 .bf16) (harg2 : arg2.IsWhole)
    (arg3 : Memref sig .tc .vmem S1x2048x512 .bf16) (harg3 : arg3.IsWhole) (arg4 : Memref sig .tc .vmem S2x512x640 .f32) (harg4 : arg4.IsWhole)
    (arg5 : Memref sig .tc .vmem S1x512 .f32) (harg5 : arg5.IsWhole) (arg6 : Memref sig .tc .vmem S1x2048x512 .bf16) (harg6 : arg6.IsWhole)
    (n : ℕ) (hn : n ≤ k0_t1_loop.trips) :
    ∀ p ∈ pb_k0_t1 (F := Ideal) 𝒱 c bd i arg1 harg1 arg2 harg2 arg3 harg3 arg4 harg4 arg5 harg5 arg6 harg6 k0_pay9
      (harg1.unread q) (harg2.unread k) (harg3.unread v) (harg4.unread b) (harg5.unread g) n,
      ∀ y : p.1.shape.Idx, p.2 y = field q k v g rel (p.1.emb y) := by
  induction n with
  | zero => intro p hp; exact absurd hp List.not_mem_nil
  | succ n ih =>
    intro p hp
    rw [pb_k0_t1_succ (k := ⟨n, hn⟩), trip_eq] at hp
    rcases List.mem_append.mp hp with hp | hp
    · have ht : n < 12 := Nat.lt_of_lt_of_le hn k0_t1_abs.2.1
      obtain rfl := List.mem_singleton.mp hp
      have o₁ : k0_off1 ⟨n, hn⟩ = ![0, 128 * (n + 4), 0] := by rw [k0_off1_eq]; simp only [Nat.mul_add]
      have o₂ : k0_off2 ⟨n, hn⟩ = ![0, 128 * n, 0] := k0_off2_eq _
      dsimp only
      rw [gain_ld]
      intro y
      refine piece q k v b g rel hb Tile.w640 (n + 4) (128 * (n + 4)) (by omega) (by omega) (by omega) (by omega) (by omega) _ _ _ _ _
        (fun s x => ?_) (fun s x => ?_) (fun s x => ?_) (fun s x => ?_) (fun s x => ?_) (k0_off1 ⟨n, hn⟩) (k0_off1_inb _) o₁ y
      · exact (flat_at ..).trans (rows_at _ _ _ _ o₁ s x _)
      · exact (flat_at ..).trans ((rows_at _ _ _ _ o₂ s x (by omega)).trans (congrArg (fun r => k (ix3 0 r x)) (Fin.ext (by dsimp only; omega))))
      · exact (flat_at ..).trans ((rows_at _ _ _ _ o₂ s x (by omega)).trans (congrArg (fun r => v (ix3 0 r x)) (Fin.ext (by dsimp only; omega))))
      · exact (bias_at₀ b s x).trans (congrArg (fun u => b (ix3 0 s u)) (Fin.ext (by dsimp only; omega)))
      · exact (bias_at₁ b s x).trans (congrArg (fun u => b (ix3 1 s u)) (Fin.ext (by dsimp only; omega)))
    · exact ih (Nat.le_of_succ_le hn) p hp

/-- What the kernel leaves of one batch entry is the attention of the entry's blocks. -/
theorem outs_at (m : (ℓ : Loc nD τ sig) → Buf (Elt Ideal) ℓ) (c : Dev nD) (t : Fin cfg0.N) (rel : Fin 8 → Fin 257 → EReal)
    (hb : ∀ (G : Fin 2) (r : Fin 512) (w : Fin 640), iblk m c 3 t (ix3 G r w) = Mean.tile rel G r w.val) (y : S1x2048x512.Idx) :
    outsAt0 m c t y = field (iblk m c 0 t) (iblk m c 1 t) (iblk m c 2 t) (iblk m c 4 t) rel y := by
  unfold outsAt0
  frame_out
  refine View.canon_apply_of_pieces (Val := Elt Ideal) (e := .bf16) (field (iblk m c 0 t) (iblk m c 1 t) (iblk m c 2 t) (iblk m c 4 t) rel) _ ?_ y ?_
  swap
  · exact View.cover_of_tiledL (s := S1x2048x512) _ ![1, 128, 512] (by sl_kernel_rfl) y
  intro p hp
  rcases List.mem_append.mp hp with hp | hp
  · exact trips_piece (iblk m c 0 t) (iblk m c 1 t) (iblk m c 2 t) (iblk m c 3 t) (iblk m c 4 t) rel hb Variants.none c none
      (grid0.coords t) (ms0_0 t) (hs0_0 t) (ms0_1 t) (hs0_1 t) (ms0_2 t) (hs0_2 t) (ms0_3 t) (hs0_3 t) (ms0_4 t) (hs0_4 t)
      (ms0_5 t) (hs0_5 t) _ le_rfl p hp
  · simp only [List.mem_cons, List.not_mem_nil, or_false] at hp
    rcases hp with rfl | rfl | rfl | rfl
    all_goals intro y; dsimp only
    · rw [pay_512]
      exact start_piece _ _ _ _ _ rel hb Tile.w512 3 (by omega) rfl _ rfl _ _ _ _ rfl _ y
    · rw [pay_384]
      exact start_piece _ _ _ _ _ rel hb Tile.w384 2 (by omega) rfl _ rfl _ _ _ _ rfl _ y
    · rw [pay_256]
      exact start_piece _ _ _ _ _ rel hb Tile.w256 1 (by omega) rfl _ rfl _ _ _ _ rfl _ y
    · rw [pay_128]
      exact start_piece _ _ _ _ _ rel hb Tile.w128 0 (by omega) rfl _ rfl _ _ _ _ rfl _ y

/-- The windows' block indices. -/
theorem index_at : ∀ t : Fin cfg0.N, win0_0.index t = ![t.val, 0, 0] ∧ win0_1.index t = ![t.val, 0, 0] ∧ win0_2.index t = ![t.val, 0, 0] ∧
    win0_3.index t = ![0, 0, 0] ∧ win0_4.index t = ![0, 0] ∧ win0_5.index t = ![t.val, 0, 0] :=
  (by decide +kernel : ∀ t : Fin grid0.N, win0_0.index t = ![t.val, 0, 0] ∧ win0_1.index t = ![t.val, 0, 0] ∧
    win0_2.index t = ![t.val, 0, 0] ∧ win0_3.index t = ![0, 0, 0] ∧ win0_4.index t = ![0, 0] ∧ win0_5.index t = ![t.val, 0, 0])

variable (m : (ℓ : Loc nD τ sig) → Buf (Elt Ideal) ℓ) (c : Dev nD)

/-- A grid point's queries are one batch entry's. -/
theorem q_at (t : Fin cfg0.N) (s : Fin 2048) (x : Fin 512) : iblk m c 0 t (ix3 0 s x) =
    (m ((c : Thread nD τ).loc main_arg0) : S8x2048x512.Idx → EReal) (ix3 t s x) := by
  have e := (index_at t).1
  blk_ext [iblk, V_main_arg0, e]

/-- A grid point's keys are one batch entry's. -/
theorem k_at (t : Fin cfg0.N) (s : Fin 2048) (x : Fin 512) : iblk m c 1 t (ix3 0 s x) =
    (m ((c : Thread nD τ).loc main_arg1) : S8x2048x512.Idx → EReal) (ix3 t s x) := by
  have e := (index_at t).2.1
  blk_ext [iblk, V_main_arg1, e]

/-- A grid point's values are one batch entry's. -/
theorem v_at (t : Fin cfg0.N) (s : Fin 2048) (x : Fin 512) : iblk m c 2 t (ix3 0 s x) =
    (m ((c : Thread nD τ).loc main_arg2) : S8x2048x512.Idx → EReal) (ix3 t s x) := by
  have e := (index_at t).2.2.1
  blk_ext [iblk, V_main_arg2, e]

/-- Every grid point sees the bias tiles. -/
theorem b_at (t : Fin cfg0.N) (G : Fin 2) (r : Fin 512) (w : Fin 640) : iblk m c 3 t (ix3 G r w) =
    Mean.tile (fun h a => Bias.rel m c (ix2 h a)) G r w.val := by
  have e := (index_at t).2.2.2.1
  refine Eq.trans ?_ (Bias.tile_at m c G r w)
  blk_ext [iblk, e]

/-- Every grid point sees the gain. -/
theorem g_at (t : Fin cfg0.N) (x : Fin 512) : iblk m c 4 t (ix2 0 x) =
    (m ((c : Thread nD τ).loc main_arg4) : S512.Idx → EReal) (ix1 x) := by
  have e := (index_at t).2.2.2.2.1
  refine Eq.trans ?_ (Bias.gain_at m c x)
  blk_ext [iblk, e]

/-- A grid point writes one batch entry's rows. -/
theorem o_at (t : Fin cfg0.N) (y : S1x2048x512.Idx) : (win0_5.blk t).view.emb y = ix3 t (y 1) (y 2) := by
  have e := (index_at t).2.2.2.2.2
  blk_ext [e]

/-- The kernel's output array is the layer's attention of the argument arrays. -/
theorem array_eq : (dats m 0 c).arrAt 5 cfg0.N =
    Mean.layer (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t _ y => ?_
  blk_simp
  rw [after0_5]
  rw [o_at]
  refine (outs_at m c t _ (b_at m c t) y).trans ?_
  unfold field Mean.layer
  simp only [q_at, k_at, v_at, g_at]
  rfl

end

end Cert.Block

end
-- ==== Proof.RefScore.lean ====
/- The reference's scores at an index: the padded band of keys, the bias by distance, the mask of the padding. -/
module

public import proofs.«01_k».proof.Proof.Gen.AttnRefIdeal.Read
public import proofs.«01_k».proof.Proof.Mean
public import Idealize.ShloMosaic.Lib.KernelVsHost

@[expose] public section

set_option maxRecDepth 16384

noncomputable section

namespace Cert.RefScore

open Cert.AttnRefIdeal Cert.AttnRefIdeal.Gen Cert.AttnRefIdeal.Read Idealize.ShloMosaic

/-- The zero put before the sequence. -/
theorem zero_at (i : S_.Idx) : val_main_call0_v0 (F := Ideal) i = 0 := by
  show (Scalar.sitofp .f32 0#32 : Ideal .f32) = 0
  exact sitofp_zero

/-- What stands at place `P` of the sequence with 512 zeros before it. -/
def place (x : S8x2048x512.Idx → EReal) (b h : Fin 8) (d : Fin 64) (P : ℕ) : EReal :=
  if hP : 512 ≤ P ∧ P < 2560 then x (ix3 b ⟨P - 512, by omega⟩ ⟨64 * h.val + d.val, by omega⟩) else 0

/-- The padded sequence, cut into chunks of 64. -/
theorem pad_at (x1 : S8x2048x512.Idx → EReal) (b : Fin 8) (c : Fin 40) (w : Fin 64) (h : Fin 8) (d : Fin 64) :
    val_main_v6 (F := Ideal) x1 (ix5 b c w h d) = place x1 b h d (64 * c.val + w.val) := by
  pointwise [val_main_v6, val_main_v5, val_main_v4, val_main_v1]
  rw [zero_at]
  unfold place
  by_cases hP : 512 ≤ 64 * c.val + w.val
  · rw [dif_pos (by omega), dif_pos (by omega)]
    exact congrArg x1 (congrArg₂ (ix3 b) (Fin.ext (by dsimp only; omega)) (Fin.ext (by dsimp only; omega)))
  · rw [dif_neg (by omega), dif_neg (by omega)]

/-- The padded band of keys: chunk `c` sees the places `64 c` to `64 c + 575`. -/
theorem keys_at (x1 : S8x2048x512.Idx → EReal) (b : Fin 8) (c : Fin 32) (w : Fin 576) (h : Fin 8) (d : Fin 64) :
    val_main_v16 (F := Ideal) x1 (ix5 b c w h d) = place x1 b h d (64 * c.val + w.val) := by
  unfold val_main_v16
  pointwise [val_main_v7, val_main_v8, val_main_v9, val_main_v10, val_main_v11, val_main_v12, val_main_v13, val_main_v14, val_main_v15]
  simp only [pad_at]
  repeat' split
  all_goals exact congrArg (place x1 b h d) (by omega)

/-- The band of values is laid out as the keys' is. -/
theorem values_eq (x : S8x2048x512.Idx → EReal) : val_main_v29 (F := Ideal) x = val_main_v16 (F := Ideal) x := rfl

/-- The row read for a row number, a negative one counted from the end. -/
def wrap (x : BitVec 32) : BitVec 32 := Scalar.select (IntOp.cmpi .slt x 0#32) (IntOp.addi x 257#32) x

/-- The bias row of a distance: clipped to `-128 … 128` and counted from 0. -/
def row (x : BitVec 32) : BitVec 32 := wrap (IntOp.addi (IntOp.minsi 128#32 (IntOp.maxsi 4294967168#32 x)) 128#32)

/-- The bias row over a distance `n - 63`. -/
theorem row_of : ∀ n : Fin 639, row (BitVec.ofNat 32 n.val - 63#32) = BitVec.ofNat 32 (min (n.val + 65) 256) := by
  decide +kernel

/-- The bias row of a query and a place of its window. -/
theorem rows_at (q : Fin 64) (w : Fin 576) : val_main_v46 (F := Ideal) (ix2 q w) = BitVec.ofNat 32 (min (640 + q.val - w.val) 256) := by
  have e : IntOp.subi (IntOp.addi 512#32 (BitVec.ofNat 32 q.val)) (BitVec.ofNat 32 w.val) = BitVec.ofNat 32 (q.val + 575 - w.val) - 63#32 := by
    apply BitVec.eq_of_toNat_eq
    simp only [IntOp.subi, IntOp.addi, BitVec.toNat_sub, BitVec.toNat_add, BitVec.toNat_ofNat]
    omega
  have h := row_of ⟨q.val + 575 - w.val, by omega⟩
  dsimp only at h
  rw [← e, show q.val + 575 - w.val + 65 = 640 + q.val - w.val by omega] at h
  exact h

/-- A chunk's place is inside the sequence from the 512th place on. -/
theorem inside_of : ∀ n : Fin 2560, IntOp.cmpi .sge (BitVec.ofNat 32 n.val - 512#32) 0#32 = if 512 ≤ n.val then 1#1 else 0#1 := by
  decide +kernel

/-- A place before the sequence is told from one in it. -/
theorem inside_at (c : Fin 32) (w : Fin 576) : val_main_v60 (F := Ideal) (ix2 c w) = if 512 ≤ 64 * c.val + w.val then 1#1 else 0#1 := by
  have e : IntOp.addi (IntOp.muli (IntOp.subi (BitVec.ofNat 32 c.val) 8#32) 64#32) (BitVec.ofNat 32 w.val) =
      BitVec.ofNat 32 (64 * c.val + w.val) - 512#32 := by
    apply BitVec.eq_of_toNat_eq
    simp only [IntOp.subi, IntOp.addi, IntOp.muli, BitVec.toNat_sub, BitVec.toNat_add, BitVec.toNat_mul, BitVec.toNat_ofNat]
    omega
  have h := inside_of ⟨64 * c.val + w.val, by omega⟩
  dsimp only at h
  rw [← e] at h
  exact h

/-- A place before the sequence has the score −∞. -/
theorem mask_at (c : Fin 32) (w : Fin 576) : val_main_v62 (F := Ideal) (ix2 c w) = if 512 ≤ 64 * c.val + w.val then 0 else ⊥ := by
  show val_main_v61 (F := Ideal) (ix2 c w) = _
  pointwise [val_main_v61, val_main_call3_v0, val_main_call3_v1]
  rw [inside_at]
  have h0 : val_main_cst (F := Ideal) ix0 = 0 := by
    show Ideal.ofBits .f32 0x00000000#32 = 0
    simp [Ideal.ofBits, Ideal.ieee]
  have h1 : val_main_cst_10 (F := Ideal) ix0 = ⊥ := by
    show Ideal.ofBits .f32 0xFF800000#32 = ⊥
    simp [Ideal.ofBits, Ideal.ieee]
  rw [h0, h1]
  split <;> rfl

/-- The bias is read at the row of the distance. -/
theorem gather_at (x3 : S8x257.Idx → EReal) (idx : IVec S64x576x1 32) (h : Fin 8) (q : Fin 64) (w : Fin 576) :
    Host.gather gather_S8x257_S64x576x1_S8x64x576_0_1_n_n_1_2_81 x3 idx (ix3 h q w) =
      x3 (ix2 h ⟨min (idx (ix3 q w 0)).toInt.toNat 256, by omega⟩) := by
  have hsi : ∀ c, gather_S8x257_S64x576x1_S8x64x576_0_1_n_n_1_2_81.siIdx (ix3 h q w) c = ix3 q w 0 := by
    intro c
    funext b
    match b with
    | ⟨0, _⟩ => rfl
    | ⟨1, _⟩ => rfl
    | ⟨2, _⟩ => exact Subsingleton.elim (α := Fin 1) _ _
  unfold Host.gather
  congr 1
  funext a
  match a with
  | ⟨0, _⟩ =>
    refine Fin.ext ?_
    show GatherDims.start _ _ _ 0 + GatherDims.batchCoord _ _ 0 + GatherDims.offCoord _ _ 0 = h.val
    rw [GatherDims.batchCoord_eq_zero _ _ _ List.not_mem_nil]
    unfold GatherDims.start
    rw [dif_neg (by decide)]
    show 0 + 0 + h.val = h.val
    omega
  | ⟨1, _⟩ =>
    refine Fin.ext ?_
    show GatherDims.start _ _ _ 1 + GatherDims.batchCoord _ _ 1 + GatherDims.offCoord _ _ 1 = min (idx (ix3 q w 0)).toInt.toNat 256
    rw [GatherDims.batchCoord_eq_zero _ _ _ List.not_mem_nil,
      GatherDims.offCoord_eq_zero _ _ _ (fun hm => ((GatherDims.mem_sKept _ _).mp hm).1 (List.mem_singleton.mpr rfl))]
    unfold GatherDims.start
    rw [dif_pos (show (1 : Fin S8x257.rank) ∈ gather_S8x257_S64x576x1_S8x64x576_0_1_n_n_1_2_81.startIndexMap from List.mem_singleton.mpr rfl), hsi]
    rfl

/-- The bias of a head, a query and a place of its window. -/
theorem bias_at (x3 : S8x257.Idx → EReal) (h : Fin 8) (q : Fin 64) (w : Fin 576) :
    val_main_v48 (F := Ideal) x3 (ix3 h q w) = x3 (ix2 h ⟨min (640 + q.val - w.val) 256, by omega⟩) := by
  unfold val_main_v48
  rw [gather_at]
  have e : val_main_v47 (F := Ideal) (ix3 q w 0) = BitVec.ofNat 32 (min (640 + q.val - w.val) 256) := by
    rw [← rows_at]
    pointwise [val_main_v47]
  refine congrArg (fun a => x3 (ix2 h a)) (Fin.ext ?_)
  dsimp only
  rw [e, BitVec.toInt_eq_toNat_of_lt (by rw [BitVec.toNat_ofNat]; omega), BitVec.toNat_ofNat]
  omega

end Cert.RefScore

end
-- ==== Proof.Ref.lean ====
/- The reference is the layer's attention where the queries, the keys and the biases are real numbers. -/
module

public import proofs.«01_k».proof.Proof.RefScore

@[expose] public section

set_option maxRecDepth 16384

noncomputable section

namespace Cert.Ref

open Cert.AttnRefIdeal Cert.AttnRefIdeal.Gen Cert.AttnRefIdeal.Read Idealize.ShloMosaic Cert.RefScore

/-- Every entry of an array is a real number. -/
def Real {s : Shape} (x : s.Idx → EReal) : Prop := ∀ i, ∃ r : ℝ, x i = r

/-- The rows of batch `b`. -/
abbrev rows (x : S8x2048x512.Idx → EReal) (b : Fin 8) : Fin 2048 → Fin 512 → EReal := fun s l => x (ix3 b s l)

/-- The biases by head and row. -/
abbrev table (x : S8x257.Idx → EReal) : Fin 8 → Fin 257 → EReal := fun h a => x (ix2 h a)

/-- The reference's score of a query and a place of its window. -/
theorem score_at (x0 x1 : S8x2048x512.Idx → EReal) (x3 : S8x257.Idx → EReal) (b : Fin 8) (c : Fin 32) (h : Fin 8) (q : Fin 64) (w : Fin 576)
    (d : Fin 64) :
    val_main_v69 (F := Ideal) x0 x1 x3 (ix5 b c h q w) =
      Mean.score (rows x0 b) (rows x1 b) (table x3) ⟨64 * c.val + q.val, by omega⟩ ⟨64 * h.val + d.val, by omega⟩ (64 * c.val + w.val) := by
  pointwise [val_main_v69, val_main_v66, val_main_v64, val_main_v65, val_main_v67, val_main_v68, val_main_v63, val_main_v3, val_main_v0]
  simp only [keys_at, bias_at, mask_at]
  unfold Mean.score Mean.bias
  by_cases hP : 512 ≤ 64 * c.val + w.val
  · rw [if_pos hP, dif_pos (by dsimp only; omega), add_zero]
    have ek : ∀ x : Fin 64, place x1 b h x (64 * c.val + w.val) = x1 (ix3 b ⟨64 * c.val + w.val - 512, by omega⟩ ⟨64 * h.val + x.val, by omega⟩) :=
      fun x => dif_pos (by omega)
    refine congrArg₂ (· + ·) (Finset.sum_congr rfl fun x _ => ?_) ?_
    · rw [ek]
      refine congrArg₂ (· * ·) ?_ ?_
      · exact congrArg x0 (congrArg₂ (ix3 b) (Fin.ext (by dsimp only; omega)) (Fin.ext (by dsimp only; omega)))
      · exact congrArg x1 (congrArg₂ (ix3 b) rfl (Fin.ext (by dsimp only; omega)))
    · exact congrArg x3 (congrArg₂ ix2 (Fin.ext (by dsimp only; omega)) (Fin.ext (by dsimp only; omega)))
  · rw [if_neg hP, dif_neg (by dsimp only; omega), EReal.add_bot]

/-- The word of −∞. -/
theorem low_at : Ideal.ofBits .f32 0xFF800000#32 = ⊥ := by simp [Ideal.ofBits, Ideal.ieee]

/-- The word of zero. -/
theorem nil_at : Ideal.ofBits .f32 0x00000000#32 = 0 := by simp [Ideal.ofBits, Ideal.ieee]

/-- A maximum over a window, from −∞. -/
theorem fold_at (y : S8x32x8x64x576.Idx → EReal) (b : Fin 8) (c : Fin 32) (h : Fin 8) (q : Fin 64) :
    Host.reduce (FloatOps.maximumf (F := Ideal) (φ := .f32)) y (val_main_cst_11 (F := Ideal)) reducesTo_S8x32x8x64x576_S8x32x8x64_d4 h_S_ (ix4 b c h q) =
      Finset.univ.fold max ⊥ fun w : Fin 576 => y (ix5 b c h q w) := by
  have e : val_main_cst_11 (F := Ideal) (Shape.Idx.first h_S_) = ⊥ := low_at
  rw [← e]
  generalize val_main_cst_11 (F := Ideal) = z
  pointwise

/-- The largest score of a query. -/
theorem max_at (x0 x1 : S8x2048x512.Idx → EReal) (x3 : S8x257.Idx → EReal) (b : Fin 8) (c : Fin 32) (h : Fin 8) (q : Fin 64) :
    val_main_v72 (F := Ideal) x0 x1 x3 (ix4 b c h q) = Finset.univ.fold max ⊥ fun w : Fin 576 => val_main_v69 (F := Ideal) x0 x1 x3 (ix5 b c h q w) := by
  rw [val_main_v72_apply, val_main_v71_apply]
  unfold val_main_v70
  rw [fold_at]
  generalize (Finset.univ.fold max ⊥ fun w : Fin 576 => val_main_v69 (F := Ideal) x0 x1 x3 (ix5 b c h q w)) = z
  show max (Ideal.ofBits .f32 0xFF800000#32) z = z
  rw [low_at]
  exact max_eq_right bot_le

/-- The weights' sum of a query. -/
theorem sum_at (x0 x1 : S8x2048x512.Idx → EReal) (x3 : S8x257.Idx → EReal) (b : Fin 8) (c : Fin 32) (h : Fin 8) (q d : Fin 64) :
    (∑ w : Fin 576, Ideal.exp (val_main_v69 (F := Ideal) x0 x1 x3 (ix5 b c h q w) - Finset.univ.fold max ⊥ fun w : Fin 576 => val_main_v69 (F := Ideal) x0 x1 x3 (ix5 b c h q w))) =
      ∑ P ∈ Finset.range 2560, Soft.wt 2560 (Mean.score (rows x0 b) (rows x1 b) (table x3) ⟨64 * c.val + q.val, by omega⟩ ⟨64 * h.val + d.val, by omega⟩) P ∧
    ∀ x2 : S8x2048x512.Idx → EReal,
    (∑ w : Fin 576, Ideal.exp (val_main_v69 (F := Ideal) x0 x1 x3 (ix5 b c h q w) - Finset.univ.fold max ⊥ fun w : Fin 576 => val_main_v69 (F := Ideal) x0 x1 x3 (ix5 b c h q w))
        * place x2 b h d (64 * c.val + w.val)) =
      ∑ P ∈ Finset.range 2560, Soft.wt 2560 (Mean.score (rows x0 b) (rows x1 b) (table x3) ⟨64 * c.val + q.val, by omega⟩ ⟨64 * h.val + d.val, by omega⟩) P
        * Mean.value (rows x2 b) ⟨64 * h.val + d.val, by omega⟩ P := by
  have W := fun x2 : S8x2048x512.Idx → EReal => Soft.window (N := 2560) (a := 64 * c.val) (K := 576) (by omega)
    (s := fun w : Fin 576 => val_main_v69 (F := Ideal) x0 x1 x3 (ix5 b c h q w)) (v := fun w => place x2 b h d (64 * c.val + w.val))
    (S := Mean.score (rows x0 b) (rows x1 b) (table x3) ⟨64 * c.val + q.val, by omega⟩ ⟨64 * h.val + d.val, by omega⟩)
    (V := Mean.value (rows x2 b) ⟨64 * h.val + d.val, by omega⟩)
    (fun w => score_at x0 x1 x3 b c h q w d) (fun w _ => rfl)
    (fun P hP hw => by
      unfold Mean.score
      exact dif_neg (by dsimp only; omega))
  exact ⟨(W x0).2.1, fun x2 => (W x2).2.2⟩

/-- The products of real rows sum to a real. -/
theorem dot_real {ι : Type} (s : Finset ι) (f g : ι → EReal) (hf : ∀ i, ∃ r : ℝ, f i = r) (hg : ∀ i, ∃ r : ℝ, g i = r) :
    ∃ r : ℝ, ∑ i ∈ s, f i * g i = r := by
  classical
  induction s using Finset.induction with
  | empty => exact ⟨0, by simp⟩
  | insert i s hi ih =>
    obtain ⟨r, hr⟩ := ih
    obtain ⟨a, ha⟩ := hf i
    obtain ⟨b, hb⟩ := hg i
    exact ⟨a * b + r, by rw [Finset.sum_insert hi, hr, ha, hb]; push_cast; rfl⟩

/-- A score of real arrays is a real inside the window. -/
theorem score_real {x0 x1 : S8x2048x512.Idx → EReal} {x3 : S8x257.Idx → EReal} (h0 : Real x0) (h1 : Real x1) (h3 : Real x3) (b : Fin 8)
    (s : Fin 2048) (x : Fin 512) (P : ℕ) :
    (∃ r : ℝ, Mean.score (rows x0 b) (rows x1 b) (table x3) s x P = r) ∨
      ¬(64 * (s.val / 64) ≤ P ∧ P < 64 * (s.val / 64) + 576 ∧ 512 ≤ P) ∧ Mean.score (rows x0 b) (rows x1 b) (table x3) s x P = ⊥ := by
  unfold Mean.score Mean.bias
  by_cases h : 64 * (s.val / 64) ≤ P ∧ P < 64 * (s.val / 64) + 576 ∧ 512 ≤ P
  · left
    rw [dif_pos h]
    obtain ⟨r, hr⟩ := dot_real Finset.univ (fun d : Fin 64 => rows x0 b s ⟨64 * (x.val / 64) + d.val, by omega⟩)
      (fun d : Fin 64 => rows x1 b ⟨P - 512, by omega⟩ ⟨64 * (x.val / 64) + d.val, by omega⟩) (fun d => h0 _) (fun d => h1 _)
    obtain ⟨t, ht⟩ := h3 (ix2 ⟨x.val / 64, by omega⟩ ⟨min (640 + s.val % 64 - (P - 64 * (s.val / 64))) 256, by omega⟩)
    exact ⟨r + t, by rw [EReal.coe_add, ← hr, ← ht]⟩
  · right
    exact ⟨h, dif_neg h⟩

/-- The weights' sum of real arrays is a positive real. -/
theorem den_at {x0 x1 : S8x2048x512.Idx → EReal} {x3 : S8x257.Idx → EReal} (h0 : Real x0) (h1 : Real x1) (h3 : Real x3) (b : Fin 8)
    (s : Fin 2048) (x : Fin 512) :
    ∃ d : ℝ, 0 < d ∧ ∑ P ∈ Finset.range 2560, Soft.wt 2560 (Mean.score (rows x0 b) (rows x1 b) (table x3) s x) P = (d : EReal) := by
  refine Soft.den_real (P₀ := 512 + s.val) (fun P _ => ?_) (by omega) ?_
  · rcases score_real h0 h1 h3 b s x P with ⟨r, hr⟩ | ⟨_, hr⟩
    · rw [hr]; exact EReal.coe_ne_top r
    · rw [hr]; exact bot_ne_top
  · rcases score_real h0 h1 h3 b s x (512 + s.val) with ⟨r, hr⟩ | ⟨h, _⟩
    · rw [hr]; exact EReal.coe_ne_bot r
    · omega

/-- The weighted mean before the normalisation: the weights are divided by their sum before the values are weighted. -/
theorem mean_at {x0 x1 : S8x2048x512.Idx → EReal} {x3 : S8x257.Idx → EReal} (h0 : Real x0) (h1 : Real x1) (h3 : Real x3)
    (x2 : S8x2048x512.Idx → EReal) (b : Fin 8) (c : Fin 32) (h : Fin 8) (q d : Fin 64) :
    val_main_v81 (F := Ideal) x0 x1 x2 x3 (ix5 b c h d q) =
      Mean.mean (rows x0 b) (rows x1 b) (rows x2 b) (table x3) ⟨64 * c.val + q.val, by omega⟩ ⟨64 * h.val + d.val, by omega⟩ := by
  pointwise [val_main_v81, val_main_v80, val_main_v79, val_main_v78, val_main_v77, val_main_v76, val_main_v75, val_main_v74, val_main_v73]
  simp only [max_at, values_eq, keys_at]
  rw [show val_main_cst_13 (F := Ideal) (Shape.Idx.first h_S_) = 0 from nil_at, zero_add]
  obtain ⟨e, E⟩ := sum_at x0 x1 x3 b c h q d
  obtain ⟨r, hr, er⟩ := den_at h0 h1 h3 b ⟨64 * c.val + q.val, by omega⟩ ⟨64 * h.val + d.val, by omega⟩
  unfold Mean.mean Soft.mean
  rw [e, er, ← E x2, ← Soft.div_inside _ _ _ hr]
  exact Finset.sum_congr rfl fun w _ => mul_comm _ _

/-- A row's sum of squares. -/
theorem squares_at (x0 x1 x2 : S8x2048x512.Idx → EReal) (x3 : S8x257.Idx → EReal) (b : Fin 8) (s : Fin 2048) :
    val_main_v85 (F := Ideal) x0 x1 x2 x3 (ix2 b s) =
      ∑ l : Fin 512, val_main_v83 (F := Ideal) x0 x1 x2 x3 (ix3 b s l) * val_main_v83 (F := Ideal) x0 x1 x2 x3 (ix3 b s l) := by
  rw [val_main_v85_apply, show val_main_cst_14 (F := Ideal) (Shape.Idx.first h_S_) = 0 from nil_at, zero_add]
  refine Finset.sum_congr rfl fun l _ => ?_
  rw [val_main_v84_apply, show idx_main_v85 (ix2 b s) l = ix3 b s l from funext fun a => match a with | ⟨0, _⟩ => rfl | ⟨1, _⟩ => rfl | ⟨2, _⟩ => rfl]
  rfl

/-- A row's root mean square, inverted. -/
theorem scale_at (x0 x1 x2 : S8x2048x512.Idx → EReal) (x3 : S8x257.Idx → EReal) (b : Fin 8) (s : Fin 2048) (x : Fin 512) :
    val_main_v92 (F := Ideal) x0 x1 x2 x3 (ix3 b s x) =
      Ideal.rsqrt (Ideal.div (val_main_v85 (F := Ideal) x0 x1 x2 x3 (ix2 b s)) (Ideal.ofBits .f32 0x44000000#32) + Ideal.ofBits .f32 0x358637BD#32) := by
  rw [val_main_v92_apply, val_main_v91_apply, val_main_v90_apply, val_main_v89_apply, val_main_v88_apply, val_main_v87_apply, val_main_v86_apply]
  rw [show idx_main_v86 (idx_main_v92 (ix3 b s x)) = ix2 b s from funext fun a => match a with | ⟨0, _⟩ => rfl | ⟨1, _⟩ => rfl]
  generalize val_main_v85 (F := Ideal) x0 x1 x2 x3 (ix2 b s) = z
  unfold val_main_cst_15 val_main_cst_16
  rfl

/-- The last steps of the reference are the normalisation. -/
theorem out_at (x0 x1 x2 : S8x2048x512.Idx → EReal) (x3 : S8x257.Idx → EReal) (x4 : S512.Idx → EReal) (b : Fin 8) (s : Fin 2048) (x : Fin 512) :
    val_main_v97 (F := Ideal) x0 x1 x2 x3 x4 (ix3 b s x) = Mean.normal (fun l => val_main_v83 (F := Ideal) x0 x1 x2 x3 (ix3 b s l)) (fun l => x4 (ix1 l)) x := by
  rw [val_main_v97_apply, val_main_v96_apply, val_main_v95_apply, val_main_v94_apply, val_main_v93_apply, scale_at, squares_at]
  rw [show idx_main_v94 (idx_main_v95 (ix3 b s x)) = ix1 x from funext fun a => match a with | ⟨0, _⟩ => rfl]
  unfold Mean.normal
  generalize val_main_v83 (F := Ideal) x0 x1 x2 x3 = y
  rfl

/-- The mean's place in the output. -/
theorem flat_at (x0 x1 x2 : S8x2048x512.Idx → EReal) (x3 : S8x257.Idx → EReal) (b : Fin 8) (s : Fin 2048) (x : Fin 512) :
    val_main_v83 (F := Ideal) x0 x1 x2 x3 (ix3 b s x) = val_main_v81 (F := Ideal) x0 x1 x2 x3
      (ix5 b ⟨s.val / 64, by omega⟩ ⟨x.val / 64, by omega⟩ ⟨x.val % 64, by omega⟩ ⟨s.val % 64, by omega⟩) := by
  pointwise [val_main_v83, val_main_v82]

/-- The reference is the layer's attention, where the queries, the keys and the biases are real numbers. -/
theorem array_eq {x0 x1 : S8x2048x512.Idx → EReal} {x3 : S8x257.Idx → EReal} (h0 : Real x0) (h1 : Real x1) (h3 : Real x3)
    (x2 : S8x2048x512.Idx → EReal) (x4 : S512.Idx → EReal) :
    val_main_v97 (F := Ideal) x0 x1 x2 x3 x4 = Mean.layer x0 x1 x2 x3 x4 := by
  funext i
  obtain ⟨b, s, x, rfl⟩ : ∃ (b : Fin 8) (s : Fin 2048) (x : Fin 512), i = ix3 b s x :=
    ⟨i 0, i 1, i 2, funext fun a => match a with | ⟨0, _⟩ => rfl | ⟨1, _⟩ => rfl | ⟨2, _⟩ => rfl⟩
  rw [out_at]
  show _ = Mean.normal (Mean.mean (rows x0 b) (rows x1 b) (rows x2 b) (table x3) s) (fun l => x4 (ix1 l)) x
  refine congrArg (fun y => Mean.normal y (fun l => x4 (ix1 l)) x) (funext fun l => ?_)
  rw [flat_at, mean_at h0 h1 h3]
  exact congrArg₂ (Mean.mean (rows x0 b) (rows x1 b) (rows x2 b) (table x3)) (Fin.ext (by dsimp only; omega)) (Fin.ext (by dsimp only; omega))

end Cert.Ref

end
-- ==== Proof.Finite.lean ====
/- What the precondition says of an array: every entry is a real number. -/
module

public import proofs.«01_k».proof.Proof.Gen.Pre_finite_scores
public import proofs.«01_k».proof.Proof.Ref
public import Idealize.ShloMosaic.Lib.ReduceAll

@[expose] public section

set_option maxRecDepth 16384

noncomputable section

namespace Cert.Finite

open Idealize.ShloMosaic

/-- A number whose absolute value is below +∞ is real. -/
theorem real_of_lt {x : EReal} (h : Ideal.cmp .olt (max x (-x)) (Ideal.ofBits .f32 0x7F800000#32) = 1#1) : ∃ r : ℝ, x = r := by
  have e : Ideal.ofBits .f32 0x7F800000#32 = ⊤ := by simp [Ideal.ofBits, Ideal.ieee]
  rw [e] at h
  have hlt : max x (-x) < ⊤ := by
    by_contra hn
    simp [Ideal.cmp, hn] at h
  induction x using EReal.rec with
  | bot => simp at hlt
  | coe r => exact ⟨r, rfl⟩
  | top => simp at hlt

/-- The test of a whole array says that every entry is real. -/
theorem real_of_all {s t u : Shape} {axes : List (Fin s.rank)} [Subsingleton t.Idx] {x : s.Idx → EReal} {b : s.Idx → EReal} {init : u.Idx → BitVec 1}
    (h : s.ReducesTo axes t) (hu : 0 < u.numel) (j : t.Idx) (hb : ∀ i, b i = Ideal.ofBits .f32 0x7F800000#32)
    (e : Host.reduce IntOp.andi (fun i => Ideal.cmp .olt (max (x i) (-(x i))) (b i)) init h hu j = 1#1) : Cert.Ref.Real x :=
  fun i => real_of_lt (by have := Host.reduce_andi_all _ _ h hu j e i; rwa [hb] at this)

attribute [local instance] Cert.Pre_finite_scores.Gen.facts

/-- The precondition says that the queries, the keys and the biases are real numbers. -/
theorem scores {x0 x1 x2 : Cert.Pre_finite_scores.S8x2048x512.Idx → EReal} {x3 : Cert.Pre_finite_scores.S8x257.Idx → EReal}
    {x4 : Cert.Pre_finite_scores.S512.Idx → EReal}
    (h : Cert.Pre_finite_scores.fn (F := Ideal) x0 x1 x2 x3 x4 = fun _ => 1#1) : Cert.Ref.Real x0 ∧ Cert.Ref.Real x1 ∧ Cert.Ref.Real x3 := by
  have h' := congrFun h ix0
  unfold Cert.Pre_finite_scores.fn at h'
  obtain ⟨h01, h3⟩ := IntOp.andi_eq_one.mp h'
  obtain ⟨h0, h1⟩ := IntOp.andi_eq_one.mp h01
  haveI : Subsingleton Cert.Pre_finite_scores.S_.Idx := ⟨fun a b => funext fun i => i.elim0⟩
  exact ⟨real_of_all _ _ _ (fun _ => rfl) h0, real_of_all _ _ _ (fun _ => rfl) h1, real_of_all _ _ _ (fun _ => rfl) h3⟩

end Cert.Finite

end
-- ==== Proof.Proj.lean ====
/- The projection's tile read at an index: a normalised row against a column of the weights. -/
module

public import proofs.«01_k».proof.Proof.Gen.InpIdeal.Value
public import Idealize.ShloMosaic.Lib.Pipeline.ValueKit
public import Idealize.ShloMosaic.Lib.WholeRead
public import Idealize.ShloMosaic.Lib.ValueLayout

@[expose] public section

set_option maxRecDepth 16384

noncomputable section

namespace Cert.Proj

open Cert.InpIdeal Cert.InpIdeal.Gen Idealize.ShloMosaic

/-- A row over its root mean square, times the gain. -/
def normal (y g : Fin 1024 → EReal) (k : Fin 1024) : EReal :=
  y k * Ideal.rsqrt (Ideal.div (∑ x, y x * y x) (Ideal.ofBits .f32 0x44800000#32) + Ideal.ofBits .f32 0x358637BD#32) * g k

/-- The normalised row against one column of the weights. -/
def column (y g : Fin 1024 → EReal) (w : Fin 1024 → EReal) : EReal := ∑ k, normal y g k * w k

/-- The kernel's normalised tile. -/
def tile (v3 : FVec Ideal S512x1024 .f32) (v4 : FVec Ideal S1x1024 .f32) : FVec Ideal S512x1024 .f32 :=
  mulf (mulf v3 (broadcastTo S512x1024
    (rsqrt (addf (divf (shapeCast S512x1 (multiReduction .add [1] S512 (mulf v3 v3) 0x00000000#32 reduces_S512x1024_S512 (.inl rfl) rfl) shapeCasts_S512_S512x1)
      (broadcast S512x1 (Scalar.ofBits .f32 0x44800000#32))) (broadcast S512x1 (Scalar.ofBits .f32 0x358637BD#32))))
    broadcasts_S512x1_S512x1024)) (broadcastTo S512x1024 v4 broadcasts_S1x1024_S512x1024)

/-- The tile at an index is the row's norm. -/
theorem tile_at (v3 : FVec Ideal S512x1024 .f32) (v4 : FVec Ideal S1x1024 .f32) (i : Fin 512) (k : Fin 1024) :
    tile v3 v4 (ix2 i k) = normal (fun x => v3 (ix2 i x)) (fun x => v4 (ix2 0 x)) k := by
  unfold normal
  pointwise [tile]

/-- A tile against the weights, at an index. -/
theorem dot_at (x : FVec Ideal S512x1024 .bf16) (w : FVec Ideal S1024x2560 .bf16) (i : Fin 512) (j : Fin 2560) :
    matmul (F := Ideal) dot_S512x1024_S1024x2560_S512x2560_1_0_0_1_n_n none x w (constant S512x2560 .f32 0x00000000#32) (ix2 i j) =
      ∑ k : Fin 1024, x (ix2 i k) * w (ix2 k j) := by
  pointwise

/-- The printed product at an index. -/
theorem product_at (v3 : Vec Ideal S512x1024 .f32) (v4 : Vec Ideal S1x1024 .f32) (w : Vec Ideal S1024x2560 .bf16) (i : Fin 512) (j : Fin 2560) :
    k0_pay5 v3 v4 w (ix2 i j) = column (fun x => v3 (ix2 i x)) (fun x => v4 (ix2 0 x)) (fun k => w (ix2 k j)) := by
  refine (dot_at (truncf .bf16 (tile v3 v4) bitsLt_bf16_f32) w i j).trans (Finset.sum_congr rfl fun k _ => ?_)
  exact congrArg (· * w (ix2 k j)) (tile_at v3 v4 i k)

end Cert.Proj

end
-- ==== Proof.ProjBlock.lean ====
/- What the projection's grid points leave, and the seven arrays after the run. -/
module

public import proofs.«01_k».proof.Proof.Proj

@[expose] public section

set_option maxRecDepth 16384

noncomputable section

namespace Cert.ProjBlock

open Cert.InpIdeal Cert.InpIdeal.Gen Idealize.ShloMosaic Idealize.ShloMosaic.TcCoe Idealize.SL.Sem

/-! ## The parts of a tile's product -/

/-- A row of a tile, the gain and a column of the weights. -/
def part (x : Vec Ideal S512x1024 .f32) (g : Vec Ideal S1x1024 .f32) (w : Vec Ideal S1024x2560 .bf16) (i : Fin 512) (j : Fin 2560) : EReal :=
  Proj.column (fun k => x (ix2 i k)) (fun k => g (ix2 0 k)) (fun k => w (ix2 k j))

section
variable (x : Vec Ideal S512x1024 .f32) (g : Vec Ideal S1x1024 .f32) (w : Vec Ideal S1024x2560 .bf16) (i j : Fin 512)

/-- The first part: the recurrence's input. -/
theorem part₀ : k0_pay6 x g w (ix2 i j) = part x g w i ⟨0 + j.val, by omega⟩ := by
  refine Eq.trans ?_ (Proj.product_at x g w i ⟨0 + j.val, by omega⟩)
  unfold k0_pay6
  generalize k0_pay5 x g w = p
  pointwise

/-- The second part: the gate. -/
theorem part₁ : k0_pay7 x g w (ix2 i j) = part x g w i ⟨512 + j.val, by omega⟩ := by
  refine Eq.trans ?_ (Proj.product_at x g w i ⟨512 + j.val, by omega⟩)
  unfold k0_pay7
  generalize k0_pay5 x g w = p
  pointwise

/-- The third part: the queries, scaled. -/
theorem part₂ : k0_pay8 x g w (ix2 i j) = part x g w i ⟨1024 + j.val, by omega⟩ * Ideal.ofBits .f32 0x3E000000#32 := by
  refine Eq.trans ?_ (congrArg (· * Ideal.ofBits .f32 0x3E000000#32) (Proj.product_at x g w i ⟨1024 + j.val, by omega⟩))
  unfold k0_pay8
  generalize k0_pay5 x g w = p
  pointwise

/-- The fourth part: the keys. -/
theorem part₃ : k0_pay9 x g w (ix2 i j) = part x g w i ⟨1536 + j.val, by omega⟩ := by
  refine Eq.trans ?_ (Proj.product_at x g w i ⟨1536 + j.val, by omega⟩)
  unfold k0_pay9
  generalize k0_pay5 x g w = p
  pointwise

/-- The fifth part: the values. -/
theorem part₄ : k0_pay1 (k0_pay10 x g w) (ix2 i j) = part x g w i ⟨2048 + j.val, by omega⟩ := by
  refine Eq.trans ?_ (Proj.product_at x g w i ⟨2048 + j.val, by omega⟩)
  unfold k0_pay1 k0_pay10
  generalize k0_pay5 x g w = p
  pointwise

/-- The kept weights are the weights. -/
theorem keep_eq (v : Vec Ideal S1024x2560 .f32) : k0_pay4 v = v := by
  funext y
  idx_vars y
  pointwise [k0_pay4]

end

variable (m : (ℓ : Loc nD τ sig) → Buf (Elt Ideal) ℓ) (c : Dev nD)

/-! ## The blocks of the arguments -/

/-- The windows' block indices. -/
theorem index_at : ∀ t : Fin cfg0.N, win0_0.index t = ![t.val, 0] ∧ win0_1.index t = ![0, 0] ∧ win0_2.index t = ![0, 0] ∧
    win0_3.index t = ![t.val, 0] ∧ win0_4.index t = ![t.val, 0] ∧ win0_5.index t = ![t.val, 0] ∧ win0_6.index t = ![t.val, 0] ∧
    win0_7.index t = ![t.val, 0] ∧ win0_8.index t = ![t.val, 0] ∧ win0_9.index t = ![t.val, 0] ∧ win0_10.index t = ![t.val, 0] ∧
    win0_11.index t = ![t.val, 0] :=
  (by decide +kernel : ∀ t : Fin grid0.N, win0_0.index t = ![t.val, 0] ∧ win0_1.index t = ![0, 0] ∧ win0_2.index t = ![0, 0] ∧
    win0_3.index t = ![t.val, 0] ∧ win0_4.index t = ![t.val, 0] ∧ win0_5.index t = ![t.val, 0] ∧ win0_6.index t = ![t.val, 0] ∧
    win0_7.index t = ![t.val, 0] ∧ win0_8.index t = ![t.val, 0] ∧ win0_9.index t = ![t.val, 0] ∧ win0_10.index t = ![t.val, 0] ∧
    win0_11.index t = ![t.val, 0])

/-- There are 32 grid points. -/
theorem below (t : Fin cfg0.N) : t.val < 32 := lt_of_lt_of_eq t.isLt N_0

/-- A grid point's rows of the input. -/
theorem x_at (t : Fin cfg0.N) (s : Fin 512) (k : Fin 1024) : iblk m c 0 t (ix2 s k) =
    (m ((c : Thread nD τ).loc main_arg0) : S16384x1024.Idx → EReal) (ix2 ⟨512 * t.val + s.val, by have := below t; omega⟩ k) := by
  have e := (index_at t).1
  blk_ext [iblk, V_main_arg0, e]

/-- Every grid point sees the gain. -/
theorem g_at (t : Fin cfg0.N) (k : Fin 1024) : iblk m c 1 t (ix2 0 k) =
    (m ((c : Thread nD τ).loc main_arg1) : S1x1024.Idx → EReal) (ix2 0 k) := by
  have e := (index_at t).2.1
  blk_ext [iblk, V_main_arg1, e]

/-- Every grid point sees the weights. -/
theorem w_at (t : Fin cfg0.N) (k : Fin 1024) (j : Fin 2560) : iblk m c 2 t (ix2 k j) =
    (m ((c : Thread nD τ).loc main_arg2) : S1024x2560.Idx → EReal) (ix2 k j) := by
  have e := (index_at t).2.2.1
  blk_ext [iblk, V_main_arg2, e]

/-- Every grid point sees the same weights. -/
theorem w_eq (t : Fin cfg0.N) : iblk m c 2 t = (m ((c : Thread nD τ).loc main_arg2) : S1024x2560.Idx → EReal) := by
  funext y
  idx_vars y
  exact w_at m c t y0 y1

/-- A grid point's rows of the experts' weights. -/
theorem d_at (t : Fin cfg0.N) (s : Fin 256) (k : Fin 1024) : iblk m c 3 t (ix2 s k) =
    (m ((c : Thread nD τ).loc main_arg3) : S8192x1024.Idx → EReal) (ix2 ⟨256 * t.val + s.val, by have := below t; omega⟩ k) := by
  have e := (index_at t).2.2.2.1
  blk_ext [iblk, V_main_arg3, e]

/-- A grid point's rows of the output's weights. -/
theorem o_at (t : Fin cfg0.N) (s : Fin 32) (k : Fin 1024) : iblk m c 4 t (ix2 s k) =
    (m ((c : Thread nD τ).loc main_arg4) : S1024x1024.Idx → EReal) (ix2 ⟨32 * t.val + s.val, by have := below t; omega⟩ k) := by
  have e := (index_at t).2.2.2.2.1
  blk_ext [iblk, V_main_arg4, e]

/-! ## What a grid point leaves -/

/-- After every grid point the kernel keeps the weights. -/
theorem kept (n : ℕ) (hn : n < cfg0.N) :
    (outsAt0 m c n hn).2.2.2.2.2.2.2 = (m ((c : Thread nD τ).loc main_arg2) : S1024x2560.Idx → EReal) := by
  induction n with
  | zero =>
    rw [outsAt0_A m c ⟨0, hn⟩ rfl]
    dsimp only
    unfold sout0_A_0
    frame_out
    exact (keep_eq _).trans (w_eq m c _)
  | succ n ih =>
    have h : ¬(n + 1) % 32 = 0 := by
      have := below ⟨n + 1, hn⟩
      dsimp only at this
      omega
    rw [outsAt0_B m c ⟨n + 1, hn⟩ h]
    dsimp only
    unfold sout0_B_0
    exact ih _

/-- What a grid point leaves of the recurrence's input. -/
theorem left_5 (t : Fin cfg0.N) : (outsAt0 m c t.val t.isLt).1 = k0_pay6 (iblk m c 0 t) (iblk m c 1 t) (m ((c : Thread nD τ).loc main_arg2) : S1024x2560.Idx → EReal) := by
  by_cases h : t.val % 32 = 0
  · rw [outsAt0_A m c t h]
    dsimp only
    unfold out0_A_5
    frame_out
    rw [keep_eq, w_eq]
  · rw [outsAt0_B m c t h]
    dsimp only
    unfold out0_B_5
    frame_out
    rw [kept]
    exact congrArg (fun w => k0_pay6 (iblk m c 0 t) (iblk m c 1 t) w) ((Memref.isWhole_whole _).read_unread _)

/-- What a grid point leaves of the gate. -/
theorem left_6 (t : Fin cfg0.N) : (outsAt0 m c t.val t.isLt).2.1 = k0_pay7 (iblk m c 0 t) (iblk m c 1 t) (m ((c : Thread nD τ).loc main_arg2) : S1024x2560.Idx → EReal) := by
  by_cases h : t.val % 32 = 0
  · rw [outsAt0_A m c t h]
    dsimp only
    unfold out0_A_6
    frame_out
    rw [keep_eq, w_eq]
  · rw [outsAt0_B m c t h]
    dsimp only
    unfold out0_B_6
    frame_out
    rw [kept]
    exact congrArg (fun w => k0_pay7 (iblk m c 0 t) (iblk m c 1 t) w) ((Memref.isWhole_whole _).read_unread _)

/-- What a grid point leaves of the queries. -/
theorem left_7 (t : Fin cfg0.N) : (outsAt0 m c t.val t.isLt).2.2.1 = k0_pay8 (iblk m c 0 t) (iblk m c 1 t) (m ((c : Thread nD τ).loc main_arg2) : S1024x2560.Idx → EReal) := by
  by_cases h : t.val % 32 = 0
  · rw [outsAt0_A m c t h]
    dsimp only
    unfold out0_A_7
    frame_out
    rw [keep_eq, w_eq]
  · rw [outsAt0_B m c t h]
    dsimp only
    unfold out0_B_7
    frame_out
    rw [kept]
    exact congrArg (fun w => k0_pay8 (iblk m c 0 t) (iblk m c 1 t) w) ((Memref.isWhole_whole _).read_unread _)

/-- What a grid point leaves of the keys. -/
theorem left_8 (t : Fin cfg0.N) : (outsAt0 m c t.val t.isLt).2.2.2.1 = k0_pay9 (iblk m c 0 t) (iblk m c 1 t) (m ((c : Thread nD τ).loc main_arg2) : S1024x2560.Idx → EReal) := by
  by_cases h : t.val % 32 = 0
  · rw [outsAt0_A m c t h]
    dsimp only
    unfold out0_A_8
    frame_out
    rw [keep_eq, w_eq]
  · rw [outsAt0_B m c t h]
    dsimp only
    unfold out0_B_8
    frame_out
    rw [kept]
    exact congrArg (fun w => k0_pay9 (iblk m c 0 t) (iblk m c 1 t) w) ((Memref.isWhole_whole _).read_unread _)

/-- What a grid point leaves of the values. -/
theorem left_9 (t : Fin cfg0.N) : (outsAt0 m c t.val t.isLt).2.2.2.2.1 = k0_pay1 (k0_pay10 (iblk m c 0 t) (iblk m c 1 t) (m ((c : Thread nD τ).loc main_arg2) : S1024x2560.Idx → EReal)) := by
  by_cases h : t.val % 32 = 0
  · rw [outsAt0_A m c t h]
    dsimp only
    unfold out0_A_9
    frame_out
    rw [keep_eq, w_eq]
  · rw [outsAt0_B m c t h]
    dsimp only
    unfold out0_B_9
    frame_out
    rw [kept]
    exact congrArg (fun w => k0_pay1 (k0_pay10 (iblk m c 0 t) (iblk m c 1 t) w)) ((Memref.isWhole_whole _).read_unread _)

/-- What a grid point leaves of the experts' weights. -/
theorem left_10 (t : Fin cfg0.N) : (outsAt0 m c t.val t.isLt).2.2.2.2.2.1 = k0_pay2 (iblk m c 3 t) := by
  by_cases h : t.val % 32 = 0
  · rw [outsAt0_A m c t h]
    dsimp only
    unfold out0_A_10
    frame_out
  · rw [outsAt0_B m c t h]
    dsimp only
    unfold out0_B_10
    frame_out

/-- What a grid point leaves of the output's weights. -/
theorem left_11 (t : Fin cfg0.N) : (outsAt0 m c t.val t.isLt).2.2.2.2.2.2.1 = k0_pay3 (iblk m c 4 t) := by
  by_cases h : t.val % 32 = 0
  · rw [outsAt0_A m c t h]
    dsimp only
    unfold out0_A_11
    frame_out
  · rw [outsAt0_B m c t h]
    dsimp only
    unfold out0_B_11
    frame_out

/-! ## The arrays after the run -/

/-- A row of the input against a column of the weights. -/
def entry (r : Fin 16384) (j : Fin 2560) : EReal :=
  Proj.column (fun k => (m ((c : Thread nD τ).loc main_arg0) : S16384x1024.Idx → EReal) (ix2 r k))
    (fun k => (m ((c : Thread nD τ).loc main_arg1) : S1x1024.Idx → EReal) (ix2 0 k))
    (fun k => (m ((c : Thread nD τ).loc main_arg2) : S1024x2560.Idx → EReal) (ix2 k j))

/-- The 512 columns of the product from column `k`. -/
def slab (k : ℕ) (hk : k + 512 ≤ 2560) (y : S16384x512.Idx) : EReal :=
  entry m c (y 0) ⟨k + (y 1).val, by have : (y 1).val < 512 := (y 1).isLt; omega⟩

/-- The columns of the queries, scaled. -/
def queries (y : S16384x512.Idx) : EReal := slab m c 1024 (by decide) y * Ideal.ofBits .f32 0x3E000000#32

/-- A part of a grid point's product is the rows' entries. -/
theorem part_at (t : Fin cfg0.N) (i : Fin 512) (j : Fin 2560) :
    part (iblk m c 0 t) (iblk m c 1 t) (m ((c : Thread nD τ).loc main_arg2) : S1024x2560.Idx → EReal) i j =
      entry m c ⟨512 * t.val + i.val, by have := below t; omega⟩ j := by
  unfold part entry
  simp only [x_at, g_at]

/-- A grid point writes its rows of the recurrence's input. -/
theorem at_5 (t : Fin cfg0.N) (y0 : Fin 512) (y1 : Fin 512) : (win0_5.blk t).view.emb (ix2 y0 y1 : S512x512.Idx) =
    (ix2 ⟨512 * t.val + y0.val, by have := below t; omega⟩ y1 : S16384x512.Idx) := by
  have e := (index_at t).2.2.2.2.2.1
  blk_ext [e]

/-- The array of the recurrence's input. -/
theorem array_5 : (dats m 0 c).arrAt 5 cfg0.N = slab m c 0 (by decide) := by
  refine (dats m 0 c).arrAt_eq_of_covers 5 _ (by decide +kernel) fun t _ y => ?_
  blk_simp
  rw [after0_5, left_5]
  idx_vars y
  rw [at_5]
  exact (part₀ _ _ _ _ _).trans (part_at m c t _ _)

/-- A grid point writes its rows of the gate. -/
theorem at_6 (t : Fin cfg0.N) (y0 : Fin 512) (y1 : Fin 512) : (win0_6.blk t).view.emb (ix2 y0 y1 : S512x512.Idx) =
    (ix2 ⟨512 * t.val + y0.val, by have := below t; omega⟩ y1 : S16384x512.Idx) := by
  have e := (index_at t).2.2.2.2.2.2.1
  blk_ext [e]

/-- The array of the gate. -/
theorem array_6 : (dats m 0 c).arrAt 6 cfg0.N = slab m c 512 (by decide) := by
  refine (dats m 0 c).arrAt_eq_of_covers 6 _ (by decide +kernel) fun t _ y => ?_
  blk_simp
  rw [after0_6, left_6]
  idx_vars y
  rw [at_6]
  exact (part₁ _ _ _ _ _).trans (part_at m c t _ _)

/-- A grid point writes its rows of the queries. -/
theorem at_7 (t : Fin cfg0.N) (y0 : Fin 512) (y1 : Fin 512) : (win0_7.blk t).view.emb (ix2 y0 y1 : S512x512.Idx) =
    (ix2 ⟨512 * t.val + y0.val, by have := below t; omega⟩ y1 : S16384x512.Idx) := by
  have e := (index_at t).2.2.2.2.2.2.2.1
  blk_ext [e]

/-- The array of the queries. -/
theorem array_7 : (dats m 0 c).arrAt 7 cfg0.N = queries m c := by
  refine (dats m 0 c).arrAt_eq_of_covers 7 _ (by decide +kernel) fun t _ y => ?_
  blk_simp
  rw [after0_7, left_7]
  idx_vars y
  rw [at_7]
  exact (part₂ _ _ _ _ _).trans (congrArg (· * Ideal.ofBits .f32 0x3E000000#32) (part_at m c t _ _))

/-- A grid point writes its rows of the keys. -/
theorem at_8 (t : Fin cfg0.N) (y0 : Fin 512) (y1 : Fin 512) : (win0_8.blk t).view.emb (ix2 y0 y1 : S512x512.Idx) =
    (ix2 ⟨512 * t.val + y0.val, by have := below t; omega⟩ y1 : S16384x512.Idx) := by
  have e := (index_at t).2.2.2.2.2.2.2.2.1
  blk_ext [e]

/-- The array of the keys. -/
theorem array_8 : (dats m 0 c).arrAt 8 cfg0.N = slab m c 1536 (by decide) := by
  refine (dats m 0 c).arrAt_eq_of_covers 8 _ (by decide +kernel) fun t _ y => ?_
  blk_simp
  rw [after0_8, left_8]
  idx_vars y
  rw [at_8]
  exact (part₃ _ _ _ _ _).trans (part_at m c t _ _)

/-- A grid point writes its rows of the values. -/
theorem at_9 (t : Fin cfg0.N) (y0 : Fin 512) (y1 : Fin 512) : (win0_9.blk t).view.emb (ix2 y0 y1 : S512x512.Idx) =
    (ix2 ⟨512 * t.val + y0.val, by have := below t; omega⟩ y1 : S16384x512.Idx) := by
  have e := (index_at t).2.2.2.2.2.2.2.2.2.1
  blk_ext [e]

/-- The array of the values. -/
theorem array_9 : (dats m 0 c).arrAt 9 cfg0.N = slab m c 2048 (by decide) := by
  refine (dats m 0 c).arrAt_eq_of_covers 9 _ (by decide +kernel) fun t _ y => ?_
  blk_simp
  rw [after0_9, left_9]
  idx_vars y
  rw [at_9]
  exact (part₄ _ _ _ _ _).trans (part_at m c t _ _)

/-- A grid point writes its rows of the experts' weights. -/
theorem at_10 (t : Fin cfg0.N) (y0 : Fin 256) (y1 : Fin 1024) : (win0_10.blk t).view.emb (ix2 y0 y1 : S256x1024.Idx) =
    (ix2 ⟨256 * t.val + y0.val, by have := below t; omega⟩ y1 : S8192x1024.Idx) := by
  have e := (index_at t).2.2.2.2.2.2.2.2.2.2.1
  blk_ext [e]

/-- The array of the experts' weights. -/
theorem array_10 : (dats m 0 c).arrAt 10 cfg0.N = (m ((c : Thread nD τ).loc main_arg3) : S8192x1024.Idx → EReal) := by
  refine (dats m 0 c).arrAt_eq_of_covers 10 _ (by decide +kernel) fun t _ y => ?_
  blk_simp
  rw [after0_10, left_10]
  idx_vars y
  rw [at_10]
  exact d_at m c t _ _

/-- A grid point writes its rows of the output's weights. -/
theorem at_11 (t : Fin cfg0.N) (y0 : Fin 32) (y1 : Fin 1024) : (win0_11.blk t).view.emb (ix2 y0 y1 : S32x1024.Idx) =
    (ix2 ⟨32 * t.val + y0.val, by have := below t; omega⟩ y1 : S1024x1024.Idx) := by
  have e := (index_at t).2.2.2.2.2.2.2.2.2.2.2
  blk_ext [e]

/-- The array of the output's weights. -/
theorem array_11 : (dats m 0 c).arrAt 11 cfg0.N = (m ((c : Thread nD τ).loc main_arg4) : S1024x1024.Idx → EReal) := by
  refine (dats m 0 c).arrAt_eq_of_covers 11 _ (by decide +kernel) fun t _ y => ?_
  blk_simp
  rw [after0_11, left_11]
  idx_vars y
  rw [at_11]
  exact o_at m c t _ _

end Cert.ProjBlock

end
-- ==== Proof.ProjRef.lean ====
/- The reference's projection at an index: a normalised row against a column of the weights. -/
module

public import proofs.«01_k».proof.Proof.Gen.InpRefIdeal.Run
public import proofs.«01_k».proof.Proof.Gen.InpRefIdeal.Read
public import proofs.«01_k».proof.Proof.Proj

@[expose] public section

set_option maxRecDepth 16384

noncomputable section

namespace Cert.ProjRef

open Cert.InpRefIdeal Cert.InpRefIdeal.Gen Cert.InpRefIdeal.Read Idealize.ShloMosaic

variable (x0 : S16384x1024.Idx → EReal) (x1 : S1x1024.Idx → EReal) (x2 : S1024x2560.Idx → EReal)

/-- The sum starts at zero. -/
theorem start_eq : val_main_cst (F := Ideal) (Shape.Idx.first h_S_) = 0 := by
  show Ideal.ofBits .f32 0x00000000#32 = 0
  simp [Ideal.ofBits, Ideal.ieee]

/-- A row's sum of squares. -/
theorem squares_at (r : Fin 16384) : val_main_v1 (F := Ideal) x0 (ix1 r) = ∑ l : Fin 1024, x0 (ix2 r l) * x0 (ix2 r l) := by
  rw [val_main_v1_apply, start_eq, zero_add]
  refine Finset.sum_congr rfl fun l _ => ?_
  rw [show idx_main_v1 (ix1 r) l = ix2 r l from funext fun a => match a with | ⟨0, _⟩ => rfl | ⟨1, _⟩ => rfl]
  rfl

/-- A row's root mean square, inverted. -/
theorem scale_at (r : Fin 16384) (l : Fin 1024) : val_main_v8 (F := Ideal) x0 (ix2 r l) =
    Ideal.rsqrt (Ideal.div (val_main_v1 (F := Ideal) x0 (ix1 r)) (Ideal.ofBits .f32 0x44800000#32) + Ideal.ofBits .f32 0x358637BD#32) := by
  rw [val_main_v8_apply, val_main_v7_apply, val_main_v6_apply, val_main_v5_apply, val_main_v4_apply, val_main_v3_apply, val_main_v2_apply]
  rw [show idx_main_v2 (idx_main_v8 (ix2 r l)) = ix1 r from funext fun a => match a with | ⟨0, _⟩ => rfl]
  generalize val_main_v1 (F := Ideal) x0 (ix1 r) = z
  unfold val_main_cst_0 val_main_cst_1
  rfl

/-- A normalised row. -/
theorem normal_at (r : Fin 16384) (l : Fin 1024) :
    val_main_v11 (F := Ideal) x0 x1 (ix2 r l) = Proj.normal (fun k => x0 (ix2 r k)) (fun k => x1 (ix2 0 k)) l := by
  rw [val_main_v11_apply, val_main_v9_apply, val_main_v10_apply, scale_at, squares_at]
  rw [show idx_main_v10 (ix2 r l) = ix2 0 l from funext fun a => match a with | ⟨0, _⟩ => rfl | ⟨1, _⟩ => rfl]
  rfl

/-- An entry of the product. -/
theorem entry_at (i : S16384x2560.Idx) (r : Fin 16384) (j : Fin 2560) (hr : (i 0).val = r.val) (hj : (i 1).val = j.val) :
    val_main_v12 (F := Ideal) x0 x1 x2 i =
      Proj.column (fun k => x0 (ix2 r k)) (fun k => x1 (ix2 0 k)) (fun k => x2 (ix2 k j)) := by
  rw [val_main_v12_apply]
  refine Finset.sum_congr rfl fun k _ => ?_
  rw [show lidx_main_v12 i k = ix2 r k from funext fun a => match a with | ⟨0, _⟩ => Fin.ext hr | ⟨1, _⟩ => rfl,
    show ridx_main_v12 i k = ix2 k j from funext fun a => match a with | ⟨0, _⟩ => rfl | ⟨1, _⟩ => Fin.ext hj, normal_at]

/-- The 512 columns of the product from column `k`. -/
def slab (k : ℕ) (hk : k + 512 ≤ 2560) (y : S16384x512.Idx) : EReal :=
  Proj.column (fun l => x0 (ix2 (y 0) l)) (fun l => x1 (ix2 0 l))
    (fun l => x2 (ix2 l ⟨k + (y 1).val, by have : (y 1).val < 512 := (y 1).isLt; omega⟩))

/-- The recurrence's input. -/
theorem first_eq : val_main_v13 (F := Ideal) x0 x1 x2 = slab x0 x1 x2 0 (by decide) := by
  funext y
  rw [val_main_v13_apply]
  exact entry_at x0 x1 x2 _ (y 0) _ rfl (Nat.zero_add _).symm

/-- The gate. -/
theorem second_eq : val_main_v14 (F := Ideal) x0 x1 x2 = slab x0 x1 x2 512 (by decide) := by
  funext y
  rw [val_main_v14_apply]
  exact entry_at x0 x1 x2 _ (y 0) _ rfl rfl

/-- The queries, scaled. -/
theorem third_eq : val_main_v20 (F := Ideal) x0 x1 x2 = fun y => slab x0 x1 x2 1024 (by decide) y * Ideal.ofBits .f32 0x3E000000#32 := by
  funext y
  rw [val_main_v20_apply, val_main_v19_apply, val_main_v18_apply, val_main_v15_apply]
  rw [entry_at x0 x1 x2 (idx_main_v15 y) (y 0) ⟨1024 + (y 1).val, by have : (y 1).val < 512 := (y 1).isLt; omega⟩ rfl rfl]
  rfl

/-- The keys. -/
theorem fourth_eq : val_main_v21 (F := Ideal) x0 x1 x2 = slab x0 x1 x2 1536 (by decide) := by
  funext y
  rw [val_main_v21_apply, val_main_v16_apply]
  rw [entry_at x0 x1 x2 (idx_main_v16 y) (y 0) ⟨1536 + (y 1).val, by have : (y 1).val < 512 := (y 1).isLt; omega⟩ rfl rfl]
  rfl

/-- The values. -/
theorem fifth_eq : val_main_v22 (F := Ideal) x0 x1 x2 = slab x0 x1 x2 2048 (by decide) := by
  funext y
  rw [val_main_v22_apply, val_main_v17_apply]
  rw [entry_at x0 x1 x2 (idx_main_v17 y) (y 0) ⟨2048 + (y 1).val, by have : (y 1).val < 512 := (y 1).isLt; omega⟩ rfl rfl]
  rfl

end Cert.ProjRef

end
-- ==== Proof.OutBlock.lean ====
/- The projection out: what a grid point adds to its rows of the residual, and the array after the run. -/
module

public import proofs.«01_k».proof.Proof.Gen.OutIdeal.Value
public import Idealize.ShloMosaic.Lib.Pipeline.ValueKit
public import Idealize.ShloMosaic.Lib.WholeRead
public import Idealize.ShloMosaic.Lib.ValueLayout

@[expose] public section

set_option maxRecDepth 16384

noncomputable section

namespace Cert.OutBlock

open Cert.OutIdeal Cert.OutIdeal.Gen Idealize.ShloMosaic Idealize.ShloMosaic.TcCoe Idealize.SL.Sem

/-! ## One entry -/

/-- A row of the recurrence's group followed by a row of the attention's group. -/
def joined (a b : Fin 512 → EReal) (k : Fin 1024) : EReal := if h : k.val < 512 then a ⟨k.val, h⟩ else b ⟨k.val - 512, by omega⟩

/-- The residual plus the joined row against one column of the weights. -/
def mixed (x : EReal) (a b : Fin 512 → EReal) (w : Fin 1024 → EReal) : EReal := x + ∑ k, joined a b k * w k

/-- The kernel's joined tile at an index. -/
theorem joined_at (a b : FVec Ideal S1024x512 .bf16) (i k : Fin 1024) :
    concatenate S1024x1024 1 [⟨S1024x512, a⟩, ⟨S1024x512, b⟩] concatenates_S1024x512_S1024x512_S1024x1024_d1 (ix2 i k) =
      joined (fun l => a (ix2 i l)) (fun l => b (ix2 i l)) k := by
  rw [concatenate_pair_apply]
  unfold joined
  by_cases h : k.val < 512
  · rw [dif_pos h]
    refine (dif_pos h).trans (congrArg a ?_)
    exact funext fun d => match d with | ⟨0, _⟩ => rfl | ⟨1, _⟩ => rfl
  · rw [dif_neg h]
    refine (dif_neg h).trans (congrArg b ?_)
    exact funext fun d => match d with | ⟨0, _⟩ => rfl | ⟨1, _⟩ => rfl

/-- A tile against the weights, at an index. -/
theorem dot_at (x w : FVec Ideal S1024x1024 .bf16) (i j : Fin 1024) :
    matmul (F := Ideal) dot_S1024x1024_S1024x1024_S1024x1024_1_0_0_1_n_n none x w (constant S1024x1024 .f32 0x00000000#32) (ix2 i j) =
      ∑ k : Fin 1024, x (ix2 i k) * w (ix2 k j) := by
  pointwise

/-- The printed sum at an index. -/
theorem sum_at (a b : Vec Ideal S1024x512 .bf16) (x : Vec Ideal S1024x1024 .f32) (w : Vec Ideal S1024x1024 .bf16) (i j : Fin 1024) :
    k0_pay4 a b x w (ix2 i j) = mixed (x (ix2 i j)) (fun l => a (ix2 i l)) (fun l => b (ix2 i l)) (fun k => w (ix2 k j)) := by
  refine congrArg (x (ix2 i j) + ·) ((dot_at _ w i j).trans (Finset.sum_congr rfl fun k _ => ?_))
  exact congrArg (· * w (ix2 k j)) (joined_at a b i k)

/-! ## The blocks of a grid point -/

variable (m : (ℓ : Loc nD τ sig) → Buf (Elt Ideal) ℓ) (c : Dev nD)

/-- The blocks: the rows move with the grid point, the weights stay. -/
theorem index_at (t : Fin cfg0.N) : win0_0.index t = ![t.val, 0] ∧ win0_1.index t = ![t.val, 0] ∧ win0_2.index t = ![0, 0] ∧
    win0_3.index t = ![t.val, 0] ∧ win0_7.index t = ![t.val, 0] :=
  (by decide +kernel : ∀ t : Fin grid0.N, win0_0.index t = ![t.val, 0] ∧ win0_1.index t = ![t.val, 0] ∧ win0_2.index t = ![0, 0] ∧
    win0_3.index t = ![t.val, 0] ∧ win0_7.index t = ![t.val, 0]) t

/-- There are 16 grid points. -/
theorem below (t : Fin cfg0.N) : t.val < 16 := lt_of_lt_of_eq t.isLt N_0

/-- A grid point's rows of the recurrence's group. -/
theorem a_at (t : Fin cfg0.N) (s : Fin 1024) (k : Fin 512) : iblk m c 0 t (ix2 s k) =
    (m ((c : Thread nD τ).loc main_arg0) : S16384x512.Idx → EReal) (ix2 ⟨1024 * t.val + s.val, by have := below t; omega⟩ k) := by
  have e := (index_at t).1
  blk_ext [iblk, V_main_arg0, e]

/-- A grid point's rows of the attention's group. -/
theorem b_at (t : Fin cfg0.N) (s : Fin 1024) (k : Fin 512) : iblk m c 1 t (ix2 s k) =
    (m ((c : Thread nD τ).loc main_arg1) : S16384x512.Idx → EReal) (ix2 ⟨1024 * t.val + s.val, by have := below t; omega⟩ k) := by
  have e := (index_at t).2.1
  blk_ext [iblk, V_main_arg1, e]

/-- Every grid point sees the weights. -/
theorem w_at (t : Fin cfg0.N) (k j : Fin 1024) : iblk m c 2 t (ix2 k j) =
    (m ((c : Thread nD τ).loc main_arg2) : S1024x1024.Idx → EReal) (ix2 k j) := by
  have e := (index_at t).2.2.1
  blk_ext [iblk, V_main_arg2, e]

/-- A grid point's rows of the residual. -/
theorem x_at (t : Fin cfg0.N) (s k : Fin 1024) : iblk m c 3 t (ix2 s k) =
    (m ((c : Thread nD τ).loc main_arg3) : S16384x1024.Idx → EReal) (ix2 ⟨1024 * t.val + s.val, by have := below t; omega⟩ k) := by
  have e := (index_at t).2.2.2.1
  blk_ext [iblk, V_main_arg3, e]

/-! ## The array after the run -/

/-- The residual plus the projection, everywhere. -/
def after (y : S16384x1024.Idx) : EReal :=
  mixed ((m ((c : Thread nD τ).loc main_arg3) : S16384x1024.Idx → EReal) y)
    (fun l => (m ((c : Thread nD τ).loc main_arg0) : S16384x512.Idx → EReal) (ix2 (y 0) l))
    (fun l => (m ((c : Thread nD τ).loc main_arg1) : S16384x512.Idx → EReal) (ix2 (y 0) l))
    (fun k => (m ((c : Thread nD τ).loc main_arg2) : S1024x1024.Idx → EReal) (ix2 k (y 1)))

/-- What a grid point leaves. -/
theorem left_7 (t : Fin cfg0.N) : (outsAt0 m c t).1 = k0_pay4 (iblk m c 0 t) (iblk m c 1 t) (iblk m c 3 t) (iblk m c 2 t) := by
  unfold outsAt0
  dsimp only
  unfold out0_A_7
  frame_out

/-- A grid point writes its rows. -/
theorem at_7 (t : Fin cfg0.N) (y0 y1 : Fin 1024) : (win0_7.blk t).view.emb (ix2 y0 y1 : S1024x1024.Idx) =
    (ix2 ⟨1024 * t.val + y0.val, by have := below t; omega⟩ y1 : S16384x1024.Idx) := by
  have e := (index_at t).2.2.2.2
  blk_ext [e]

/-- A grid point's sum is its rows of the array. -/
theorem rows_at (t : Fin cfg0.N) (i j : Fin 1024) : k0_pay4 (iblk m c 0 t) (iblk m c 1 t) (iblk m c 3 t) (iblk m c 2 t) (ix2 i j) =
    after m c (ix2 ⟨1024 * t.val + i.val, by have := below t; omega⟩ j) := by
  rw [sum_at]
  simp only [a_at, b_at, w_at, x_at]
  rfl

/-- The array after the run. -/
theorem array_7 : (dats m 0 c).arrAt 7 cfg0.N = after m c := by
  refine (dats m 0 c).arrAt_eq_of_covers 7 _ (by decide +kernel) fun t _ y => ?_
  blk_simp
  rw [after0_7, left_7]
  idx_vars y
  rw [at_7]
  exact rows_at m c t y0 y1

end Cert.OutBlock

end
-- ==== Proof.OutRef.lean ====
/- The reference's projection out at an index. -/
module

public import proofs.«01_k».proof.Proof.Gen.OutRefIdeal.Run
public import proofs.«01_k».proof.Proof.Gen.OutRefIdeal.Read
public import proofs.«01_k».proof.Proof.OutBlock

@[expose] public section

set_option maxRecDepth 16384

noncomputable section

namespace Cert.OutRef

open Cert.OutRefIdeal Cert.OutRefIdeal.Gen Cert.OutRefIdeal.Read Idealize.ShloMosaic

variable (x0 x1 : S16384x512.Idx → EReal) (x2 : S1024x1024.Idx → EReal) (x3 : S16384x1024.Idx → EReal)

/-- The joined rows at an index. -/
theorem joined_at (r : Fin 16384) (k : Fin 1024) : val_main_v0 (F := Ideal) x0 x1 (ix2 r k) =
    OutBlock.joined (fun l => x0 (ix2 r l)) (fun l => x1 (ix2 r l)) k := by
  unfold val_main_v0
  rw [concatenate_pair_apply]
  unfold OutBlock.joined
  by_cases h : k.val < 512
  · rw [dif_pos h]
    refine (dif_pos h).trans (congrArg x0 ?_)
    exact funext fun d => match d with | ⟨0, _⟩ => rfl | ⟨1, _⟩ => rfl
  · rw [dif_neg h]
    refine (dif_neg h).trans (congrArg x1 ?_)
    exact funext fun d => match d with | ⟨0, _⟩ => rfl | ⟨1, _⟩ => rfl

/-- The reference's array is the residual plus the projection. -/
theorem array_eq : val_main_v4 (F := Ideal) x0 x1 x2 x3 = fun y : S16384x1024.Idx =>
    OutBlock.mixed (x3 y) (fun l => x0 (ix2 (y 0) l)) (fun l => x1 (ix2 (y 0) l)) (fun k => x2 (ix2 k (y 1))) := by
  funext y
  rw [val_main_v4_apply, val_main_v3_apply]
  refine congrArg (x3 y + ·) (Finset.sum_congr rfl fun k _ => ?_)
  rw [val_main_v1_apply, val_main_v2_apply]
  rw [show lidx_main_v3 y k = ix2 (y 0) k from funext fun d => match d with | ⟨0, _⟩ => rfl | ⟨1, _⟩ => rfl,
    show ridx_main_v3 y k = ix2 k (y 1) from funext fun d => match d with | ⟨0, _⟩ => rfl | ⟨1, _⟩ => rfl]
  exact congrArg (· * x2 (ix2 k (y 1))) (joined_at x0 x1 (y 0) k)

end Cert.OutRef

end
-- ==== Proof.ExpAny.lean ====
/- The frame of the experts' launch `Exp`, at every table of groups: any admissible pair of tables (`a`), the launch over them. -/
module

public import proofs.«01_k».proof.Defs
public import proofs.«01_k».proof.Proof.Gen.Exp
public import proofs.«01_k».proof.Proof.Gen.Exp.Launch
public import proofs.«01_k».proof.Proof.Gen.Exp.Flash.Runs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.Exp.Any

open Cert.Exp Cert.Exp.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

/-- The model the launch runs in. -/
abbrev M := MT nD τ sig Unit (Elt Bits) ℕ (UR sig nD τ) ℕ

/-- The launch's resources, embedded whole. -/
abbrev emb : Emb (UR sig nD τ) M := emb₁

variable (a : (pcfg0 (F := Bits)).Adm)
variable (m : (ℓ : Loc nD τ sig) → Buf (Elt Bits) ℓ) (ρ : Dev nD → PrngReg)

/-- The launch at the tables `a`. -/
abbrev cfg : Pipeline.Cfg sig Λ₀ := cfg0 (F := Bits) a
/-- The launches of the program: the one. -/
abbrev cfgs : Fin 1 → Pipeline.Cfg sig Λ₀ := Pipeline.pin (pcfgs (F := Bits)) fun _ => a

/-- The table of groups. -/
abbrev bg : S68.Idx → Elt Bits .i32 := a.1 0
/-- The number of blocks in use. -/
abbrev nv : S1.Idx → Elt Bits .i32 := a.1 1

/-- A point's coordinates. -/
abbrev at' (t : Fin (cfg a).N) : (cfg a).grid.Coords := (cfg a).grid.coords t

/-- The windows' buffers at a point. -/
abbrev b0 (t : Fin (cfg a).N) : Memref sig .tc .vmem S256x1152 .f32 := spec0_0.stage ((cfg a).slots t (0 : Fin 5))
abbrev w0 (t : Fin (cfg a).N) : (b0 a t).IsWhole := hstage0_0 (((cfg a).slots t (0 : Fin 5)).cast nbuf0_0)
abbrev b1 (t : Fin (cfg a).N) : Memref sig .tc .vmem S4x1024x512 .bf16 := spec0_1.stage ((cfg a).slots t (1 : Fin 5))
abbrev w1 (t : Fin (cfg a).N) : (b1 a t).IsWhole := hstage0_1 (((cfg a).slots t (1 : Fin 5)).cast nbuf0_1)
abbrev b2 (t : Fin (cfg a).N) : Memref sig .tc .vmem S4x1024x512 .bf16 := spec0_2.stage ((cfg a).slots t (2 : Fin 5))
abbrev w2 (t : Fin (cfg a).N) : (b2 a t).IsWhole := hstage0_2 (((cfg a).slots t (2 : Fin 5)).cast nbuf0_2)
abbrev b3 (t : Fin (cfg a).N) : Memref sig .tc .vmem S4x512x1024 .bf16 := spec0_3.stage ((cfg a).slots t (3 : Fin 5))
abbrev w3 (t : Fin (cfg a).N) : (b3 a t).IsWhole := hstage0_3 (((cfg a).slots t (3 : Fin 5)).cast nbuf0_3)
abbrev b4 (t : Fin (cfg a).N) : Memref sig .tc .vmem S256x1024 .f32 := spec0_4.stage ((cfg a).slots t (4 : Fin 5))
abbrev w4 (t : Fin (cfg a).N) : (b4 a t).IsWhole := hstage0_4 (((cfg a).slots t (4 : Fin 5)).cast nbuf0_4)

/-- What window `w` fetches at a point: its block of the array it reads. -/
def got (c : Dev nD) (w : Fin (cfg a).W) (t : Fin (cfg a).N) : (((cfg a).win w).xblock (at' a t)).Idx → Elt Bits ((cfg a).win w).elt :=
  (((cfg a).win w).blk t).view.read (Elt Bits) ((s₀ m ρ).mem (((cfg a).win w).arr.view.loc (c : Thread nD τ)))

/-- The word of the second table the body compares with its block's number. -/
abbrev count : BitVec 32 := View.readAt (Elt Bits) (tbM0_1).view (Rect.unit (s := S1) ![0] S1.size inb_S1_S1_0).toLoadRect (nv a) (Shape.Idx.first (numel1_S1.symm ▸ Nat.one_pos))

/-- The block at a point is in use. -/
abbrev used (t : Fin (cfg a).N) : Prop := k0_cond1 (at' a t) (count a) = 1#1

/-- The body's second test is the negation of its first. -/
theorem spare (i : grid0.Coords) (v : BitVec 32) : k0_cond2 i v = 1#1 ↔ ¬k0_cond1 i v = 1#1 := by
  show Scalar.cmpi .ne (Scalar.extui (Scalar.xori (Scalar.cmpi .slt (BitVec.ofNat 32 (i 0).val) v) 1#1) : BitVec 32) 0#32 = 1#1 ↔
    ¬Scalar.cmpi .ne (Scalar.extui (Scalar.cmpi .slt (BitVec.ofNat 32 (i 0).val) v) : BitVec 32) 0#32 = 1#1
  exact (by decide : ∀ b : BitVec 1, Scalar.cmpi .ne (Scalar.extui (Scalar.xori b 1#1) : BitVec 32) 0#32 = 1#1 ↔ ¬Scalar.cmpi .ne (Scalar.extui b : BitVec 32) 0#32 = 1#1) _

/-- The body writes its result's block at every point. -/
theorem busy (t : Fin (cfg a).N) : (cfg a).idle (4 : Fin 5) (at' a t) = false := by
  show (!(k0_cond1 (at' a t) (a.1.atD 1 ![0]) == 1#1) && !(k0_cond2 (at' a t) (a.1.atD 1 ![0]) == 1#1)) = false
  have h := spare (at' a t) (a.1.atD 1 ![0])
  by_cases h1 : k0_cond1 (at' a t) (a.1.atD 1 ![0]) = 1#1
  · simp [h1]
  · simp [h1, h.2 h1]

/-- What the body leaves in its result's block: in use, the experts' rows; else zeros. -/
def left (c : Dev nD) (t : Fin (cfg a).N) : S256x1024.Idx → Elt Bits .f32 :=
  if h : used a t then
    out0_A_4 c (at' a t) (b0 a t) (w0 a t) (b1 a t) (w1 a t) (b2 a t) (w2 a t) (b3 a t) (w3 a t) (b4 a t) (w4 a t) (bg a) (nv a) (got a m ρ c (0 : Fin 5) t) (got a m ρ c (1 : Fin 5) t) (got a m ρ c (2 : Fin 5) t) (got a m ρ c (3 : Fin 5) t) h (fun h' => (spare _ _).1 h' h)
  else
    out0_B_4 c (at' a t) (b0 a t) (w0 a t) (b1 a t) (w1 a t) (b2 a t) (w2 a t) (b3 a t) (w3 a t) (b4 a t) (w4 a t) (bg a) (nv a) (got a m ρ c (0 : Fin 5) t) (got a m ρ c (1 : Fin 5) t) (got a m ρ c (2 : Fin 5) t) (got a m ρ c (3 : Fin 5) t) h ((spare _ _).2 h)

/-- What the body keeps between points: its halves of the two tables. -/
def kept (c : Dev nD) : sProp M :=
  iprop((tbM0_0.view.loc (c : Thread nD τ) ↦{fullShare.right} bg a) ∗ (tbM0_1.view.loc (c : Thread nD τ) ↦{fullShare.right} nv a))

/-- The launch's data on core `c`. -/
def dats (_ : Fin 1) (c : Dev nD) : Dat τ (Elt Bits) Unit ℕ (UR sig nD τ) ℕ (cfg a) c where
  A w := (s₀ m ρ).mem (((cfg a).win w).arr.view.loc (c : Thread nD τ))
  after w t := match w with
    | ⟨0, _⟩ => got a m ρ c (0 : Fin 5) t
    | ⟨1, _⟩ => got a m ρ c (1 : Fin 5) t
    | ⟨2, _⟩ => got a m ρ c (2 : Fin 5) t
    | ⟨3, _⟩ => got a m ρ c (3 : Fin 5) t
    | ⟨4, _⟩ => left a m ρ c t
  Φ _ := kept a c
  q _ := fullShare
  owed _ := 0

theorem after_0 (c : Dev nD) (t : Fin (cfg a).N) : (dats a m ρ 0 c).after (0 : Fin 5) t = got a m ρ c (0 : Fin 5) t := rfl
theorem after_1 (c : Dev nD) (t : Fin (cfg a).N) : (dats a m ρ 0 c).after (1 : Fin 5) t = got a m ρ c (1 : Fin 5) t := rfl
theorem after_2 (c : Dev nD) (t : Fin (cfg a).N) : (dats a m ρ 0 c).after (2 : Fin 5) t = got a m ρ c (2 : Fin 5) t := rfl
theorem after_3 (c : Dev nD) (t : Fin (cfg a).N) : (dats a m ρ 0 c).after (3 : Fin 5) t = got a m ρ c (3 : Fin 5) t := rfl
theorem after_4 (c : Dev nD) (t : Fin (cfg a).N) : (dats a m ρ 0 c).after (4 : Fin 5) t = left a m ρ c t := rfl

/-- Window 0 holds its block when the body runs. -/
theorem before_0 (c : Dev nD) (t : Fin (cfg a).N) (d) : (dats a m ρ 0 c).before (0 : Fin 5) t d = got a m ρ c (0 : Fin 5) t :=
  ((dats a m ρ 0 c).before_in_eq_fetched (0 : Fin 5) rfl (fun _ => rfl) (fun _ _ _ => rfl) (fun t => by rw [after_0]; unfold Dat.blockOf got; rfl) t d).trans
    (by unfold Dat.fetched Dat.blockOf got; rfl)

/-- Window 1 holds its block when the body runs. -/
theorem before_1 (c : Dev nD) (t : Fin (cfg a).N) (d) : (dats a m ρ 0 c).before (1 : Fin 5) t d = got a m ρ c (1 : Fin 5) t :=
  ((dats a m ρ 0 c).before_in_eq_fetched (1 : Fin 5) rfl (fun _ => rfl) (fun _ _ _ => rfl) (fun t => by rw [after_1]; unfold Dat.blockOf got; rfl) t d).trans
    (by unfold Dat.fetched Dat.blockOf got; rfl)

/-- Window 2 holds its block when the body runs. -/
theorem before_2 (c : Dev nD) (t : Fin (cfg a).N) (d) : (dats a m ρ 0 c).before (2 : Fin 5) t d = got a m ρ c (2 : Fin 5) t :=
  ((dats a m ρ 0 c).before_in_eq_fetched (2 : Fin 5) rfl (fun _ => rfl) (fun _ _ _ => rfl) (fun t => by rw [after_2]; unfold Dat.blockOf got; rfl) t d).trans
    (by unfold Dat.fetched Dat.blockOf got; rfl)

/-- Window 3 holds its block when the body runs. -/
theorem before_3 (c : Dev nD) (t : Fin (cfg a).N) (d) : (dats a m ρ 0 c).before (3 : Fin 5) t d = got a m ρ c (3 : Fin 5) t :=
  ((dats a m ρ 0 c).before_in_eq_fetched (3 : Fin 5) rfl (fun _ => rfl) (fun _ _ _ => rfl) (fun t => by rw [after_3]; unfold Dat.blockOf got; rfl) t d).trans
    (by unfold Dat.fetched Dat.blockOf got; rfl)

/-- The body at a point, on that point's buffers. -/
abbrev body (t : Fin (cfg a).N) : Prog (TpuEff nD τ sig (Elt Bits) Λ₀ .tc) PUnit :=
  cc0_experts (at' a t) (Memref.whole main_arg0) (Memref.isWhole_whole _) (Memref.whole main_arg1) (Memref.isWhole_whole _) (b0 a t) (w0 a t) (b1 a t) (w1 a t) (b2 a t) (w2 a t) (b3 a t) (w3 a t) (b4 a t) (w4 a t)

set_option maxHeartbeats 4000000 in
/-- The body, at every point, takes the fetched blocks and leaves `left`. -/
theorem body_runs (c : Dev nD) (t : Fin (cfg a).N) :
    iprop((dats a m ρ 0 c).Φ t.castSucc ∗ (dats a m ρ 0 c).owesAt () t.castSucc
        ∗ (∃ d, owns (c : Thread nD τ) (b0 a t) fullShare ((dats a m ρ 0 c).before (0 : Fin 5) t d))
        ∗ (∃ d, owns (c : Thread nD τ) (b1 a t) fullShare ((dats a m ρ 0 c).before (1 : Fin 5) t d))
        ∗ (∃ d, owns (c : Thread nD τ) (b2 a t) fullShare ((dats a m ρ 0 c).before (2 : Fin 5) t d))
        ∗ (∃ d, owns (c : Thread nD τ) (b3 a t) fullShare ((dats a m ρ 0 c).before (3 : Fin 5) t d))
        ∗ (∃ d, owns (c : Thread nD τ) (b4 a t) fullShare ((dats a m ρ 0 c).before (4 : Fin 5) t d)))
      ⊢ wp frame (wpE (defs₀ (F := Bits)) Variants.none c none) Set.univ (body a t) fun _ =>
          iprop((dats a m ρ 0 c).Φ t.succ ∗ (dats a m ρ 0 c).owesAt () t.succ
            ∗ bigSep Finset.univ fun w : Fin (cfg a).W =>
                match (cfg a).idle w ((cfg a).grid.coords t) with
                | true =>
                  match ((cfg a).win w).flush t with
                  | false => iprop(∃ d, owns (c : Thread nD τ) (((cfg a).win w).stage ((cfg a).slots t w)) fullShare ((dats a m ρ 0 c).before w t d))
                  | true => owns (c : Thread nD τ) (((cfg a).win w).stage ((cfg a).slots t w)) fullShare ((dats a m ρ 0 c).after w t)
                | false => owns (c : Thread nD τ) (((cfg a).win w).stage ((cfg a).slots t w)) fullShare ((dats a m ρ 0 c).after w t)) := by
  rw [bigSep_W0]
  have i4 : (cfg a).idle (4 : Fin 5) ((cfg a).grid.coords t) = false := busy a t
  rewrite [i4]
  simp only [before_0, before_1, before_2, before_3, after_0, after_1, after_2, after_3, after_4]
  rewrite [show (dats a m ρ 0 c).Φ t.succ = kept a c from rfl, show (dats a m ρ 0 c).Φ t.castSucc = kept a c from rfl,
    show (dats a m ρ 0 c).owesAt () t.succ = (dats a m ρ 0 c).owesAt () t.castSucc from rfl]
  unfold kept
  by_cases h : used a t
  · have hl : left a m ρ c t = _ := dif_pos h
    rewrite [hl]
    iintro ⟨⟨HT0, HT1⟩, Ho, ⟨%d0, H0⟩, ⟨%d1, H1⟩, ⟨%d2, H2⟩, ⟨%d3, H3⟩, ⟨%d4, H4⟩⟩
    iapply ((kernelRun0_A c (at' a t) (b0 a t) (w0 a t) (b1 a t) (w1 a t) (b2 a t) (w2 a t) (b3 a t) (w3 a t) (b4 a t) (w4 a t) (bg a) (nv a) (got a m ρ c (0 : Fin 5) t) (got a m ρ c (1 : Fin 5) t) (got a m ρ c (2 : Fin 5) t) (got a m ρ c (3 : Fin 5) t) h (fun h' => (spare _ _).1 h' h)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_A_4 c _ _ _ _ _ _ _ _ _ _ _ _ _ _ _ _ _ _ _)
  · have hl : left a m ρ c t = _ := dif_neg h
    rewrite [hl]
    iintro ⟨⟨HT0, HT1⟩, Ho, ⟨%d0, H0⟩, ⟨%d1, H1⟩, ⟨%d2, H2⟩, ⟨%d3, H3⟩, ⟨%d4, H4⟩⟩
    iapply ((kernelRun0_B c (at' a t) (b0 a t) (w0 a t) (b1 a t) (w1 a t) (b2 a t) (w2 a t) (b3 a t) (w3 a t) (b4 a t) (w4 a t) (bg a) (nv a) (got a m ρ c (0 : Fin 5) t) (got a m ρ c (1 : Fin 5) t) (got a m ρ c (2 : Fin 5) t) (got a m ρ c (3 : Fin 5) t) h ((spare _ _).2 h)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_B_4 c _ _ _ _ _ _ _ _ _ _ _ _ _ _ _ _ _ _ _)

/-- The same, as the launch asks for it. -/
theorem obligation (c : Dev nD) : BodyObligation (dats a m ρ 0 c) (defs₀ (F := Bits)) Variants.none () Set.univ := fun t => by
  rw [bigSep_W0]
  exact body_runs a m ρ c t

/-- The launch's starting resources. -/
def start : UR sig nD τ :=
  initOf (Pipeline.cells (cfgs a) ((launch0 (F := Bits)).cellOf_inj fun _ => a))
    (Pipeline.launchToks (cfgs a) ((launch0 (F := Bits)).cellOf_inj fun _ => a))

/-- Every window holds its buffers whole. -/
theorem share_full (c : Dev nD) (w : Fin (cfg a).W) : (dats a m ρ 0 c).share w = fullShare := by unfold Dat.share; split <;> rfl

/-- The tables handed to the launch, one by one. -/
theorem tables_held (c : Dev nD) (q : Fin 2 → PosShare TreeShare) (v : pre0.Contents (Elt Bits)) :
    (Pipeline.prefHeld (Ix := Unit) (Name := ℕ) (U := UR sig nD τ) (Lvl := ℕ) pre0 c q v : sProp M)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The body's halves of the tables come from the launch. -/
theorem enter (c : Dev nD) :
    iprop(BI.emp ∗ Pipeline.prefHeld pre0 c (fun _ => fullShare.right) a.1 ∗ Pipeline.scopedRest spec0 c) ⊢ (dats a m ρ 0 c).Φ 0 := by
  rw [tables_held, scopedRest0_eq, show (dats a m ρ 0 c).Φ 0 = kept a c from rfl]
  unfold kept
  iintro ⟨-, ⟨HT0, HT1⟩, -⟩
  isplitl [HT0]
  · iexact HT0
  iexact HT1

/-- At the end they are let go. -/
theorem leave (c : Dev nD) : (dats a m ρ 0 c).Φ (Fin.last (cfg a).N) ⊢ iprop(BI.emp ∗ Pipeline.scopedRest spec0 c) := by
  rw [scopedRest0_eq, show (dats a m ρ 0 c).Φ (Fin.last (cfg a).N) = kept a c from rfl]
  unfold kept
  iintro ⟨-, -⟩
  isplitr; · iempintro
  iempintro

/-- The memory's two tables are `a`. -/
def Holds : Prop := ∀ (c : Dev nD) (j : Fin 2), m ((c : Thread nD τ).loc (pre0.ref j)) = a.1 j

/-- The end of the run: every array as computed, the tables as they were. -/
def Final : PUnit × MemSt nD τ sig (Elt Bits) → Prop := fun r =>
  ∀ c : Dev nD, (∀ w : Fin (cfg a).W, r.2.mem (((cfg a).win w).arr.view.loc (c : Thread nD τ)) = (dats a m ρ 0 c).arrAt w (cfg a).N)
    ∧ ∀ j, r.2.mem ((c : Thread nD τ).loc (pre0.ref j)) = a.1 j

set_option backward.isDefEq.respectTransparency.types false in
set_option maxHeartbeats 4000000 in
/-- From any memory whose tables are `a`, the program ends, at `Final`, every semaphore at zero. -/
theorem runs (hp : Holds a m) : θ_run (defs (F := Bits)) (onTc (τ := τ) (main (F := Bits))) (s₀ m ρ) (fun r => Final a m ρ r ∧ r.2.sem = fun _ => 0) :=
  Pipeline.θ_run_region_noSem_pf_quiescent pcfgs (fun _ => a) (dats a m ρ) () ((launch0 (F := Bits)).cellOf_inj fun _ => a) (0 : Fin 1)
    (launch0 (F := Bits)).win.to₀ (launch0 (F := Bits)).pre emb defs₀ Variants.none m ρ main
    (hbody := fun c => (obligation a m ρ c).loose) (hne := (launch0 (F := Bits)).block_pos)
    (harr := (launch0 (F := Bits)).arr_whole) (hstage := (launch0 (F := Bits)).stage_whole) (howed := fun _ _ => rfl)
    (u₀ := start a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (cfgs a) (dats a m ρ) 0 (launch0 (F := Bits)).win.arr_inj c (launch0 (F := Bits)).arr_whole
      (share_full a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := enter a m ρ)
    (hout := leave a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `Final` leaves every argument as it was. -/
theorem args_kept (hp : Holds a m) (r : PUnit × MemSt nD τ sig (Elt Bits)) (h : Final a m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 0).trans (hp c 0).symm, ((h c).2 1).trans (hp c 1).symm, ((h c).1 (0 : Fin 5)).trans ((dats a m ρ 0 c).arrAt_in (0 : Fin 5) rfl _),
    ((h c).1 (1 : Fin 5)).trans ((dats a m ρ 0 c).arrAt_in (1 : Fin 5) rfl _), ((h c).1 (2 : Fin 5)).trans ((dats a m ρ 0 c).arrAt_in (2 : Fin 5) rfl _),
    ((h c).1 (3 : Fin 5)).trans ((dats a m ρ 0 c).arrAt_in (3 : Fin 5) rfl _)⟩

/-- A table whose every word is less than four keeps the experts' blocks inside their arrays. -/
theorem inside (pf : pre0.Contents (Elt Bits)) (h : ∀ x : S68.Idx, BitVec.toNat (w := 32) (pf 0 x) < 4) : ok0 (F := Bits) pf := by
  have h1 : ∀ i : grid0.Coords, ∀ b, (cc0_transform_1 k0_off1_inb numel1_S1 pf i b + 1) * S4x1024x512.size b ≤ S16x1024x512.size b := fun i b => match b with
    | ⟨0, _⟩ => by
      have := h ((Rect.unit (s := S68) (k0_off1 i) S1.size (k0_off1_inb i)).idx (Shape.Idx.first (numel1_S1.symm ▸ Nat.one_pos)))
      show (_ + 1) * 4 ≤ 16
      exact Nat.mul_le_mul_right 4 (Nat.succ_le_of_lt this)
    | ⟨1, _⟩ => Nat.le_refl 1024
    | ⟨2, _⟩ => Nat.le_refl 512
  have h3 : ∀ i : grid0.Coords, ∀ b, (cc0_transform_3 k0_off1_inb numel1_S1 pf i b + 1) * S4x512x1024.size b ≤ S16x512x1024.size b := fun i b => match b with
    | ⟨0, _⟩ => h1 i 0
    | ⟨1, _⟩ => Nat.le_refl 512
    | ⟨2, _⟩ => Nat.le_refl 1024
  exact ⟨fun i => ⟨h1 i, .inr (Affine.block_words_dvd (s := S16x1024x512) (p := EltTy.packing .bf16) (by decide) (by decide))⟩,
    fun i => ⟨h1 i, .inr (Affine.block_words_dvd (s := S16x1024x512) (p := EltTy.packing .bf16) (by decide) (by decide))⟩,
    fun i => ⟨h3 i, .inr (Affine.block_words_dvd (s := S16x512x1024) (p := EltTy.packing .bf16) (by decide) (by decide))⟩⟩

/-- The memory's tables, admissible where every group is less than four. -/
def tables (h : ∀ x : S68.Idx, BitVec.toNat (w := 32) (m (((0 : Dev nD) : Thread nD τ).loc main_arg0) x) < 4) : (pcfg0 (F := Bits)).Adm :=
  ⟨fun j => m (((0 : Dev nD) : Thread nD τ).loc (pre0.ref j)), inside _ h⟩

/-- The memory holds them, on its one device. -/
theorem holds (h : ∀ x : S68.Idx, BitVec.toNat (w := 32) (m (((0 : Dev nD) : Thread nD τ).loc main_arg0) x) < 4) : Holds (tables m h) m := fun c j => by
  obtain rfl : c = 0 := Subsingleton.elim _ _
  rfl

end Cert.Exp.Any

end
-- ==== Proof.ExpAnyIdeal.lean ====
/- The frame of the experts' launch `ExpIdeal`, at every table of groups: any admissible pair of tables (`a`), the launch over them. -/
module

public import proofs.«01_k».proof.Defs
public import proofs.«01_k».proof.Proof.Gen.ExpIdeal
public import proofs.«01_k».proof.Proof.Gen.ExpIdeal.Launch
public import proofs.«01_k».proof.Proof.Gen.ExpIdeal.Flash.Runs
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Tactic
public import Idealize.ShloMosaic.PureOps.Ideal
public import Idealize.ShloMosaic.Adequacy
public import Idealize.ShloMosaic.Init

@[expose] public section

set_option maxRecDepth 16384

noncomputable section

namespace Cert.ExpIdeal.Any

open Cert.ExpIdeal Cert.ExpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

/-- The model the launch runs in. -/
abbrev M := MT nD τ sig Unit (Elt Ideal) ℕ (UR sig nD τ) ℕ

/-- The launch's resources, embedded whole. -/
abbrev emb : Emb (UR sig nD τ) M := emb₁

variable (a : (pcfg0 (F := Ideal)).Adm)
variable (m : (ℓ : Loc nD τ sig) → Buf (Elt Ideal) ℓ) (ρ : Dev nD → PrngReg)

/-- The launch at the tables `a`. -/
abbrev cfg : Pipeline.Cfg sig Λ₀ := cfg0 (F := Ideal) a
/-- The launches of the program: the one. -/
abbrev cfgs : Fin 1 → Pipeline.Cfg sig Λ₀ := Pipeline.pin (pcfgs (F := Ideal)) fun _ => a

/-- The table of groups. -/
abbrev bg : S68.Idx → Elt Ideal .i32 := a.1 0
/-- The number of blocks in use. -/
abbrev nv : S1.Idx → Elt Ideal .i32 := a.1 1

/-- A point's coordinates. -/
abbrev at' (t : Fin (cfg a).N) : (cfg a).grid.Coords := (cfg a).grid.coords t

/-- The windows' buffers at a point. -/
abbrev b0 (t : Fin (cfg a).N) : Memref sig .tc .vmem S256x1152 .f32 := spec0_0.stage ((cfg a).slots t (0 : Fin 5))
abbrev w0 (t : Fin (cfg a).N) : (b0 a t).IsWhole := hstage0_0 (((cfg a).slots t (0 : Fin 5)).cast nbuf0_0)
abbrev b1 (t : Fin (cfg a).N) : Memref sig .tc .vmem S4x1024x512 .bf16 := spec0_1.stage ((cfg a).slots t (1 : Fin 5))
abbrev w1 (t : Fin (cfg a).N) : (b1 a t).IsWhole := hstage0_1 (((cfg a).slots t (1 : Fin 5)).cast nbuf0_1)
abbrev b2 (t : Fin (cfg a).N) : Memref sig .tc .vmem S4x1024x512 .bf16 := spec0_2.stage ((cfg a).slots t (2 : Fin 5))
abbrev w2 (t : Fin (cfg a).N) : (b2 a t).IsWhole := hstage0_2 (((cfg a).slots t (2 : Fin 5)).cast nbuf0_2)
abbrev b3 (t : Fin (cfg a).N) : Memref sig .tc .vmem S4x512x1024 .bf16 := spec0_3.stage ((cfg a).slots t (3 : Fin 5))
abbrev w3 (t : Fin (cfg a).N) : (b3 a t).IsWhole := hstage0_3 (((cfg a).slots t (3 : Fin 5)).cast nbuf0_3)
abbrev b4 (t : Fin (cfg a).N) : Memref sig .tc .vmem S256x1024 .f32 := spec0_4.stage ((cfg a).slots t (4 : Fin 5))
abbrev w4 (t : Fin (cfg a).N) : (b4 a t).IsWhole := hstage0_4 (((cfg a).slots t (4 : Fin 5)).cast nbuf0_4)

/-- What window `w` fetches at a point: its block of the array it reads. -/
def got (c : Dev nD) (w : Fin (cfg a).W) (t : Fin (cfg a).N) : (((cfg a).win w).xblock (at' a t)).Idx → Elt Ideal ((cfg a).win w).elt :=
  (((cfg a).win w).blk t).view.read (Elt Ideal) ((s₀ m ρ).mem (((cfg a).win w).arr.view.loc (c : Thread nD τ)))

/-- The word of the second table the body compares with its block's number. -/
abbrev count : BitVec 32 := View.readAt (Elt Ideal) (tbM0_1).view (Rect.unit (s := S1) ![0] S1.size inb_S1_S1_0).toLoadRect (nv a) (Shape.Idx.first (numel1_S1.symm ▸ Nat.one_pos))

/-- The block at a point is in use. -/
abbrev used (t : Fin (cfg a).N) : Prop := k0_cond1 (at' a t) (count a) = 1#1

/-- The body's second test is the negation of its first. -/
theorem spare (i : grid0.Coords) (v : BitVec 32) : k0_cond2 i v = 1#1 ↔ ¬k0_cond1 i v = 1#1 := by
  show Scalar.cmpi .ne (Scalar.extui (Scalar.xori (Scalar.cmpi .slt (BitVec.ofNat 32 (i 0).val) v) 1#1) : BitVec 32) 0#32 = 1#1 ↔
    ¬Scalar.cmpi .ne (Scalar.extui (Scalar.cmpi .slt (BitVec.ofNat 32 (i 0).val) v) : BitVec 32) 0#32 = 1#1
  exact (by decide : ∀ b : BitVec 1, Scalar.cmpi .ne (Scalar.extui (Scalar.xori b 1#1) : BitVec 32) 0#32 = 1#1 ↔ ¬Scalar.cmpi .ne (Scalar.extui b : BitVec 32) 0#32 = 1#1) _

/-- The body writes its result's block at every point. -/
theorem busy (t : Fin (cfg a).N) : (cfg a).idle (4 : Fin 5) (at' a t) = false := by
  show (!(k0_cond1 (at' a t) (a.1.atD 1 ![0]) == 1#1) && !(k0_cond2 (at' a t) (a.1.atD 1 ![0]) == 1#1)) = false
  have h := spare (at' a t) (a.1.atD 1 ![0])
  by_cases h1 : k0_cond1 (at' a t) (a.1.atD 1 ![0]) = 1#1
  · simp [h1]
  · simp [h1, h.2 h1]

/-- What the body leaves in its result's block: in use, the experts' rows; else zeros. -/
def left (c : Dev nD) (t : Fin (cfg a).N) : S256x1024.Idx → Elt Ideal .f32 :=
  if h : used a t then
    out0_A_4 c (at' a t) (b0 a t) (w0 a t) (b1 a t) (w1 a t) (b2 a t) (w2 a t) (b3 a t) (w3 a t) (b4 a t) (w4 a t) (bg a) (nv a) (got a m ρ c (0 : Fin 5) t) (got a m ρ c (1 : Fin 5) t) (got a m ρ c (2 : Fin 5) t) (got a m ρ c (3 : Fin 5) t) h (fun h' => (spare _ _).1 h' h)
  else
    out0_B_4 c (at' a t) (b0 a t) (w0 a t) (b1 a t) (w1 a t) (b2 a t) (w2 a t) (b3 a t) (w3 a t) (b4 a t) (w4 a t) (bg a) (nv a) (got a m ρ c (0 : Fin 5) t) (got a m ρ c (1 : Fin 5) t) (got a m ρ c (2 : Fin 5) t) (got a m ρ c (3 : Fin 5) t) h ((spare _ _).2 h)

/-- What the body keeps between points: its halves of the two tables. -/
def kept (c : Dev nD) : sProp M :=
  iprop((tbM0_0.view.loc (c : Thread nD τ) ↦{fullShare.right} bg a) ∗ (tbM0_1.view.loc (c : Thread nD τ) ↦{fullShare.right} nv a))

/-- The launch's data on core `c`. -/
def dats (_ : Fin 1) (c : Dev nD) : Dat τ (Elt Ideal) Unit ℕ (UR sig nD τ) ℕ (cfg a) c where
  A w := (s₀ m ρ).mem (((cfg a).win w).arr.view.loc (c : Thread nD τ))
  after w t := match w with
    | ⟨0, _⟩ => got a m ρ c (0 : Fin 5) t
    | ⟨1, _⟩ => got a m ρ c (1 : Fin 5) t
    | ⟨2, _⟩ => got a m ρ c (2 : Fin 5) t
    | ⟨3, _⟩ => got a m ρ c (3 : Fin 5) t
    | ⟨4, _⟩ => left a m ρ c t
  Φ _ := kept a c
  q _ := fullShare
  owed _ := 0

theorem after_0 (c : Dev nD) (t : Fin (cfg a).N) : (dats a m ρ 0 c).after (0 : Fin 5) t = got a m ρ c (0 : Fin 5) t := rfl
theorem after_1 (c : Dev nD) (t : Fin (cfg a).N) : (dats a m ρ 0 c).after (1 : Fin 5) t = got a m ρ c (1 : Fin 5) t := rfl
theorem after_2 (c : Dev nD) (t : Fin (cfg a).N) : (dats a m ρ 0 c).after (2 : Fin 5) t = got a m ρ c (2 : Fin 5) t := rfl
theorem after_3 (c : Dev nD) (t : Fin (cfg a).N) : (dats a m ρ 0 c).after (3 : Fin 5) t = got a m ρ c (3 : Fin 5) t := rfl
theorem after_4 (c : Dev nD) (t : Fin (cfg a).N) : (dats a m ρ 0 c).after (4 : Fin 5) t = left a m ρ c t := rfl

/-- Window 0 holds its block when the body runs. -/
theorem before_0 (c : Dev nD) (t : Fin (cfg a).N) (d) : (dats a m ρ 0 c).before (0 : Fin 5) t d = got a m ρ c (0 : Fin 5) t :=
  ((dats a m ρ 0 c).before_in_eq_fetched (0 : Fin 5) rfl (fun _ => rfl) (fun _ _ _ => rfl) (fun t => by rw [after_0]; unfold Dat.blockOf got; rfl) t d).trans
    (by unfold Dat.fetched Dat.blockOf got; rfl)

/-- Window 1 holds its block when the body runs. -/
theorem before_1 (c : Dev nD) (t : Fin (cfg a).N) (d) : (dats a m ρ 0 c).before (1 : Fin 5) t d = got a m ρ c (1 : Fin 5) t :=
  ((dats a m ρ 0 c).before_in_eq_fetched (1 : Fin 5) rfl (fun _ => rfl) (fun _ _ _ => rfl) (fun t => by rw [after_1]; unfold Dat.blockOf got; rfl) t d).trans
    (by unfold Dat.fetched Dat.blockOf got; rfl)

/-- Window 2 holds its block when the body runs. -/
theorem before_2 (c : Dev nD) (t : Fin (cfg a).N) (d) : (dats a m ρ 0 c).before (2 : Fin 5) t d = got a m ρ c (2 : Fin 5) t :=
  ((dats a m ρ 0 c).before_in_eq_fetched (2 : Fin 5) rfl (fun _ => rfl) (fun _ _ _ => rfl) (fun t => by rw [after_2]; unfold Dat.blockOf got; rfl) t d).trans
    (by unfold Dat.fetched Dat.blockOf got; rfl)

/-- Window 3 holds its block when the body runs. -/
theorem before_3 (c : Dev nD) (t : Fin (cfg a).N) (d) : (dats a m ρ 0 c).before (3 : Fin 5) t d = got a m ρ c (3 : Fin 5) t :=
  ((dats a m ρ 0 c).before_in_eq_fetched (3 : Fin 5) rfl (fun _ => rfl) (fun _ _ _ => rfl) (fun t => by rw [after_3]; unfold Dat.blockOf got; rfl) t d).trans
    (by unfold Dat.fetched Dat.blockOf got; rfl)

/-- The body at a point, on that point's buffers. -/
abbrev body (t : Fin (cfg a).N) : Prog (TpuEff nD τ sig (Elt Ideal) Λ₀ .tc) PUnit :=
  cc0_experts (at' a t) (Memref.whole main_arg0) (Memref.isWhole_whole _) (Memref.whole main_arg1) (Memref.isWhole_whole _) (b0 a t) (w0 a t) (b1 a t) (w1 a t) (b2 a t) (w2 a t) (b3 a t) (w3 a t) (b4 a t) (w4 a t)

set_option maxHeartbeats 4000000 in
/-- The body, at every point, takes the fetched blocks and leaves `left`. -/
theorem body_runs (c : Dev nD) (t : Fin (cfg a).N) :
    iprop((dats a m ρ 0 c).Φ t.castSucc ∗ (dats a m ρ 0 c).owesAt () t.castSucc
        ∗ (∃ d, owns (c : Thread nD τ) (b0 a t) fullShare ((dats a m ρ 0 c).before (0 : Fin 5) t d))
        ∗ (∃ d, owns (c : Thread nD τ) (b1 a t) fullShare ((dats a m ρ 0 c).before (1 : Fin 5) t d))
        ∗ (∃ d, owns (c : Thread nD τ) (b2 a t) fullShare ((dats a m ρ 0 c).before (2 : Fin 5) t d))
        ∗ (∃ d, owns (c : Thread nD τ) (b3 a t) fullShare ((dats a m ρ 0 c).before (3 : Fin 5) t d))
        ∗ (∃ d, owns (c : Thread nD τ) (b4 a t) fullShare ((dats a m ρ 0 c).before (4 : Fin 5) t d)))
      ⊢ wp frame (wpE (defs₀ (F := Ideal)) Variants.none c none) Set.univ (body a t) fun _ =>
          iprop((dats a m ρ 0 c).Φ t.succ ∗ (dats a m ρ 0 c).owesAt () t.succ
            ∗ bigSep Finset.univ fun w : Fin (cfg a).W =>
                match (cfg a).idle w ((cfg a).grid.coords t) with
                | true =>
                  match ((cfg a).win w).flush t with
                  | false => iprop(∃ d, owns (c : Thread nD τ) (((cfg a).win w).stage ((cfg a).slots t w)) fullShare ((dats a m ρ 0 c).before w t d))
                  | true => owns (c : Thread nD τ) (((cfg a).win w).stage ((cfg a).slots t w)) fullShare ((dats a m ρ 0 c).after w t)
                | false => owns (c : Thread nD τ) (((cfg a).win w).stage ((cfg a).slots t w)) fullShare ((dats a m ρ 0 c).after w t)) := by
  rw [bigSep_W0]
  have i4 : (cfg a).idle (4 : Fin 5) ((cfg a).grid.coords t) = false := busy a t
  rewrite [i4]
  simp only [before_0, before_1, before_2, before_3, after_0, after_1, after_2, after_3, after_4]
  rewrite [show (dats a m ρ 0 c).Φ t.succ = kept a c from rfl, show (dats a m ρ 0 c).Φ t.castSucc = kept a c from rfl,
    show (dats a m ρ 0 c).owesAt () t.succ = (dats a m ρ 0 c).owesAt () t.castSucc from rfl]
  unfold kept
  by_cases h : used a t
  · have hl : left a m ρ c t = _ := dif_pos h
    rewrite [hl]
    iintro ⟨⟨HT0, HT1⟩, Ho, ⟨%d0, H0⟩, ⟨%d1, H1⟩, ⟨%d2, H2⟩, ⟨%d3, H3⟩, ⟨%d4, H4⟩⟩
    iapply ((kernelRun0_A c (at' a t) (b0 a t) (w0 a t) (b1 a t) (w1 a t) (b2 a t) (w2 a t) (b3 a t) (w3 a t) (b4 a t) (w4 a t) (bg a) (nv a) (got a m ρ c (0 : Fin 5) t) (got a m ρ c (1 : Fin 5) t) (got a m ρ c (2 : Fin 5) t) (got a m ρ c (3 : Fin 5) t) h (fun h' => (spare _ _).1 h' h)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_A_4 c _ _ _ _ _ _ _ _ _ _ _ _ _ _ _ _ _ _ _)
  · have hl : left a m ρ c t = _ := dif_neg h
    rewrite [hl]
    iintro ⟨⟨HT0, HT1⟩, Ho, ⟨%d0, H0⟩, ⟨%d1, H1⟩, ⟨%d2, H2⟩, ⟨%d3, H3⟩, ⟨%d4, H4⟩⟩
    iapply ((kernelRun0_B c (at' a t) (b0 a t) (w0 a t) (b1 a t) (w1 a t) (b2 a t) (w2 a t) (b3 a t) (w3 a t) (b4 a t) (w4 a t) (bg a) (nv a) (got a m ρ c (0 : Fin 5) t) (got a m ρ c (1 : Fin 5) t) (got a m ρ c (2 : Fin 5) t) (got a m ρ c (3 : Fin 5) t) h ((spare _ _).2 h)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_B_4 c _ _ _ _ _ _ _ _ _ _ _ _ _ _ _ _ _ _ _)

/-- The same, as the launch asks for it. -/
theorem obligation (c : Dev nD) : BodyObligation (dats a m ρ 0 c) (defs₀ (F := Ideal)) Variants.none () Set.univ := fun t => by
  rw [bigSep_W0]
  exact body_runs a m ρ c t

/-- The launch's starting resources. -/
def start : UR sig nD τ :=
  initOf (Pipeline.cells (cfgs a) ((launch0 (F := Ideal)).cellOf_inj fun _ => a))
    (Pipeline.launchToks (cfgs a) ((launch0 (F := Ideal)).cellOf_inj fun _ => a))

/-- Every window holds its buffers whole. -/
theorem share_full (c : Dev nD) (w : Fin (cfg a).W) : (dats a m ρ 0 c).share w = fullShare := by unfold Dat.share; split <;> rfl

/-- The tables handed to the launch, one by one. -/
theorem tables_held (c : Dev nD) (q : Fin 2 → PosShare TreeShare) (v : pre0.Contents (Elt Ideal)) :
    (Pipeline.prefHeld (Ix := Unit) (Name := ℕ) (U := UR sig nD τ) (Lvl := ℕ) pre0 c q v : sProp M)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The body's halves of the tables come from the launch. -/
theorem enter (c : Dev nD) :
    iprop(BI.emp ∗ Pipeline.prefHeld pre0 c (fun _ => fullShare.right) a.1 ∗ Pipeline.scopedRest spec0 c) ⊢ (dats a m ρ 0 c).Φ 0 := by
  rw [tables_held, scopedRest0_eq, show (dats a m ρ 0 c).Φ 0 = kept a c from rfl]
  unfold kept
  iintro ⟨-, ⟨HT0, HT1⟩, -⟩
  isplitl [HT0]
  · iexact HT0
  iexact HT1

/-- At the end they are let go. -/
theorem leave (c : Dev nD) : (dats a m ρ 0 c).Φ (Fin.last (cfg a).N) ⊢ iprop(BI.emp ∗ Pipeline.scopedRest spec0 c) := by
  rw [scopedRest0_eq, show (dats a m ρ 0 c).Φ (Fin.last (cfg a).N) = kept a c from rfl]
  unfold kept
  iintro ⟨-, -⟩
  isplitr; · iempintro
  iempintro

/-- The memory's two tables are `a`. -/
def Holds : Prop := ∀ (c : Dev nD) (j : Fin 2), m ((c : Thread nD τ).loc (pre0.ref j)) = a.1 j

/-- The end of the run: every array as computed, the tables as they were. -/
def Final : PUnit × MemSt nD τ sig (Elt Ideal) → Prop := fun r =>
  ∀ c : Dev nD, (∀ w : Fin (cfg a).W, r.2.mem (((cfg a).win w).arr.view.loc (c : Thread nD τ)) = (dats a m ρ 0 c).arrAt w (cfg a).N)
    ∧ ∀ j, r.2.mem ((c : Thread nD τ).loc (pre0.ref j)) = a.1 j

set_option backward.isDefEq.respectTransparency.types false in
set_option maxHeartbeats 4000000 in
/-- From any memory whose tables are `a`, the program ends, at `Final`, every semaphore at zero. -/
theorem runs (hp : Holds a m) : θ_run (defs (F := Ideal)) (onTc (τ := τ) (main (F := Ideal))) (s₀ m ρ) (fun r => Final a m ρ r ∧ r.2.sem = fun _ => 0) :=
  Pipeline.θ_run_region_noSem_pf_quiescent pcfgs (fun _ => a) (dats a m ρ) () ((launch0 (F := Ideal)).cellOf_inj fun _ => a) (0 : Fin 1)
    (launch0 (F := Ideal)).win.to₀ (launch0 (F := Ideal)).pre emb defs₀ Variants.none m ρ main
    (hbody := fun c => (obligation a m ρ c).loose) (hne := (launch0 (F := Ideal)).block_pos)
    (harr := (launch0 (F := Ideal)).arr_whole) (hstage := (launch0 (F := Ideal)).stage_whole) (howed := fun _ _ => rfl)
    (u₀ := start a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (cfgs a) (dats a m ρ) 0 (launch0 (F := Ideal)).win.arr_inj c (launch0 (F := Ideal)).arr_whole
      (share_full a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := enter a m ρ)
    (hout := leave a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `Final` leaves every argument as it was. -/
theorem args_kept (hp : Holds a m) (r : PUnit × MemSt nD τ sig (Elt Ideal)) (h : Final a m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 0).trans (hp c 0).symm, ((h c).2 1).trans (hp c 1).symm, ((h c).1 (0 : Fin 5)).trans ((dats a m ρ 0 c).arrAt_in (0 : Fin 5) rfl _),
    ((h c).1 (1 : Fin 5)).trans ((dats a m ρ 0 c).arrAt_in (1 : Fin 5) rfl _), ((h c).1 (2 : Fin 5)).trans ((dats a m ρ 0 c).arrAt_in (2 : Fin 5) rfl _),
    ((h c).1 (3 : Fin 5)).trans ((dats a m ρ 0 c).arrAt_in (3 : Fin 5) rfl _)⟩

/-- A table whose every word is less than four keeps the experts' blocks inside their arrays. -/
theorem inside (pf : pre0.Contents (Elt Ideal)) (h : ∀ x : S68.Idx, BitVec.toNat (w := 32) (pf 0 x) < 4) : ok0 (F := Ideal) pf := by
  have h1 : ∀ i : grid0.Coords, ∀ b, (cc0_transform_1 k0_off1_inb numel1_S1 pf i b + 1) * S4x1024x512.size b ≤ S16x1024x512.size b := fun i b => match b with
    | ⟨0, _⟩ => by
      have := h ((Rect.unit (s := S68) (k0_off1 i) S1.size (k0_off1_inb i)).idx (Shape.Idx.first (numel1_S1.symm ▸ Nat.one_pos)))
      show (_ + 1) * 4 ≤ 16
      exact Nat.mul_le_mul_right 4 (Nat.succ_le_of_lt this)
    | ⟨1, _⟩ => Nat.le_refl 1024
    | ⟨2, _⟩ => Nat.le_refl 512
  have h3 : ∀ i : grid0.Coords, ∀ b, (cc0_transform_3 k0_off1_inb numel1_S1 pf i b + 1) * S4x512x1024.size b ≤ S16x512x1024.size b := fun i b => match b with
    | ⟨0, _⟩ => h1 i 0
    | ⟨1, _⟩ => Nat.le_refl 512
    | ⟨2, _⟩ => Nat.le_refl 1024
  exact ⟨fun i => ⟨h1 i, .inr (Affine.block_words_dvd (s := S16x1024x512) (p := EltTy.packing .bf16) (by decide) (by decide))⟩,
    fun i => ⟨h1 i, .inr (Affine.block_words_dvd (s := S16x1024x512) (p := EltTy.packing .bf16) (by decide) (by decide))⟩,
    fun i => ⟨h3 i, .inr (Affine.block_words_dvd (s := S16x512x1024) (p := EltTy.packing .bf16) (by decide) (by decide))⟩⟩

/-- The memory's tables, admissible where every group is less than four. -/
def tables (h : ∀ x : S68.Idx, BitVec.toNat (w := 32) (m (((0 : Dev nD) : Thread nD τ).loc main_arg0) x) < 4) : (pcfg0 (F := Ideal)).Adm :=
  ⟨fun j => m (((0 : Dev nD) : Thread nD τ).loc (pre0.ref j)), inside _ h⟩

/-- The memory holds them, on its one device. -/
theorem holds (h : ∀ x : S68.Idx, BitVec.toNat (w := 32) (m (((0 : Dev nD) : Thread nD τ).loc main_arg0) x) < 4) : Holds (tables m h) m := fun c j => by
  obtain rfl : c = 0 := Subsingleton.elim _ _
  rfl

end Cert.ExpIdeal.Any

end
-- ==== Proof.ExpPre.lean ====
/- What the experts' preconditions say: every group is less than four, every weight finite and not negative. -/
module

public import proofs.«01_k».proof.Proof.Gen.Pre_groups
public import proofs.«01_k».proof.Proof.Gen.Pre_weighted
public import Idealize.ShloMosaic.Lib.ReduceAll
public import Idealize.ShloMosaic.PureOps.Ideal
public import Idealize.ShloMosaic.Lib.Pipeline.ValueKit

@[expose] public section

set_option maxRecDepth 16384

noncomputable section

namespace Cert.ExpPre

open Idealize.ShloMosaic

/-- A word that is not negative and less than four, as signed numbers, is less than four. -/
theorem below_four {v : BitVec 32} (h : IntOp.andi (IntOp.cmpi .sge v 0#32) (IntOp.cmpi .slt v 4#32) = 1#1) : v.toNat < 4 := by
  obtain ⟨h0, h1⟩ := IntOp.andi_eq_one.mp h
  have ht : ∀ b : Bool, BitVec.ofBool b = 1#1 → b = true := by decide
  have h0' := BitVec.sle_iff_toInt_le.mp (ht _ h0)
  have h1' := BitVec.slt_iff_toInt_lt.mp (ht _ h1)
  have e0 : (0#32).toInt = 0 := by decide
  have e4 : (4#32).toInt = 4 := by decide
  rw [e0] at h0'
  rw [e4] at h1'
  have hv := v.isLt
  rw [BitVec.toInt_eq_toNat_cond] at h0' h1'
  split at h0' <;> omega

/-- A number that is at least 0 and below +∞. -/
theorem finite {x : EReal} (h : IntOp.andi (Ideal.cmp .oge x (Ideal.ofBits .f32 0x00000000#32)) (Ideal.cmp .olt x (Ideal.ofBits .f32 0x7F800000#32)) = 1#1) :
    0 ≤ x ∧ x < ⊤ := by
  obtain ⟨h0, h1⟩ := IntOp.andi_eq_one.mp h
  have e : Ideal.ofBits .f32 0x7F800000#32 = ⊤ := by simp [Ideal.ofBits, Ideal.ieee]
  have z : Ideal.ofBits .f32 0x00000000#32 = 0 := by simp [Ideal.ofBits, Ideal.ieee]
  rw [z] at h0
  rw [e] at h1
  constructor
  · by_contra hn
    simp [Ideal.cmp, hn] at h0
  · by_contra hn
    simp [Ideal.cmp, hn] at h1

section
attribute [local instance] Cert.Pre_groups.Gen.facts

/-- The first precondition: every group is less than four. -/
theorem groups {F : FTy → Type} [FloatOps F] {x0 : IVec Cert.Pre_groups.S68 32} {x1 : IVec Cert.Pre_groups.S1 32} {x2 : FVec F Cert.Pre_groups.S17408x1152 .f32}
    {x3 x4 : FVec F Cert.Pre_groups.S16x1024x512 .bf16} {x5 : FVec F Cert.Pre_groups.S16x512x1024 .bf16}
    (h : Cert.Pre_groups.fn (F := F) x0 x1 x2 x3 x4 x5 = fun _ => 1#1) (i : Cert.Pre_groups.S68.Idx) : (x0 i).toNat < 4 := by
  have h' := congrFun h ix0
  unfold Cert.Pre_groups.fn at h'
  haveI : Subsingleton Cert.Pre_groups.S_.Idx := ⟨fun a b => funext fun i => i.elim0⟩
  exact below_four (Host.reduce_andi_all _ _ _ _ _ h' i)
end

section
attribute [local instance] Cert.Pre_weighted.Gen.facts

/-- The second precondition: every group is less than four and every weight finite and not negative. -/
theorem weighted {x0 : IVec Cert.Pre_weighted.S68 32} {x1 : IVec Cert.Pre_weighted.S1 32} {x2 : Cert.Pre_weighted.S17408x1152.Idx → EReal}
    {x3 x4 : Cert.Pre_weighted.S16x1024x512.Idx → EReal} {x5 : Cert.Pre_weighted.S16x512x1024.Idx → EReal}
    (h : Cert.Pre_weighted.fn (F := Ideal) x0 x1 x2 x3 x4 x5 = fun _ => 1#1) :
    (∀ i, (x0 i).toNat < 4) ∧ ∀ (r : Fin 17408) (e : Fin 4), 0 ≤ x2 (ix2 r ⟨1024 + e.val, by omega⟩) ∧ x2 (ix2 r ⟨1024 + e.val, by omega⟩) < ⊤ := by
  have h' := congrFun h ix0
  unfold Cert.Pre_weighted.fn at h'
  obtain ⟨h0, h1⟩ := IntOp.andi_eq_one.mp h'
  haveI : Subsingleton Cert.Pre_weighted.S_.Idx := ⟨fun a b => funext fun i => i.elim0⟩
  refine ⟨fun i => below_four (Host.reduce_andi_all _ _ _ _ _ h0 i), fun r e => ?_⟩
  have hw := finite (Host.reduce_andi_all _ _ _ _ _ h1 (ix2 r e))
  have hi : extractStridedSlice Cert.Pre_weighted.S17408x4 ![0, 1024] x2 Cert.Pre_weighted.Gen.facts.slices_S17408x1152_S17408x4_0_1024 (ix2 r e) =
      x2 (ix2 r ⟨1024 + e.val, by omega⟩) := congrArg x2 (funext fun d => match d with
    | ⟨0, _⟩ => Fin.ext (by show 0 + r.val = r.val; omega)
    | ⟨1, _⟩ => rfl)
  rw [← hi]
  exact hw
end

end Cert.ExpPre

end
-- ==== Proof.ExpTile.lean ====
/- The experts' tile read at an index: four gated projections of a row, weighted, against their down projections. -/
module

public import proofs.«01_k».proof.Proof.ExpAnyIdeal
public import Idealize.ShloMosaic.Lib.Pipeline.ValueKit
public import Idealize.ShloMosaic.Lib.WholeRead
public import Idealize.ShloMosaic.Lib.ValueLayout

@[expose] public section

set_option maxRecDepth 16384

noncomputable section

namespace Cert.ExpTile

open Cert.ExpIdeal Cert.ExpIdeal.Gen Idealize.ShloMosaic

/-! ## The mathematics -/

/-- One hidden unit of one expert: the gate, times its logistic, times the up projection. -/
def gated (x g u : Fin 1024 → EReal) : EReal :=
  (∑ k, x k * g k) * Ideal.logistic (∑ k, x k * g k) * ∑ k, x k * u k

/-- A row through four experts, the weights inside the sum over the hidden units. -/
def inner (x : Fin 1024 → EReal) (w : Fin 4 → EReal) (g u : Fin 4 → Fin 1024 → Fin 512 → EReal) (d : Fin 4 → Fin 512 → EReal) : EReal :=
  ∑ e, ∑ f, gated x (fun k => g e k f) (fun k => u e k f) * w e * d e f

/-- A row through four experts, the weights outside the sum over the hidden units. -/
def outer (x : Fin 1024 → EReal) (w : Fin 4 → EReal) (g u : Fin 4 → Fin 1024 → Fin 512 → EReal) (d : Fin 4 → Fin 512 → EReal) : EReal :=
  ∑ e, (∑ f, d e f * gated x (fun k => g e k f) (fun k => u e k f)) * w e

/-- A finite weight that is not negative distributes over a sum. -/
theorem sum_mul_of_nonneg {ι : Type} (s : Finset ι) (a : ι → EReal) {w : EReal} (h0 : 0 ≤ w) (h1 : w ≠ ⊤) :
    (∑ f ∈ s, a f) * w = ∑ f ∈ s, a f * w := by
  classical
  induction s using Finset.induction_on with
  | empty => simp
  | insert i s hi ih => rw [Finset.sum_insert hi, Finset.sum_insert hi, EReal.right_distrib_of_nonneg_of_ne_top h0 h1, ih]

/-- The two orders agree where every weight is finite and not negative. -/
theorem inner_eq_outer (x : Fin 1024 → EReal) (w : Fin 4 → EReal) (g u : Fin 4 → Fin 1024 → Fin 512 → EReal) (d : Fin 4 → Fin 512 → EReal)
    (h : ∀ e, 0 ≤ w e ∧ w e < ⊤) : inner x w g u d = outer x w g u d := by
  unfold inner outer
  refine Finset.sum_congr rfl fun e _ => ?_
  rw [sum_mul_of_nonneg _ _ (h e).1 (h e).2.ne]
  refine Finset.sum_congr rfl fun f _ => ?_
  rw [mul_right_comm, mul_comm (gated _ _ _)]

/-- A sum over 2048 is four sums over 512. -/
theorem sum_split (a : Fin 2048 → EReal) : ∑ k, a k = ∑ e : Fin 4, ∑ f : Fin 512, a ⟨512 * e.val + f.val, by omega⟩ := by
  rw [← Fintype.sum_prod_type' (f := fun (e : Fin 4) (f : Fin 512) => a ⟨512 * e.val + f.val, by omega⟩)]
  exact (Fintype.sum_equiv (finProdFinEquiv (m := 4) (n := 512)) _ a fun p => congrArg a (Fin.ext (by
    show 512 * p.1.val + p.2.val = p.2.val + 512 * p.1.val
    omega))).symm

/-! ## The tile -/

/-- The kernel's hidden units of one expert, weighted. -/
def hidden (x : FVec Ideal S256x1024 .bf16) (w : FVec Ideal S256x1 .f32) (g u : Vec Ideal S1x1024x512 .bf16) : FVec Ideal S256x512 .bf16 :=
  have s : FVec Ideal S256x512 .f32 := matmul dot_S256x1024_S1024x512_S256x512_1_0_0_1_n_n none x
    (shapeCast S1024x512 g shapeCasts_S1x1024x512_S1024x512 : FVec Ideal S1024x512 .bf16) (constant S256x512 .f32 0x00000000#32)
  truncf .bf16 (mulf (mulf (mulf s (logistic s)) (matmul dot_S256x1024_S1024x512_S256x512_1_0_0_1_n_n none x
    (shapeCast S1024x512 u shapeCasts_S1x1024x512_S1024x512 : FVec Ideal S1024x512 .bf16) (constant S256x512 .f32 0x00000000#32)))
    (broadcastTo S256x512 w broadcasts_S256x1_S256x512)) bitsLt_bf16_f32

/-- A row against one expert's first matrices. -/
theorem proj_at (x : FVec Ideal S256x1024 .bf16) (g : Vec Ideal S1x1024x512 .bf16) (i : Fin 256) (f : Fin 512) :
    matmul (F := Ideal) dot_S256x1024_S1024x512_S256x512_1_0_0_1_n_n none x (shapeCast S1024x512 g shapeCasts_S1x1024x512_S1024x512 : FVec Ideal S1024x512 .bf16)
      (constant S256x512 .f32 0x00000000#32) (ix2 i f) = ∑ k : Fin 1024, x (ix2 i k) * g (ix3 0 k f) := by
  pointwise

/-- The hidden units at an index. -/
theorem hidden_at (x : FVec Ideal S256x1024 .bf16) (w : FVec Ideal S256x1 .f32) (g u : Vec Ideal S1x1024x512 .bf16) (i : Fin 256) (f : Fin 512) :
    hidden x w g u (ix2 i f) = gated (fun k => x (ix2 i k)) (fun k => g (ix3 0 k f)) (fun k => u (ix3 0 k f)) * w (ix2 i 0) := by
  unfold gated hidden
  rw [← proj_at x g i f, ← proj_at x u i f]
  generalize matmul (F := Ideal) dot_S256x1024_S1024x512_S256x512_1_0_0_1_n_n none x (shapeCast S1024x512 g shapeCasts_S1x1024x512_S1024x512 : FVec Ideal S1024x512 .bf16)
    (constant S256x512 .f32 0x00000000#32) = s
  generalize matmul (F := Ideal) dot_S256x1024_S1024x512_S256x512_1_0_0_1_n_n none x (shapeCast S1024x512 u shapeCasts_S1x1024x512_S1024x512 : FVec Ideal S1024x512 .bf16)
    (constant S256x512 .f32 0x00000000#32) = p
  have hb : broadcastTo S256x512 w broadcasts_S256x1_S256x512 (ix2 i f) = w (ix2 i 0) := by pointwise
  exact congrArg (s (ix2 i f) * Ideal.logistic (s (ix2 i f)) * p (ix2 i f) * ·) hb

/-- Four tiles side by side. -/
def side (h₀ h₁ h₂ h₃ : FVec Ideal S256x512 .bf16) : FVec Ideal S256x2048 .bf16 :=
  concatenate S256x2048 1 [⟨S256x512, h₀⟩, ⟨S256x512, h₁⟩, ⟨S256x512, h₂⟩, ⟨S256x512, h₃⟩]
    concatenates_S256x512_S256x512_S256x512_S256x512_S256x2048_d1

/-- The four tiles, listed. -/
abbrev four (h : Fin 4 → FVec Ideal S256x512 .bf16) : List ((s : Shape) × (s.Idx → Ideal .bf16)) :=
  [⟨S256x512, h 0⟩, ⟨S256x512, h 1⟩, ⟨S256x512, h 2⟩, ⟨S256x512, h 3⟩]

/-- The side-by-side tiles, one expert at a time. -/
theorem side_at (h : Fin 4 → FVec Ideal S256x512 .bf16) (i : Fin 256) (e : Fin 4) (f : Fin 512) :
    side (h 0) (h 1) (h 2) (h 3) (ix2 i ⟨512 * e.val + f.val, by omega⟩) = h e (ix2 i f) := by
  unfold side
  match e with
  | ⟨0, _⟩ =>
    exact concatenate_apply_piece (t := S256x2048) 1 (four h) _ (ix2 i ⟨512 * 0 + f.val, by omega⟩) 0 (show 0 < 4 by decide) S256x512 (h 0) rfl rfl 0 rfl (ix2 i f)
      (fun b hb => match b with | ⟨0, _⟩ => rfl | ⟨1, _⟩ => absurd rfl hb) (by show 0 + f.val = 512 * 0 + f.val; omega)
  | ⟨1, _⟩ =>
    exact concatenate_apply_piece (t := S256x2048) 1 (four h) _ (ix2 i ⟨512 * 1 + f.val, by omega⟩) 1 (show 1 < 4 by decide) S256x512 (h 1) rfl rfl 512 rfl (ix2 i f)
      (fun b hb => match b with | ⟨0, _⟩ => rfl | ⟨1, _⟩ => absurd rfl hb) (by show 512 + f.val = 512 * 1 + f.val; omega)
  | ⟨2, _⟩ =>
    exact concatenate_apply_piece (t := S256x2048) 1 (four h) _ (ix2 i ⟨512 * 2 + f.val, by omega⟩) 2 (show 2 < 4 by decide) S256x512 (h 2) rfl rfl 1024 rfl (ix2 i f)
      (fun b hb => match b with | ⟨0, _⟩ => rfl | ⟨1, _⟩ => absurd rfl hb) (by show 1024 + f.val = 512 * 2 + f.val; omega)
  | ⟨3, _⟩ =>
    exact concatenate_apply_piece (t := S256x2048) 1 (four h) _ (ix2 i ⟨512 * 3 + f.val, by omega⟩) 3 (show 3 < 4 by decide) S256x512 (h 3) rfl rfl 1536 rfl (ix2 i f)
      (fun b hb => match b with | ⟨0, _⟩ => rfl | ⟨1, _⟩ => absurd rfl hb) (by show 1536 + f.val = 512 * 3 + f.val; omega)

/-- The down projection of the side-by-side tiles at an index. -/
theorem down_at (q : FVec Ideal S256x2048 .bf16) (r : FVec Ideal S2048x1024 .bf16) (i : Fin 256) (j : Fin 1024) :
    matmul (F := Ideal) dot_S256x2048_S2048x1024_S256x1024_1_0_0_1_n_n none q r (constant S256x1024 .f32 0x00000000#32) (ix2 i j) =
      ∑ k : Fin 2048, q (ix2 i k) * r (ix2 k j) := by
  pointwise

/-- The four down projections under one another, one expert at a time. -/
theorem under_at (d : Vec Ideal S4x512x1024 .bf16) (e : Fin 4) (f : Fin 512) (j : Fin 1024) :
    shapeCast S2048x1024 d shapeCasts_S4x512x1024_S2048x1024 (ix2 ⟨512 * e.val + f.val, by omega⟩ j) = d (ix3 e f j) :=
  shapeCast_apply d shapeCasts_S4x512x1024_S2048x1024 _ (ix3 e f j) (by
    rewrite [Shape.rowMajor_val_three, Shape.rowMajor_val_two]
    show (e.val * 512 + f.val) * 1024 + j.val = (512 * e.val + f.val) * 1024 + j.val
    omega)

/-- The block the kernel stores, of the row block `x` and the experts' matrices. -/
def tile (x : Vec Ideal S256x1152 .f32) (g u : Fin 4 → Vec Ideal S1x1024x512 .bf16) (d : Vec Ideal S4x512x1024 .bf16) : FVec Ideal S256x1024 .f32 :=
  k0_pay1 (k0_pay3 x) (k0_pay4 x) (k0_pay5 x (g 0) (u 0)) (k0_pay6 x (g 1) (u 1)) (k0_pay7 x (g 2)) (k0_pay8 (u 2)) (g 3) (u 3) d

/-- The weights of one expert. -/
def column (x : Vec Ideal S256x1152 .f32) : Fin 4 → FVec Ideal S256x1 .f32
  | 0 => extractStridedSlice S256x1 ![0, 0] (k0_pay4 x) slices_S256x128_o0_0_S256x1
  | 1 => extractStridedSlice S256x1 ![0, 1] (k0_pay4 x) slices_S256x128_o0_1_S256x1
  | 2 => extractStridedSlice S256x1 ![0, 2] (k0_pay4 x) slices_S256x128_o0_2_S256x1
  | 3 => extractStridedSlice S256x1 ![0, 3] (k0_pay4 x) slices_S256x128_o0_3_S256x1

/-- The weights of one expert at a row. -/
theorem column_at (x : Vec Ideal S256x1152 .f32) (e : Fin 4) (i : Fin 256) : column x e (ix2 i 0) = x (ix2 i ⟨1024 + e.val, by omega⟩) := by
  match e with
  | ⟨0, _⟩ => show extractStridedSlice S256x1 ![0, 0] (k0_pay4 x) slices_S256x128_o0_0_S256x1 (ix2 i 0) = _; pointwise [k0_pay4]
  | ⟨1, _⟩ => show extractStridedSlice S256x1 ![0, 1] (k0_pay4 x) slices_S256x128_o0_1_S256x1 (ix2 i 0) = _; pointwise [k0_pay4]
  | ⟨2, _⟩ => show extractStridedSlice S256x1 ![0, 2] (k0_pay4 x) slices_S256x128_o0_2_S256x1 (ix2 i 0) = _; pointwise [k0_pay4]
  | ⟨3, _⟩ => show extractStridedSlice S256x1 ![0, 3] (k0_pay4 x) slices_S256x128_o0_3_S256x1 (ix2 i 0) = _; pointwise [k0_pay4]

/-- The rows' first 1024 columns. -/
theorem row_at (x : Vec Ideal S256x1152 .f32) (i : Fin 256) (k : Fin 1024) : k0_pay3 x (ix2 i k) = x (ix2 i ⟨k.val, by omega⟩) := by
  pointwise [k0_pay3]

/-- The stored block in the names above. -/
theorem tile_eq (x : Vec Ideal S256x1152 .f32) (g u : Fin 4 → Vec Ideal S1x1024x512 .bf16) (d : Vec Ideal S4x512x1024 .bf16) :
    tile x g u d = matmul dot_S256x2048_S2048x1024_S256x1024_1_0_0_1_n_n none
      (side (hidden (k0_pay3 x) (column x 0) (g 0) (u 0)) (hidden (k0_pay3 x) (column x 1) (g 1) (u 1))
        (hidden (k0_pay3 x) (column x 2) (g 2) (u 2)) (hidden (k0_pay3 x) (column x 3) (g 3) (u 3)))
      (shapeCast S2048x1024 d shapeCasts_S4x512x1024_S2048x1024 : FVec Ideal S2048x1024 .bf16) (constant S256x1024 .f32 0x00000000#32) := rfl

/-- The stored block at an index: the row through the four experts. -/
theorem tile_at (x : Vec Ideal S256x1152 .f32) (g u : Fin 4 → Vec Ideal S1x1024x512 .bf16) (d : Vec Ideal S4x512x1024 .bf16) (i : Fin 256) (j : Fin 1024) :
    tile x g u d (ix2 i j) = inner (fun k => x (ix2 i ⟨k.val, by omega⟩)) (fun e => x (ix2 i ⟨1024 + e.val, by omega⟩))
      (fun e k f => g e (ix3 0 k f)) (fun e k f => u e (ix3 0 k f)) (fun e f => d (ix3 e f j)) := by
  rw [tile_eq, down_at, sum_split]
  unfold inner
  refine Finset.sum_congr rfl fun e _ => Finset.sum_congr rfl fun f _ => ?_
  rw [under_at d e f j, side_at (fun e => hidden (k0_pay3 x) (column x e) (g e) (u e)) i e f, hidden_at, column_at]
  simp only [row_at]

/-- A row of a block of rows. -/
def row (b : Fin 68) (s : Fin 256) : Fin 17408 := ⟨256 * b.val + s.val, by omega⟩

/-- The block a row lies in. -/
def blockOf (r : Fin 17408) : Fin 68 := ⟨r.val / 256, by omega⟩

/-- A row's place in its block. -/
def within (r : Fin 17408) : Fin 256 := ⟨r.val % 256, by omega⟩

/-- A row of a block lies in that block, -/
theorem blockOf_row (b : Fin 68) (s : Fin 256) : blockOf (row b s) = b := Fin.ext (by show (256 * b.val + s.val) / 256 = b.val; omega)

/-- at its own place. -/
theorem within_row (b : Fin 68) (s : Fin 256) : within (row b s) = s := Fin.ext (by show (256 * b.val + s.val) % 256 = s.val; omega)

/-- Every row is the row at its place of its block. -/
theorem row_blockOf (r : Fin 17408) : row (blockOf r) (within r) = r := Fin.ext (by show 256 * (r.val / 256) + r.val % 256 = r.val; omega)

/-- An expert of a group. -/
def expert (q e : Fin 4) : Fin 16 := ⟨4 * q.val + e.val, by omega⟩

/-- The rows of the experts' result as the kernel reckons them: a block in use has its group's experts weighted before the
last product, a spare block has zeros. -/
def weightedFirst (q : Fin 68 → Fin 4) (n : BitVec 32) (x : S17408x1152.Idx → EReal) (g u : S16x1024x512.Idx → EReal)
    (d : S16x512x1024.Idx → EReal) (b : Fin 68) (s : Fin 256) (j : Fin 1024) : EReal :=
  if IntOp.cmpi .slt (BitVec.ofNat 32 b.val) n = 1#1 then
    inner (fun k => x (ix2 (row b s) ⟨k.val, by omega⟩)) (fun e => x (ix2 (row b s) ⟨1024 + e.val, by omega⟩))
      (fun e k f => g (ix3 (expert (q b) e) k f)) (fun e k f => u (ix3 (expert (q b) e) k f)) (fun e f => d (ix3 (expert (q b) e) f j))
  else Ideal.ofBits .f32 0x00000000#32

/-- The same rows as the reference reckons them: weighted after the last product. -/
def weightedLast (q : Fin 68 → Fin 4) (n : BitVec 32) (x : S17408x1152.Idx → EReal) (g u : S16x1024x512.Idx → EReal)
    (d : S16x512x1024.Idx → EReal) (b : Fin 68) (s : Fin 256) (j : Fin 1024) : EReal :=
  if IntOp.cmpi .slt (BitVec.ofNat 32 b.val) n = 1#1 then
    outer (fun k => x (ix2 (row b s) ⟨k.val, by omega⟩)) (fun e => x (ix2 (row b s) ⟨1024 + e.val, by omega⟩))
      (fun e k f => g (ix3 (expert (q b) e) k f)) (fun e k f => u (ix3 (expert (q b) e) k f)) (fun e f => d (ix3 (expert (q b) e) f j))
  else Ideal.ofBits .f32 0x00000000#32

/-- For finite weights that are not negative the two agree. -/
theorem weighted_agree (q : Fin 68 → Fin 4) (n : BitVec 32) (x : S17408x1152.Idx → EReal) (g u : S16x1024x512.Idx → EReal)
    (d : S16x512x1024.Idx → EReal)
    (h : ∀ (r : Fin 17408) (e : Fin 4), 0 ≤ x (ix2 r ⟨1024 + e.val, by omega⟩) ∧ x (ix2 r ⟨1024 + e.val, by omega⟩) < ⊤)
    (b : Fin 68) (s : Fin 256) (j : Fin 1024) : weightedFirst q n x g u d b s j = weightedLast q n x g u d b s j := by
  unfold weightedFirst weightedLast
  rw [inner_eq_outer _ _ _ _ _ fun e => h (row b s) e]

end Cert.ExpTile

end
-- ==== Proof.ExpBlock.lean ====
/- What the experts' grid points leave, and the array after the run, at any admissible table of groups. -/
module

public import proofs.«01_k».proof.Proof.ExpTile

@[expose] public section

set_option maxRecDepth 16384

noncomputable section

namespace Cert.ExpBlock

open Cert.ExpIdeal Cert.ExpIdeal.Gen Cert.ExpIdeal.Any Idealize.ShloMosaic Idealize.ShloMosaic.TcCoe Idealize.SL.Sem

variable (a : (pcfg0 (F := Ideal)).Adm)
variable (m : (ℓ : Loc nD τ sig) → Buf (Elt Ideal) ℓ) (ρ : Dev nD → PrngReg) (c : Dev nD)

/-- There are 68 grid points. -/
theorem below (t : Fin (cfg a).N) : t.val < 68 := lt_of_lt_of_eq t.isLt N_0

/-- A grid point as a block of rows. -/
def block (t : Fin (cfg a).N) : Fin 68 := ⟨t.val, below a t⟩

/-- The rows' block moves with the grid point. -/
theorem index_0 (t : Fin (cfg a).N) : ((cfg a).win (0 : Fin 5)).index t = ![t.val, 0] :=
  (by decide +kernel : ∀ t : Fin grid0.N, cc0_transform_0 (grid0.coords t) = ![t.val, 0]) t

/-- So does the result's. -/
theorem index_4 (t : Fin (cfg a).N) : ((cfg a).win (4 : Fin 5)).index t = ![t.val, 0] :=
  (by decide +kernel : ∀ t : Fin grid0.N, cc0_transform_4 (grid0.coords t) = ![t.val, 0]) t

/-- A grid point reads its own word of the table of groups. -/
theorem word_at (t : Fin (cfg a).N) : (Rect.unit (s := S68) (k0_off1 (at' a t)) S1.size (k0_off1_inb (at' a t))).idx
    (Shape.Idx.first (numel1_S1.symm ▸ Nat.one_pos)) = ix1 (block a t) :=
  (by decide +kernel : ∀ t : Fin grid0.N, (Rect.unit (s := S68) (k0_off1 (grid0.coords t)) S1.size (k0_off1_inb (grid0.coords t))).idx
    (Shape.Idx.first (numel1_S1.symm ▸ Nat.one_pos)) = ix1 ⟨t.val, lt_of_lt_of_eq t.isLt N_0⟩) t

/-- The group of a grid point. -/
def group (t : Fin (cfg a).N) : ℕ := BitVec.toNat (w := 32) (bg a (ix1 (block a t)))

/-- The gates' blocks are those of the group. -/
theorem index_1 (t : Fin (cfg a).N) : ((cfg a).win (1 : Fin 5)).index t = ![group a t, 0, 0] := by
  unfold group
  rw [← word_at a t]
  rfl

/-- The ups' blocks are those of the group. -/
theorem index_2 (t : Fin (cfg a).N) : ((cfg a).win (2 : Fin 5)).index t = ![group a t, 0, 0] := by
  unfold group
  rw [← word_at a t]
  rfl

/-- The downs' blocks are those of the group. -/
theorem index_3 (t : Fin (cfg a).N) : ((cfg a).win (3 : Fin 5)).index t = ![group a t, 0, 0] := by
  unfold group
  rw [← word_at a t]
  rfl

/-- Every group is one of four. -/
theorem group_lt (t : Fin (cfg a).N) : group a t < 4 := by
  have h := a.2.1 (at' a t)
  have h' := h.1 0
  change (_ + 1) * 4 ≤ 16 at h'
  have e : cc0_transform_1 k0_off1_inb numel1_S1 a.1 (at' a t) 0 = group a t := congrFun (index_1 a t) 0
  rw [e] at h'
  omega

/-- The group of a block of rows, as one of four. -/
def group4 (b : Fin 68) : Fin 4 :=
  ⟨BitVec.toNat (w := 32) (bg a (ix1 b)), group_lt a ⟨b.val, lt_of_lt_of_eq b.isLt N_0.symm⟩⟩

/-- A grid point's rows. -/
theorem x_at (t : Fin (cfg a).N) (s : Fin 256) (k : Fin 1152) : got a m ρ c (0 : Fin 5) t (ix2 s k) =
    (m ((c : Thread nD τ).loc main_arg2) : S17408x1152.Idx → EReal) (ix2 (ExpTile.row (block a t) s) k) := by
  have e := index_0 a t
  blk_ext [got, e, ExpTile.row, block]

/-- A grid point's gates. -/
theorem g_at (t : Fin (cfg a).N) (e : Fin 4) (k : Fin 1024) (f : Fin 512) : got a m ρ c (1 : Fin 5) t (ix3 e k f) =
    (m ((c : Thread nD τ).loc main_arg3) : S16x1024x512.Idx → EReal) (ix3 (ExpTile.expert (group4 a (block a t)) e) k f) := by
  have e := index_1 a t
  blk_ext [got, e, ExpTile.expert, group4, group]

/-- A grid point's ups. -/
theorem u_at (t : Fin (cfg a).N) (e : Fin 4) (k : Fin 1024) (f : Fin 512) : got a m ρ c (2 : Fin 5) t (ix3 e k f) =
    (m ((c : Thread nD τ).loc main_arg4) : S16x1024x512.Idx → EReal) (ix3 (ExpTile.expert (group4 a (block a t)) e) k f) := by
  have e := index_2 a t
  blk_ext [got, e, ExpTile.expert, group4, group]

/-- A grid point's downs. -/
theorem d_at (t : Fin (cfg a).N) (e : Fin 4) (f : Fin 512) (j : Fin 1024) : got a m ρ c (3 : Fin 5) t (ix3 e f j) =
    (m ((c : Thread nD τ).loc main_arg5) : S16x512x1024.Idx → EReal) (ix3 (ExpTile.expert (group4 a (block a t)) e) f j) := by
  have e := index_3 a t
  blk_ext [got, e, ExpTile.expert, group4, group]

/-- A grid point writes its rows. -/
theorem at_4 (t : Fin (cfg a).N) (y0 : Fin 256) (y1 : Fin 1024) : (((cfg a).win (4 : Fin 5)).blk t).view.emb (ix2 y0 y1 : S256x1024.Idx) =
    (ix2 (ExpTile.row (block a t) y0) y1 : S17408x1024.Idx) := by
  have e := index_4 a t
  blk_ext [e, ExpTile.row, block]

/-- The four experts of a block, as the kernel loads them one by one. -/
def experts (v : S4x1024x512.Idx → EReal) : Fin 4 → S1x1024x512.Idx → EReal :=
  ![View.ld (Val := Elt Ideal) (S := S4x1024x512) (e' := .bf16) v (Rect.unit ![0, 0, 0] ![1, 1024, 512] inb_S4x1024x512_S1x1024x512_0_0_0),
    View.ld (Val := Elt Ideal) (S := S4x1024x512) (e' := .bf16) v (Rect.unit ![1, 0, 0] ![1, 1024, 512] inb_S4x1024x512_S1x1024x512_1_0_0),
    View.ld (Val := Elt Ideal) (S := S4x1024x512) (e' := .bf16) v (Rect.unit ![2, 0, 0] ![1, 1024, 512] inb_S4x1024x512_S1x1024x512_2_0_0),
    View.ld (Val := Elt Ideal) (S := S4x1024x512) (e' := .bf16) v (Rect.unit ![3, 0, 0] ![1, 1024, 512] inb_S4x1024x512_S1x1024x512_3_0_0)]

/-- An expert's own page of the block. -/
theorem experts_at (v : S4x1024x512.Idx → EReal) (e : Fin 4) (k : Fin 1024) (f : Fin 512) :
    experts v e (ix3 (0 : Fin 1) k f) = v (ix3 e k f) := by
  match e with
  | ⟨0, _⟩ =>
    change v _ = v _
    refine congrArg v (funext fun d => Fin.ext ?_)
    match d with
    | ⟨0, _⟩ => rfl
    | ⟨1, _⟩ => show 0 + 1 * k.val = k.val; omega
    | ⟨2, _⟩ => show 0 + 1 * f.val = f.val; omega
  | ⟨1, _⟩ =>
    change v _ = v _
    refine congrArg v (funext fun d => Fin.ext ?_)
    match d with
    | ⟨0, _⟩ => rfl
    | ⟨1, _⟩ => show 0 + 1 * k.val = k.val; omega
    | ⟨2, _⟩ => show 0 + 1 * f.val = f.val; omega
  | ⟨2, _⟩ =>
    change v _ = v _
    refine congrArg v (funext fun d => Fin.ext ?_)
    match d with
    | ⟨0, _⟩ => rfl
    | ⟨1, _⟩ => show 0 + 1 * k.val = k.val; omega
    | ⟨2, _⟩ => show 0 + 1 * f.val = f.val; omega
  | ⟨3, _⟩ =>
    change v _ = v _
    refine congrArg v (funext fun d => Fin.ext ?_)
    match d with
    | ⟨0, _⟩ => rfl
    | ⟨1, _⟩ => show 0 + 1 * k.val = k.val; omega
    | ⟨2, _⟩ => show 0 + 1 * f.val = f.val; omega

/-- The first load. -/
theorem experts_0 (v : S4x1024x512.Idx → EReal) : experts v 0 =
    View.ld (Val := Elt Ideal) (S := S4x1024x512) (e' := .bf16) v (Rect.unit ![0, 0, 0] ![1, 1024, 512] inb_S4x1024x512_S1x1024x512_0_0_0) := rfl
/-- The second load. -/
theorem experts_1 (v : S4x1024x512.Idx → EReal) : experts v 1 =
    View.ld (Val := Elt Ideal) (S := S4x1024x512) (e' := .bf16) v (Rect.unit ![1, 0, 0] ![1, 1024, 512] inb_S4x1024x512_S1x1024x512_1_0_0) := rfl
/-- The third load. -/
theorem experts_2 (v : S4x1024x512.Idx → EReal) : experts v 2 =
    View.ld (Val := Elt Ideal) (S := S4x1024x512) (e' := .bf16) v (Rect.unit ![2, 0, 0] ![1, 1024, 512] inb_S4x1024x512_S1x1024x512_2_0_0) := rfl
/-- The last load. -/
theorem experts_3 (v : S4x1024x512.Idx → EReal) : experts v 3 =
    View.ld (Val := Elt Ideal) (S := S4x1024x512) (e' := .bf16) v (Rect.unit ![3, 0, 0] ![1, 1024, 512] inb_S4x1024x512_S1x1024x512_3_0_0) := rfl

/-- A grid point in use leaves the tile of its blocks. -/
theorem left_used (t : Fin (cfg a).N) (h : used a t) : left a m ρ c t =
    ExpTile.tile (got a m ρ c (0 : Fin 5) t) (experts (got a m ρ c (1 : Fin 5) t)) (experts (got a m ρ c (2 : Fin 5) t)) (got a m ρ c (3 : Fin 5) t) := by
  unfold left
  rw [dif_pos h]
  unfold out0_A_4
  frame_out
  rw [View.read_rep, View.read_rep, View.read_rep, View.read_rep]
  unfold ExpTile.tile
  rw [experts_0, experts_1, experts_2, experts_3, experts_0, experts_1, experts_2, experts_3]

/-- A spare grid point leaves zeros. -/
theorem left_spare (t : Fin (cfg a).N) (h : ¬used a t) (y : S256x1024.Idx) : left a m ρ c t y = Ideal.ofBits .f32 0x00000000#32 := by
  unfold left
  rw [dif_neg h]
  unfold out0_B_4
  frame_out
  rfl

/-- An array of one word has one index. -/
theorem only (i j : S1.Idx) : i = j := funext fun d => match d with | ⟨0, _⟩ => Subsingleton.elim (α := Fin 1) _ _

/-- The number of blocks in use is the second table's word. -/
theorem count_eq : Any.count a = nv a (ix1 (0 : Fin 1)) := by
  unfold Any.count
  exact congrArg (nv a) (only _ _)

/-- A grid point is in use when it lies below that number. -/
theorem used_iff (t : Fin (cfg a).N) : used a t ↔ IntOp.cmpi .slt (BitVec.ofNat 32 t.val) (nv a (ix1 (0 : Fin 1))) = 1#1 := by
  have e : (at' a t 0).val = t.val := (by decide +kernel : ∀ t : Fin grid0.N, (grid0.coords t 0).val = t.val) t
  have hb : ∀ b : BitVec 1, Scalar.cmpi .ne (Scalar.extui b : BitVec 32) 0#32 = 1#1 ↔ b = 1#1 := by decide
  unfold used
  rw [count_eq, ← e]
  exact hb _

/-- What a grid point leaves, at an entry. -/
theorem left_at (t : Fin (cfg a).N) (s : Fin 256) (j : Fin 1024) : left a m ρ c t (ix2 s j) =
    ExpTile.weightedFirst (group4 a) (nv a (ix1 (0 : Fin 1))) (m ((c : Thread nD τ).loc main_arg2)) (m ((c : Thread nD τ).loc main_arg3))
      (m ((c : Thread nD τ).loc main_arg4)) (m ((c : Thread nD τ).loc main_arg5)) (block a t) s j := by
  unfold ExpTile.weightedFirst
  by_cases h : used a t
  · have h' := (used_iff a t).mp h
    rw [left_used a m ρ c t h, ExpTile.tile_at]
    refine Eq.trans ?_ (if_pos h').symm
    simp only [experts_at, x_at, g_at, u_at, d_at]
  · have h' := fun hh => h ((used_iff a t).mpr hh)
    rw [left_spare a m ρ c t h]
    exact (if_neg h').symm

/-- The result's window writes back at every point. -/
theorem flush_4 (t : Fin (cfg a).N) : ((cfg a).win (4 : Fin 5)).flush t = true := by
  unfold Idealize.ShloMosaic.Pipeline.Window.flush
  rw [Bool.and_eq_true, Bool.or_eq_true]
  refine ⟨rfl, ?_⟩
  by_cases h : t.val + 1 = (cfg a).N
  · exact Or.inl (decide_eq_true h)
  · refine Or.inr (decide_eq_true ⟨lt_of_le_of_ne (Nat.succ_le_of_lt t.isLt) h, fun e => ?_⟩)
    rw [index_4, index_4] at e
    have e0 : t.val + 1 = t.val := congrFun e 0
    omega

/-- The array after the run. -/
theorem array_4 : (dats a m ρ 0 c).arrAt (4 : Fin 5) (cfg a).N = fun y : S17408x1024.Idx =>
    ExpTile.weightedFirst (group4 a) (nv a (ix1 (0 : Fin 1))) (m ((c : Thread nD τ).loc main_arg2)) (m ((c : Thread nD τ).loc main_arg3))
      (m ((c : Thread nD τ).loc main_arg4)) (m ((c : Thread nD τ).loc main_arg5)) (ExpTile.blockOf (y 0)) (ExpTile.within (y 0)) (y 1) := by
  refine (dats a m ρ 0 c).arrAt_eq_of_emb (4 : Fin 5) _ (fun t _ y => ?_) fun i => ?_
  swap
  · change S17408x1024.Idx at i
    refine ⟨⟨(ExpTile.blockOf (i 0)).val, lt_of_lt_of_eq (ExpTile.blockOf (i 0)).isLt N_0.symm⟩, flush_4 a _, ?_⟩
    have e := at_4 a ⟨(ExpTile.blockOf (i 0)).val, lt_of_lt_of_eq (ExpTile.blockOf (i 0)).isLt N_0.symm⟩ (ExpTile.within (i 0)) (i 1)
    have e1 : ∀ (r : Fin 17408) (j : Fin 1024), (ix2 (ExpTile.row (ExpTile.blockOf r) (ExpTile.within r)) j : S17408x1024.Idx) = ix2 r j :=
      fun r j => by rw [ExpTile.row_blockOf]
    have e' := (e1 (i 0) (i 1)).trans (show (ix2 (i 0) (i 1) : S17408x1024.Idx) = i from funext fun d => match d with | ⟨0, _⟩ => rfl | ⟨1, _⟩ => rfl)
    refine Eq.subst (motive := fun z => z ∈ _) (e.trans e') ?_
    exact View.emb_mem_set _ _
  blk_simp
  rw [after_4]
  idx_vars y
  rw [at_4]
  refine (left_at a m ρ c t _ _).trans ?_
  show _ = ExpTile.weightedFirst _ _ _ _ _ _ (ExpTile.blockOf (ExpTile.row (block a t) y0)) (ExpTile.within (ExpTile.row (block a t) y0)) y1
  rw [ExpTile.blockOf_row, ExpTile.within_row]

end Cert.ExpBlock

end
-- ==== Proof.ExpRef.lean ====
/- The reference's experts at an index. -/
module

public import proofs.«01_k».proof.Proof.Gen.ExpRefIdeal.Run
public import proofs.«01_k».proof.Proof.Gen.ExpRefIdeal.Read
public import proofs.«01_k».proof.Proof.ExpTile

@[expose] public section

set_option maxRecDepth 16384

noncomputable section

namespace Cert.ExpRef

open Cert.ExpRefIdeal Cert.ExpRefIdeal.Gen Cert.ExpRefIdeal.Read Idealize.ShloMosaic

/-- A word below four is one of four. -/
theorem four_words (v : BitVec 32) (h : v.toNat < 4) : v = 0#32 ∨ v = 1#32 ∨ v = 2#32 ∨ v = 3#32 := by
  have h' : v.toNat = 0 ∨ v.toNat = 1 ∨ v.toNat = 2 ∨ v.toNat = 3 := by omega
  rcases h' with e | e | e | e
  · exact Or.inl (BitVec.eq_of_toNat_eq e)
  · exact Or.inr (Or.inl (BitVec.eq_of_toNat_eq e))
  · exact Or.inr (Or.inr (Or.inl (BitVec.eq_of_toNat_eq e)))
  · exact Or.inr (Or.inr (Or.inr (BitVec.eq_of_toNat_eq e)))

/-- Such a word is not taken from the end of the table, -/
theorem from_start (v w : BitVec 32) (h : v.toNat < 4) : Scalar.select (IntOp.cmpi .slt v 0#32) w v = v := by
  rcases four_words v h with rfl | rfl | rfl | rfl <;> rfl

/-- and holding it within the table changes nothing. -/
theorem held (v : BitVec 32) (h : v.toNat < 4) : min v.toInt.toNat 3 = v.toNat := by
  rcases four_words v h with rfl | rfl | rfl | rfl <;> rfl

/-- The pages of gates or ups that a block of rows picks, at an index. -/
theorem pick_in (x : S4x4x1024x512.Idx → EReal) (p : IVec S68x1 32) (b : Fin 68) (e : Fin 4) (k : Fin 1024) (f : Fin 512) :
    Host.gather gather_S4x4x1024x512_S68x1_S68x4x1024x512_123_0_n_n_0_1_141024512 x p (ix4 b e k f) =
      x (ix4 ⟨min (p (ix2 b (0 : Fin 1))).toInt.toNat 3, by omega⟩ e k f) := by
  unfold Host.gather
  congr 1
  funext a
  refine Fin.ext ?_
  show GatherDims.start _ (ix4 b e k f) p a + GatherDims.batchCoord _ (ix4 b e k f) a + GatherDims.offCoord _ (ix4 b e k f) a = _
  rw [GatherDims.batchCoord_eq_zero _ _ _ (fun h => by cases h)]
  have ha : a = (0 : Fin 4) ∨ a = (1 : Fin 4) ∨ a = (2 : Fin 4) ∨ a = (3 : Fin 4) := (by decide : ∀ a : Fin 4, a = 0 ∨ a = 1 ∨ a = 2 ∨ a = 3) a
  rcases ha with rfl | rfl | rfl | rfl
  · rw [GatherDims.offCoord_eq_zero _ _ _ (fun h => ((GatherDims.mem_sKept _ _).mp h).1 (List.mem_singleton.mpr rfl))]
    unfold GatherDims.start
    rw [dif_pos (show (0 : Fin 4) ∈ gather_S4x4x1024x512_S68x1_S68x4x1024x512_123_0_n_n_0_1_141024512.startIndexMap from List.mem_singleton.mpr rfl)]
    have hs : GatherDims.siIdx gather_S4x4x1024x512_S68x1_S68x4x1024x512_123_0_n_n_0_1_141024512 (ix4 b e k f)
        ⟨List.idxOf (0 : Fin 4) [(0 : Fin 4)], List.idxOf_lt_length_iff.2 (List.mem_singleton.mpr rfl)⟩ = ix2 b (0 : Fin 1) := by
      funext d
      exact match d with | ⟨0, _⟩ => rfl | ⟨1, _⟩ => rfl
    exact congrArg (fun i => min (p i).toInt.toNat 3) hs
  · unfold GatherDims.start GatherDims.offCoord
    rw [dif_neg (show ¬(1 : Fin 4) ∈ gather_S4x4x1024x512_S68x1_S68x4x1024x512_123_0_n_n_0_1_141024512.startIndexMap from (by decide : ¬(1 : Fin 4) ∈ [(0 : Fin 4)])),
      dif_pos (show (1 : Fin 4) ∈ gather_S4x4x1024x512_S68x1_S68x4x1024x512_123_0_n_n_0_1_141024512.sKept from (GatherDims.mem_sKept _ _).mpr ⟨(by decide : ¬(1 : Fin 4) ∈ [(0 : Fin 4)]), List.not_mem_nil⟩)]
    show 0 + 0 + e.val = e.val
    omega
  · unfold GatherDims.start GatherDims.offCoord
    rw [dif_neg (show ¬(2 : Fin 4) ∈ gather_S4x4x1024x512_S68x1_S68x4x1024x512_123_0_n_n_0_1_141024512.startIndexMap from (by decide : ¬(2 : Fin 4) ∈ [(0 : Fin 4)])),
      dif_pos (show (2 : Fin 4) ∈ gather_S4x4x1024x512_S68x1_S68x4x1024x512_123_0_n_n_0_1_141024512.sKept from (GatherDims.mem_sKept _ _).mpr ⟨(by decide : ¬(2 : Fin 4) ∈ [(0 : Fin 4)]), List.not_mem_nil⟩)]
    show 0 + 0 + k.val = k.val
    omega
  · unfold GatherDims.start GatherDims.offCoord
    rw [dif_neg (show ¬(3 : Fin 4) ∈ gather_S4x4x1024x512_S68x1_S68x4x1024x512_123_0_n_n_0_1_141024512.startIndexMap from (by decide : ¬(3 : Fin 4) ∈ [(0 : Fin 4)])),
      dif_pos (show (3 : Fin 4) ∈ gather_S4x4x1024x512_S68x1_S68x4x1024x512_123_0_n_n_0_1_141024512.sKept from (GatherDims.mem_sKept _ _).mpr ⟨(by decide : ¬(3 : Fin 4) ∈ [(0 : Fin 4)]), List.not_mem_nil⟩)]
    show 0 + 0 + f.val = f.val
    omega

/-- The pages of downs that a block of rows picks, at an index. -/
theorem pick_out (x : S4x4x512x1024.Idx → EReal) (p : IVec S68x1 32) (b : Fin 68) (e : Fin 4) (f : Fin 512) (j : Fin 1024) :
    Host.gather gather_S4x4x512x1024_S68x1_S68x4x512x1024_123_0_n_n_0_1_145121024 x p (ix4 b e f j) =
      x (ix4 ⟨min (p (ix2 b (0 : Fin 1))).toInt.toNat 3, by omega⟩ e f j) := by
  unfold Host.gather
  congr 1
  funext a
  refine Fin.ext ?_
  show GatherDims.start _ (ix4 b e f j) p a + GatherDims.batchCoord _ (ix4 b e f j) a + GatherDims.offCoord _ (ix4 b e f j) a = _
  rw [GatherDims.batchCoord_eq_zero _ _ _ (fun h => by cases h)]
  have ha : a = (0 : Fin 4) ∨ a = (1 : Fin 4) ∨ a = (2 : Fin 4) ∨ a = (3 : Fin 4) := (by decide : ∀ a : Fin 4, a = 0 ∨ a = 1 ∨ a = 2 ∨ a = 3) a
  rcases ha with rfl | rfl | rfl | rfl
  · rw [GatherDims.offCoord_eq_zero _ _ _ (fun h => ((GatherDims.mem_sKept _ _).mp h).1 (List.mem_singleton.mpr rfl))]
    unfold GatherDims.start
    rw [dif_pos (show (0 : Fin 4) ∈ gather_S4x4x512x1024_S68x1_S68x4x512x1024_123_0_n_n_0_1_145121024.startIndexMap from List.mem_singleton.mpr rfl)]
    have hs : GatherDims.siIdx gather_S4x4x512x1024_S68x1_S68x4x512x1024_123_0_n_n_0_1_145121024 (ix4 b e f j)
        ⟨List.idxOf (0 : Fin 4) [(0 : Fin 4)], List.idxOf_lt_length_iff.2 (List.mem_singleton.mpr rfl)⟩ = ix2 b (0 : Fin 1) := by
      funext d
      exact match d with | ⟨0, _⟩ => rfl | ⟨1, _⟩ => rfl
    exact congrArg (fun i => min (p i).toInt.toNat 3) hs
  · unfold GatherDims.start GatherDims.offCoord
    rw [dif_neg (show ¬(1 : Fin 4) ∈ gather_S4x4x512x1024_S68x1_S68x4x512x1024_123_0_n_n_0_1_145121024.startIndexMap from (by decide : ¬(1 : Fin 4) ∈ [(0 : Fin 4)])),
      dif_pos (show (1 : Fin 4) ∈ gather_S4x4x512x1024_S68x1_S68x4x512x1024_123_0_n_n_0_1_145121024.sKept from (GatherDims.mem_sKept _ _).mpr ⟨(by decide : ¬(1 : Fin 4) ∈ [(0 : Fin 4)]), List.not_mem_nil⟩)]
    show 0 + 0 + e.val = e.val
    omega
  · unfold GatherDims.start GatherDims.offCoord
    rw [dif_neg (show ¬(2 : Fin 4) ∈ gather_S4x4x512x1024_S68x1_S68x4x512x1024_123_0_n_n_0_1_145121024.startIndexMap from (by decide : ¬(2 : Fin 4) ∈ [(0 : Fin 4)])),
      dif_pos (show (2 : Fin 4) ∈ gather_S4x4x512x1024_S68x1_S68x4x512x1024_123_0_n_n_0_1_145121024.sKept from (GatherDims.mem_sKept _ _).mpr ⟨(by decide : ¬(2 : Fin 4) ∈ [(0 : Fin 4)]), List.not_mem_nil⟩)]
    show 0 + 0 + f.val = f.val
    omega
  · unfold GatherDims.start GatherDims.offCoord
    rw [dif_neg (show ¬(3 : Fin 4) ∈ gather_S4x4x512x1024_S68x1_S68x4x512x1024_123_0_n_n_0_1_145121024.startIndexMap from (by decide : ¬(3 : Fin 4) ∈ [(0 : Fin 4)])),
      dif_pos (show (3 : Fin 4) ∈ gather_S4x4x512x1024_S68x1_S68x4x512x1024_123_0_n_n_0_1_145121024.sKept from (GatherDims.mem_sKept _ _).mpr ⟨(by decide : ¬(3 : Fin 4) ∈ [(0 : Fin 4)]), List.not_mem_nil⟩)]
    show 0 + 0 + j.val = j.val
    omega

variable (x0 : S68.Idx → BitVec 32) (x1 : S1.Idx → BitVec 32) (x2 : S17408x1152.Idx → EReal) (x3 x4 : S16x1024x512.Idx → EReal)
  (x5 : S16x512x1024.Idx → EReal) (h : ∀ i, (x0 i).toNat < 4)

/-- The group of a block of rows. -/
def group (b : Fin 68) : Fin 4 := ⟨(x0 (ix1 b)).toNat, h _⟩

include h in
/-- The gates' word is the table's. -/
theorem word_g (b : Fin 68) : val_main_v11 (F := Ideal) x0 (ix2 b (0 : Fin 1)) = x0 (ix1 b) := by
  rw [val_main_v11_apply, val_main_v10_apply, val_main_v7_apply, val_main_v6_apply]
  have e : idx_main_v11 (ix2 b (0 : Fin 1)) = ix1 b := funext fun d => match d with | ⟨0, _⟩ => rfl
  rw [e]
  exact from_start _ _ (h _)

include h in
/-- The ups' word too. -/
theorem word_u (b : Fin 68) : val_main_v20 (F := Ideal) x0 (ix2 b (0 : Fin 1)) = x0 (ix1 b) := by
  rw [val_main_v20_apply, val_main_v19_apply, val_main_v16_apply, val_main_v15_apply]
  have e : idx_main_v20 (ix2 b (0 : Fin 1)) = ix1 b := funext fun d => match d with | ⟨0, _⟩ => rfl
  rw [e]
  exact from_start _ _ (h _)

include h in
/-- The downs' word too. -/
theorem word_d (b : Fin 68) : val_main_v29 (F := Ideal) x0 (ix2 b (0 : Fin 1)) = x0 (ix1 b) := by
  rw [val_main_v29_apply, val_main_v28_apply, val_main_v25_apply, val_main_v24_apply]
  have e : idx_main_v29 (ix2 b (0 : Fin 1)) = ix1 b := funext fun d => match d with | ⟨0, _⟩ => rfl
  rw [e]
  exact from_start _ _ (h _)

/-- The gates of a block's group. -/
theorem gates_at (b : Fin 68) (e : Fin 4) (k : Fin 1024) (f : Fin 512) :
    val_main_v12 (F := Ideal) x0 x3 (ix4 b e k f) = x3 (ix3 (ExpTile.expert (group x0 h b) e) k f) := by
  unfold val_main_v12
  rw [pick_in, val_main_v5_apply]
  refine congrArg x3 (funext fun d => Fin.ext ?_)
  have hw : min (val_main_v11 (F := Ideal) x0 (ix2 b (0 : Fin 1))).toInt.toNat 3 = (group x0 h b).val := by rw [word_g x0 h]; exact held _ (h _)
  match d with
  | ⟨0, _⟩ =>
    show (((min (val_main_v11 (F := Ideal) x0 (ix2 b (0 : Fin 1))).toInt.toNat 3 * 4 + e.val) * 1024 + k.val) * 512 + f.val) / 524288 = 4 * (group x0 h b).val + e.val
    rw [hw]
    omega
  | ⟨1, _⟩ =>
    show (((min (val_main_v11 (F := Ideal) x0 (ix2 b (0 : Fin 1))).toInt.toNat 3 * 4 + e.val) * 1024 + k.val) * 512 + f.val) / 512 % 1024 = k.val
    omega
  | ⟨2, _⟩ =>
    show (((min (val_main_v11 (F := Ideal) x0 (ix2 b (0 : Fin 1))).toInt.toNat 3 * 4 + e.val) * 1024 + k.val) * 512 + f.val) % 512 = f.val
    omega

/-- The ups of a block's group. -/
theorem ups_at (b : Fin 68) (e : Fin 4) (k : Fin 1024) (f : Fin 512) :
    val_main_v21 (F := Ideal) x0 x4 (ix4 b e k f) = x4 (ix3 (ExpTile.expert (group x0 h b) e) k f) := by
  unfold val_main_v21
  rw [pick_in, val_main_v14_apply]
  refine congrArg x4 (funext fun d => Fin.ext ?_)
  have hw : min (val_main_v20 (F := Ideal) x0 (ix2 b (0 : Fin 1))).toInt.toNat 3 = (group x0 h b).val := by rw [word_u x0 h]; exact held _ (h _)
  match d with
  | ⟨0, _⟩ =>
    show (((min (val_main_v20 (F := Ideal) x0 (ix2 b (0 : Fin 1))).toInt.toNat 3 * 4 + e.val) * 1024 + k.val) * 512 + f.val) / 524288 = 4 * (group x0 h b).val + e.val
    rw [hw]
    omega
  | ⟨1, _⟩ =>
    show (((min (val_main_v20 (F := Ideal) x0 (ix2 b (0 : Fin 1))).toInt.toNat 3 * 4 + e.val) * 1024 + k.val) * 512 + f.val) / 512 % 1024 = k.val
    omega
  | ⟨2, _⟩ =>
    show (((min (val_main_v20 (F := Ideal) x0 (ix2 b (0 : Fin 1))).toInt.toNat 3 * 4 + e.val) * 1024 + k.val) * 512 + f.val) % 512 = f.val
    omega

/-- The downs of a block's group. -/
theorem downs_at (b : Fin 68) (e : Fin 4) (f : Fin 512) (j : Fin 1024) :
    val_main_v30 (F := Ideal) x0 x5 (ix4 b e f j) = x5 (ix3 (ExpTile.expert (group x0 h b) e) f j) := by
  unfold val_main_v30
  rw [pick_out, val_main_v23_apply]
  refine congrArg x5 (funext fun d => Fin.ext ?_)
  have hw : min (val_main_v29 (F := Ideal) x0 (ix2 b (0 : Fin 1))).toInt.toNat 3 = (group x0 h b).val := by rw [word_d x0 h]; exact held _ (h _)
  match d with
  | ⟨0, _⟩ =>
    show (((min (val_main_v29 (F := Ideal) x0 (ix2 b (0 : Fin 1))).toInt.toNat 3 * 4 + e.val) * 512 + f.val) * 1024 + j.val) / 524288 = 4 * (group x0 h b).val + e.val
    rw [hw]
    omega
  | ⟨1, _⟩ =>
    show (((min (val_main_v29 (F := Ideal) x0 (ix2 b (0 : Fin 1))).toInt.toNat 3 * 4 + e.val) * 512 + f.val) * 1024 + j.val) / 1024 % 512 = f.val
    omega
  | ⟨2, _⟩ =>
    show (((min (val_main_v29 (F := Ideal) x0 (ix2 b (0 : Fin 1))).toInt.toNat 3 * 4 + e.val) * 512 + f.val) * 1024 + j.val) % 1024 = j.val
    omega

/-- A row's own entries. -/
theorem rows_at (b : Fin 68) (s : Fin 256) (k : Fin 1024) :
    val_main_v1 (F := Ideal) x2 (ix3 b s k) = x2 (ix2 (ExpTile.row b s) ⟨k.val, by omega⟩) := by
  rw [val_main_v1_apply, val_main_v0_apply]
  refine congrArg x2 (funext fun d => Fin.ext ?_)
  match d with
  | ⟨0, _⟩ => show ((b.val * 256 + s.val) * 1024 + k.val) / 1024 = 256 * b.val + s.val; omega
  | ⟨1, _⟩ => show ((b.val * 256 + s.val) * 1024 + k.val) % 1024 = k.val; omega

/-- A row's weight for an expert. -/
theorem weights_at (b : Fin 68) (s : Fin 256) (e : Fin 4) (j : Fin 1024) :
    val_main_v40 (F := Ideal) x2 (ix4 b s e j) = x2 (ix2 (ExpTile.row b s) ⟨1024 + e.val, by omega⟩) := by
  rw [val_main_v40_apply, val_main_v39_apply, val_main_v3_apply, val_main_v2_apply]
  refine congrArg x2 (funext fun d => Fin.ext ?_)
  match d with
  | ⟨0, _⟩ => show ((b.val * 256 + s.val) * 4 + e.val) / 4 = 256 * b.val + s.val; omega
  | ⟨1, _⟩ => show 1024 + ((b.val * 256 + s.val) * 4 + e.val) % 4 = 1024 + e.val; omega

/-- The product with the gates. -/
theorem gate_at (b : Fin 68) (e : Fin 4) (s : Fin 256) (f : Fin 512) : val_main_v32 (F := Ideal) x0 x2 x3 (ix4 b e s f) =
    ∑ k : Fin 1024, x2 (ix2 (ExpTile.row b s) ⟨k.val, by omega⟩) * x3 (ix3 (ExpTile.expert (group x0 h b) e) k f) := by
  rw [val_main_v32_apply, val_main_v31_apply]
  refine Finset.sum_congr rfl fun k _ => ?_
  rw [show lidx_main_v31 (idx_main_v32 (ix4 b e s f)) k = ix4 b e k f from funext fun d => match d with | ⟨0, _⟩ => rfl | ⟨1, _⟩ => rfl | ⟨2, _⟩ => rfl | ⟨3, _⟩ => rfl,
    show ridx_main_v31 (idx_main_v32 (ix4 b e s f)) k = ix3 b s k from funext fun d => match d with | ⟨0, _⟩ => rfl | ⟨1, _⟩ => rfl | ⟨2, _⟩ => rfl,
    gates_at x0 x3 h, rows_at]
  exact mul_comm _ _

/-- The product with the ups. -/
theorem up_at (b : Fin 68) (e : Fin 4) (s : Fin 256) (f : Fin 512) : val_main_v35 (F := Ideal) x0 x2 x4 (ix4 b e s f) =
    ∑ k : Fin 1024, x2 (ix2 (ExpTile.row b s) ⟨k.val, by omega⟩) * x4 (ix3 (ExpTile.expert (group x0 h b) e) k f) := by
  rw [val_main_v35_apply, val_main_v34_apply]
  refine Finset.sum_congr rfl fun k _ => ?_
  rw [show lidx_main_v34 (idx_main_v35 (ix4 b e s f)) k = ix4 b e k f from funext fun d => match d with | ⟨0, _⟩ => rfl | ⟨1, _⟩ => rfl | ⟨2, _⟩ => rfl | ⟨3, _⟩ => rfl,
    show ridx_main_v34 (idx_main_v35 (ix4 b e s f)) k = ix3 b s k from funext fun d => match d with | ⟨0, _⟩ => rfl | ⟨1, _⟩ => rfl | ⟨2, _⟩ => rfl,
    ups_at x0 x4 h, rows_at]
  exact mul_comm _ _

/-- The word of one. -/
theorem one_word : Ideal.ofBits .f32 0x3F800000#32 = 1 := by
  simp [Ideal.ofBits, Ideal.ieee]
  rw [← EReal.coe_mul]
  norm_num

/-- The word of zero. -/
theorem zero_word : Ideal.ofBits .f32 0x00000000#32 = 0 := by
  simp [Ideal.ofBits, Ideal.ieee]

/-- The gate's curve, spelled out, is the kernel's. -/
theorem curve_at (i : S68x4x256x512.Idx) : val_main_call0_v5 (F := Ideal) x0 x2 x3 i = Ideal.logistic (val_main_v32 (F := Ideal) x0 x2 x3 i) := by
  rw [val_main_call0_v5_apply, val_main_call0_v4_apply, val_main_call0_v3_apply, val_main_call0_v2_apply, val_main_call0_v1_apply, val_main_call0_v0_apply]
  generalize val_main_v32 (F := Ideal) x0 x2 x3 i = z
  show Ideal.div (Ideal.ofBits .f32 0x3F800000#32) (Ideal.ofBits .f32 0x3F800000#32 + Ideal.exp (-z)) = Ideal.logistic z
  rw [one_word]
  rfl

/-- A gated entry. -/
theorem gated_at (b : Fin 68) (e : Fin 4) (s : Fin 256) (f : Fin 512) : val_main_v36 (F := Ideal) x0 x2 x3 x4 (ix4 b e s f) =
    ExpTile.gated (fun k => x2 (ix2 (ExpTile.row b s) ⟨k.val, by omega⟩)) (fun k => x3 (ix3 (ExpTile.expert (group x0 h b) e) k f))
      (fun k => x4 (ix3 (ExpTile.expert (group x0 h b) e) k f)) := by
  rw [val_main_v36_apply, val_main_v33_apply, curve_at, gate_at x0 x2 x3 h, up_at x0 x2 x4 h]
  rfl

/-- A block in use, summed over its experts. -/
theorem summed_at (b : Fin 68) (s : Fin 256) (j : Fin 1024) : val_main_v42 (F := Ideal) x0 x2 x3 x4 x5 (ix3 b s j) =
    ExpTile.outer (fun k => x2 (ix2 (ExpTile.row b s) ⟨k.val, by omega⟩)) (fun e => x2 (ix2 (ExpTile.row b s) ⟨1024 + e.val, by omega⟩))
      (fun e k f => x3 (ix3 (ExpTile.expert (group x0 h b) e) k f)) (fun e k f => x4 (ix3 (ExpTile.expert (group x0 h b) e) k f))
      (fun e f => x5 (ix3 (ExpTile.expert (group x0 h b) e) f j)) := by
  rw [val_main_v42_apply, val_main_cst_apply]
  refine (congrArg (· + _) zero_word).trans ((zero_add _).trans (Finset.sum_congr rfl fun e _ => ?_))
  rw [show idx_main_v42 (ix3 b s j) e = ix4 b s e j from funext fun d => match d with | ⟨0, _⟩ => rfl | ⟨1, _⟩ => rfl | ⟨2, _⟩ => rfl | ⟨3, _⟩ => rfl,
    val_main_v41_apply, weights_at, val_main_v38_apply, val_main_v37_apply]
  refine congrArg (· * x2 (ix2 (ExpTile.row b s) ⟨1024 + e.val, by omega⟩)) (Finset.sum_congr rfl fun f _ => ?_)
  rw [show lidx_main_v37 (idx_main_v38 (ix4 b s e j)) f = ix4 b e f j from funext fun d => match d with | ⟨0, _⟩ => rfl | ⟨1, _⟩ => rfl | ⟨2, _⟩ => rfl | ⟨3, _⟩ => rfl,
    show ridx_main_v37 (idx_main_v38 (ix4 b s e j)) f = ix4 b e s f from funext fun d => match d with | ⟨0, _⟩ => rfl | ⟨1, _⟩ => rfl | ⟨2, _⟩ => rfl | ⟨3, _⟩ => rfl,
    downs_at x0 x5 h, gated_at x0 x2 x3 x4 h]

/-- The number of blocks in use. -/
theorem count_at (i : S68.Idx) : val_main_v45 (F := Ideal) x1 i = x1 (ix1 (0 : Fin 1)) := by
  rw [val_main_v45_apply]
  unfold val_main_v44
  exact congrArg x1 (funext fun d => match d with | ⟨0, _⟩ => Subsingleton.elim (α := Fin 1) _ _)

/-- The reference's array. -/
theorem array_eq : val_main_v49 (F := Ideal) x0 x1 x2 x3 x4 x5 = fun y : S17408x1024.Idx =>
    ExpTile.weightedLast (group x0 h) (x1 (ix1 (0 : Fin 1))) x2 x3 x4 x5 (ExpTile.blockOf (y 0)) (ExpTile.within (y 0)) (y 1) := by
  funext y
  have hy0 : (y 0).val < 17408 := (y 0).isLt
  have hy1 : (y 1).val < 1024 := (y 1).isLt
  have e : idx_main_v49 y = (ix3 (ExpTile.blockOf (y 0)) (ExpTile.within (y 0)) (y 1) : S68x256x1024.Idx) := by
    refine funext fun d => Fin.ext ?_
    match d with
    | ⟨0, _⟩ => show ((y 0).val * 1024 + (y 1).val) / 262144 = (y 0).val / 256; omega
    | ⟨1, _⟩ => show ((y 0).val * 1024 + (y 1).val) / 1024 % 256 = (y 0).val % 256; omega
    | ⟨2, _⟩ => show ((y 0).val * 1024 + (y 1).val) % 1024 = (y 1).val; omega
  rw [val_main_v49_apply, e, val_main_v48_apply]
  refine (congrArg (fun z => Scalar.select _ z _) (summed_at x0 x2 x3 x4 x5 h _ _ _)).trans ?_
  rw [val_main_call1_v1_apply, val_main_v47_apply, val_main_v46_apply, count_at, val_main_v43_apply, val_main_call1_v2_apply, val_main_call1_v0_apply, val_main_cst_5_apply]
  rfl

end Cert.ExpRef

end
-- ==== Proof.lean ====
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.AttnIdeal.Value
public import proofs.«01_k».proof.Proof.Gen.Inp
public import proofs.«01_k».proof.Proof.Gen.Inp.Skeleton
public import proofs.«01_k».proof.Proof.Gen.Inp.Launch
public import proofs.«01_k».proof.Proof.Gen.Inp.Points
public import proofs.«01_k».proof.Proof.Gen.Inp.Frame
public import proofs.«01_k».proof.Proof.Gen.InpIdeal
public import proofs.«01_k».proof.Proof.Gen.InpIdeal.Skeleton
public import proofs.«01_k».proof.Proof.Gen.InpIdeal.Launch
public import proofs.«01_k».proof.Proof.Gen.InpIdeal.Points
public import proofs.«01_k».proof.Proof.Gen.InpIdeal.Frame
public import proofs.«01_k».proof.Proof.Gen.InpRefIdeal
public import proofs.«01_k».proof.Proof.Gen.InpRefIdeal.Run
public import proofs.«01_k».proof.Proof.Gen.InpRefIdeal.Read
public import proofs.«01_k».proof.Proof.Gen.InpIdeal.Value
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.ExpIdeal.Flash
public import proofs.«01_k».proof.Proof.Gen.Pre_groups
public import proofs.«01_k».proof.Proof.Gen.Pre_weighted
public import proofs.«01_k».proof.Proof.Gen.Exp.Flash
public import proofs.«01_k».proof.Proof.Gen.ExpRefIdeal.Run
public import proofs.«01_k».proof.Proof.Gen.ExpRefIdeal.Read
public import proofs.«01_k».proof.Proof.Gen.Pre_finite_scores
public import proofs.«01_k».proof.Proof.Block
public import proofs.«01_k».proof.Proof.Finite
public import proofs.«01_k».proof.Proof.ProjBlock
public import proofs.«01_k».proof.Proof.ProjRef
public import proofs.«01_k».proof.Proof.OutBlock
public import proofs.«01_k».proof.Proof.OutRef
public import proofs.«01_k».proof.Proof.ExpAny
public import proofs.«01_k».proof.Proof.ExpAnyIdeal
public import proofs.«01_k».proof.Proof.ExpPre
public import proofs.«01_k».proof.Proof.ExpBlock
public import proofs.«01_k».proof.Proof.ExpRef
public import Idealize.ShloMosaic.Adequacy
public import Idealize.ShloMosaic.Init

@[expose] public section

noncomputable section

namespace Cert.Proof

open Idealize.ShloMosaic Idealize.SL.Sem Cert.Attn

/-- The reference runs and leaves its arguments as they were; it has no semaphore. -/
theorem frame_ref : Cert.quiescent_AttnRefIdeal (hAttnRefIdeal := Cert.AttnRefIdeal.Gen.facts) := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- The kernel's attention and the reference's are the same array. -/
theorem attention : Cert.algebraic_AttnIdeal_AttnRefIdeal_pre_finite_scores (hAttnIdeal := Cert.AttnIdeal.Gen.facts)
    (hAttnRefIdeal := Cert.AttnRefIdeal.Gen.facts) (hPre_finite_scores := Cert.Pre_finite_scores.Gen.facts) := by
  intro m ρ m' ρ' hpre agree
  refine ⟨fun c => (Cert.AttnIdeal.Gen.dats m 0 c).arrAt 5 Cert.AttnIdeal.cfg0.N, Cert.AttnIdeal.Value.run_blocks m ρ, ?_⟩
  refine (θ_run Cert.AttnRefIdeal.defs _ _).mono (fun r h c => ⟨(h c).1.trans ?_, (h c).2⟩) (Cert.AttnRefIdeal.Value.run (F := Ideal) m' ρ')
  obtain ⟨a0, a1, a2, a3, a4⟩ := agree c
  obtain ⟨h0, h1, h3⟩ := Cert.Finite.scores (hpre c)
  refine (Cert.AttnRefIdeal.Read.val_main_v97_eq _).trans (Eq.trans ?_ (Cert.Block.array_eq m c).symm)
  refine Eq.trans ?_ (Cert.Ref.array_eq h0 h1 h3 _ _)
  rw [← a0, ← a1, ← a2, ← a3, ← a4]

/-- The projection's reference runs and leaves its arguments as they were; it has no semaphore. -/
theorem frame_in_ref : Cert.quiescent_InpRefIdeal (hInpRefIdeal := Cert.InpRefIdeal.Gen.facts) := fun m ρ _ =>
  (θ_run Cert.InpRefIdeal.defs _ _).mono (fun r h => ⟨fun c => (h c).2.2.2.2.2.2.2, sem_eq_zero_of_no_sems (by decide) r.2⟩)
    (Cert.InpRefIdeal.Value.run (F := Ideal) m ρ)

/-- The kernel's seven results of the projection and the reference's are the same arrays. -/
theorem projection : Cert.algebraic_InpIdeal_InpRefIdeal (hInpIdeal := Cert.InpIdeal.Gen.facts)
    (hInpRefIdeal := Cert.InpRefIdeal.Gen.facts) := by
  intro m ρ m' ρ' hpre agree
  refine ⟨fun c => (Cert.InpIdeal.Gen.dats m 0 c).arrAt 5 Cert.InpIdeal.cfg0.N, fun c => (Cert.InpIdeal.Gen.dats m 0 c).arrAt 6 Cert.InpIdeal.cfg0.N,
    fun c => (Cert.InpIdeal.Gen.dats m 0 c).arrAt 7 Cert.InpIdeal.cfg0.N, fun c => (Cert.InpIdeal.Gen.dats m 0 c).arrAt 8 Cert.InpIdeal.cfg0.N,
    fun c => (Cert.InpIdeal.Gen.dats m 0 c).arrAt 9 Cert.InpIdeal.cfg0.N, fun c => (Cert.InpIdeal.Gen.dats m 0 c).arrAt 10 Cert.InpIdeal.cfg0.N,
    fun c => (Cert.InpIdeal.Gen.dats m 0 c).arrAt 11 Cert.InpIdeal.cfg0.N, Cert.InpIdeal.Value.run_blocks m ρ, ?_⟩
  refine (θ_run Cert.InpRefIdeal.defs _ _).mono (fun r h c => ?_) (Cert.InpRefIdeal.Value.run (F := Ideal) m' ρ')
  obtain ⟨r0, r1, r2, r3, r4, r5, r6, args⟩ := h c
  obtain ⟨a0, a1, a2, a3, a4⟩ := agree c
  refine ⟨r0.trans ?_, r1.trans ?_, r2.trans ?_, r3.trans ?_, r4.trans ?_, r5.trans ?_, r6.trans ?_, args⟩
  · refine (Cert.InpRefIdeal.Read.val_main_v13_eq _ _ _).trans (Eq.trans ?_ (Cert.ProjBlock.array_5 m c).symm)
    refine (Cert.ProjRef.first_eq _ _ _).trans ?_
    rw [a0, a1, a2]
    rfl
  · refine (Cert.InpRefIdeal.Read.val_main_v14_eq _ _ _).trans (Eq.trans ?_ (Cert.ProjBlock.array_6 m c).symm)
    refine (Cert.ProjRef.second_eq _ _ _).trans ?_
    rw [a0, a1, a2]
    rfl
  · refine (Cert.InpRefIdeal.Read.val_main_v20_eq _ _ _).trans (Eq.trans ?_ (Cert.ProjBlock.array_7 m c).symm)
    refine (Cert.ProjRef.third_eq _ _ _).trans ?_
    rw [a0, a1, a2]
    rfl
  · refine (Cert.InpRefIdeal.Read.val_main_v21_eq _ _ _).trans (Eq.trans ?_ (Cert.ProjBlock.array_8 m c).symm)
    refine (Cert.ProjRef.fourth_eq _ _ _).trans ?_
    rw [a0, a1, a2]
    rfl
  · refine (Cert.InpRefIdeal.Read.val_main_v22_eq _ _ _).trans (Eq.trans ?_ (Cert.ProjBlock.array_9 m c).symm)
    refine (Cert.ProjRef.fifth_eq _ _ _).trans ?_
    rw [a0, a1, a2]
    rfl
  · rw [a3]
    exact (Cert.ProjBlock.array_10 m c).symm
  · rw [a4]
    exact (Cert.ProjBlock.array_11 m c).symm

/-- The reference of the projection out runs and leaves its arguments as they were; it has no semaphore. -/
theorem frame_out_ref : Cert.quiescent_OutRefIdeal (hOutRefIdeal := Cert.OutRefIdeal.Gen.facts) := fun m ρ _ =>
  (θ_run Cert.OutRefIdeal.defs _ _).mono (fun r h => ⟨fun c => (h c).2, sem_eq_zero_of_no_sems (by decide) r.2⟩)
    (Cert.OutRefIdeal.Value.run (F := Ideal) m ρ)

/-- The kernel's residual after the projection out and the reference's are the same array. -/
theorem mixing : Cert.algebraic_OutIdeal_OutRefIdeal (hOutIdeal := Cert.OutIdeal.Gen.facts)
    (hOutRefIdeal := Cert.OutRefIdeal.Gen.facts) := by
  intro m ρ m' ρ' hpre agree
  refine ⟨fun c => (Cert.OutIdeal.Gen.dats m 0 c).arrAt 7 Cert.OutIdeal.cfg0.N,
    (θ_run Cert.OutIdeal.defs _ _).mono (fun r h c => ⟨(h c).1, (h c).2.2.2⟩) (Cert.OutIdeal.Value.run_blocks m ρ), ?_⟩
  refine (θ_run Cert.OutRefIdeal.defs _ _).mono (fun r h c => ⟨(h c).1.trans ?_, (h c).2⟩) (Cert.OutRefIdeal.Value.run (F := Ideal) m' ρ')
  obtain ⟨a0, a1, a2, a3, a4, a5, a6⟩ := agree c
  refine (Cert.OutRefIdeal.Read.val_main_v4_eq _ _ _ _).trans (Eq.trans ?_ (Cert.OutBlock.array_7 m c).symm)
  refine (Cert.OutRef.array_eq _ _ _ _).trans ?_
  rw [a0, a1, a2, a3]
  rfl

/-- The experts' kernel runs, for groups less than four, and leaves its arguments as they were. -/
theorem frame_exp : Cert.quiescent_Exp (hExp := Cert.Exp.Gen.facts) (hPre_groups := Cert.Pre_groups.Gen.facts) := fun m ρ hpre =>
  have h := Cert.ExpPre.groups (F := Bits) (hpre 0)
  (θ_run Cert.Exp.defs _ _).mono (fun r hr => ⟨fun c => Cert.Exp.Any.args_kept (Cert.Exp.Any.tables m h) m ρ (Cert.Exp.Any.holds m h) r hr.1 c, hr.2⟩)
    (Cert.Exp.Any.runs (Cert.Exp.Any.tables m h) m ρ (Cert.Exp.Any.holds m h))

/-- So does its idealization, wherever the groups are less than four. -/
theorem frame_exp_of (m : (ℓ : Loc Cert.ExpIdeal.nD Cert.ExpIdeal.τ Cert.ExpIdeal.sig) → Buf (Elt Ideal) ℓ) (ρ : Dev Cert.ExpIdeal.nD → PrngReg)
    (h : ∀ x : Cert.ExpIdeal.S68.Idx, BitVec.toNat (w := 32) (m (((0 : Dev Cert.ExpIdeal.nD).tc : Thread Cert.ExpIdeal.nD Cert.ExpIdeal.τ).loc Cert.ExpIdeal.main_arg0) x) < 4) :
    θ_run (Cert.ExpIdeal.defs (F := Ideal)) (onTc (τ := Cert.ExpIdeal.τ) (Cert.ExpIdeal.main (F := Ideal))) ⟨m, fun _ => 0, ρ⟩ (fun r => (∀ c : Dev Cert.ExpIdeal.nD,
      r.2.mem ((c.tc : Thread Cert.ExpIdeal.nD Cert.ExpIdeal.τ).loc Cert.ExpIdeal.main_arg0) = m ((c.tc : Thread Cert.ExpIdeal.nD Cert.ExpIdeal.τ).loc Cert.ExpIdeal.main_arg0)
      ∧ r.2.mem ((c.tc : Thread Cert.ExpIdeal.nD Cert.ExpIdeal.τ).loc Cert.ExpIdeal.main_arg1) = m ((c.tc : Thread Cert.ExpIdeal.nD Cert.ExpIdeal.τ).loc Cert.ExpIdeal.main_arg1)
      ∧ r.2.mem ((c.tc : Thread Cert.ExpIdeal.nD Cert.ExpIdeal.τ).loc Cert.ExpIdeal.main_arg2) = m ((c.tc : Thread Cert.ExpIdeal.nD Cert.ExpIdeal.τ).loc Cert.ExpIdeal.main_arg2)
      ∧ r.2.mem ((c.tc : Thread Cert.ExpIdeal.nD Cert.ExpIdeal.τ).loc Cert.ExpIdeal.main_arg3) = m ((c.tc : Thread Cert.ExpIdeal.nD Cert.ExpIdeal.τ).loc Cert.ExpIdeal.main_arg3)
      ∧ r.2.mem ((c.tc : Thread Cert.ExpIdeal.nD Cert.ExpIdeal.τ).loc Cert.ExpIdeal.main_arg4) = m ((c.tc : Thread Cert.ExpIdeal.nD Cert.ExpIdeal.τ).loc Cert.ExpIdeal.main_arg4)
      ∧ r.2.mem ((c.tc : Thread Cert.ExpIdeal.nD Cert.ExpIdeal.τ).loc Cert.ExpIdeal.main_arg5) = m ((c.tc : Thread Cert.ExpIdeal.nD Cert.ExpIdeal.τ).loc Cert.ExpIdeal.main_arg5))
      ∧ r.2.sem = fun _ => 0) :=
  (θ_run Cert.ExpIdeal.defs _ _).mono (fun r hr => ⟨fun c => Cert.ExpIdeal.Any.args_kept (Cert.ExpIdeal.Any.tables m h) m ρ (Cert.ExpIdeal.Any.holds m h) r hr.1 c, hr.2⟩)
    (Cert.ExpIdeal.Any.runs (Cert.ExpIdeal.Any.tables m h) m ρ (Cert.ExpIdeal.Any.holds m h))

/-- The idealization under the first precondition. -/
theorem frame_exp_ideal : Cert.quiescent_ExpIdeal (hExpIdeal := Cert.ExpIdeal.Gen.facts) (hPre_groups := Cert.Pre_groups.Gen.facts) := fun m ρ hpre =>
  frame_exp_of m ρ (Cert.ExpPre.groups (F := Ideal) (hpre 0))

/-- The idealization under the second precondition. -/
theorem frame_exp_weighted : Cert.quiescent_ExpIdeal_pre_weighted (hExpIdeal := Cert.ExpIdeal.Gen.facts) (hPre_weighted := Cert.Pre_weighted.Gen.facts) := fun m ρ hpre =>
  frame_exp_of m ρ (Cert.ExpPre.weighted (hpre 0)).1

/-- The experts' reference runs and leaves its arguments as they were; it has no semaphore. -/
theorem frame_exp_ref : Cert.quiescent_ExpRefIdeal (hExpRefIdeal := Cert.ExpRefIdeal.Gen.facts) := fun m ρ _ =>
  (θ_run Cert.ExpRefIdeal.defs _ _).mono (fun r h => ⟨fun c => (h c).2, sem_eq_zero_of_no_sems (by decide) r.2⟩)
    (Cert.ExpRefIdeal.Value.run (F := Ideal) m ρ)

/-- The kernel's experts and the reference's are the same array. -/
theorem experts : Cert.algebraic_ExpIdeal_ExpRefIdeal_pre_weighted (hExpIdeal := Cert.ExpIdeal.Gen.facts)
    (hExpRefIdeal := Cert.ExpRefIdeal.Gen.facts) (hPre_weighted := Cert.Pre_weighted.Gen.facts) := by
  intro m ρ m' ρ' hpre agree
  have h := (Cert.ExpPre.weighted (hpre 0)).1
  refine ⟨fun c => (Cert.ExpIdeal.Any.dats (Cert.ExpIdeal.Any.tables m h) m ρ 0 c).arrAt (4 : Fin 5) (Cert.ExpIdeal.Any.cfg (Cert.ExpIdeal.Any.tables m h)).N,
    (θ_run Cert.ExpIdeal.defs _ _).mono (fun r hr c => ⟨(hr.1 c).1 (4 : Fin 5), Cert.ExpIdeal.Any.args_kept (Cert.ExpIdeal.Any.tables m h) m ρ (Cert.ExpIdeal.Any.holds m h) r hr.1 c⟩)
      (Cert.ExpIdeal.Any.runs (Cert.ExpIdeal.Any.tables m h) m ρ (Cert.ExpIdeal.Any.holds m h)), ?_⟩
  refine (θ_run Cert.ExpRefIdeal.defs _ _).mono (fun r h' c => ⟨(h' c).1.trans ?_, (h' c).2⟩) (Cert.ExpRefIdeal.Value.run (F := Ideal) m' ρ')
  obtain rfl : c = 0 := Subsingleton.elim _ _
  obtain ⟨a0, a1, a2, a3, a4, a5⟩ := agree 0
  have hw := (Cert.ExpPre.weighted (hpre 0)).2
  refine (Cert.ExpRefIdeal.Read.val_main_v49_eq _ _).trans (Eq.trans ?_ (Cert.ExpBlock.array_4 (Cert.ExpIdeal.Any.tables m h) m ρ 0).symm)
  rw [a0, a1, a2, a3, a4, a5]
  refine (Cert.ExpRef.array_eq _ _ _ _ _ _ h).trans ?_
  funext y
  exact (Cert.ExpTile.weighted_agree _ _ _ _ _ _ hw _ _ _).symm

/-- Every claim of the certificate. -/
theorem claim : Cert.Claim := ⟨Cert.Attn.Gen.facts, Cert.AttnIdeal.Gen.facts, Cert.AttnRefIdeal.Gen.facts, Cert.Inp.Gen.facts, Cert.InpIdeal.Gen.facts,
  Cert.InpRefIdeal.Gen.facts, Cert.Out.Gen.facts, Cert.OutIdeal.Gen.facts, Cert.OutRefIdeal.Gen.facts, Cert.Exp.Gen.facts, Cert.ExpIdeal.Gen.facts,
  Cert.ExpRefIdeal.Gen.facts, Cert.Pre_finite_scores.Gen.facts, Cert.Pre_groups.Gen.facts, Cert.Pre_weighted.Gen.facts,
  fun m ρ _ => Cert.Attn.Gen.frame m ρ, fun m ρ _ => Cert.AttnIdeal.Gen.frame m ρ, fun m ρ _ => Cert.AttnIdeal.Gen.frame m ρ,
  frame_ref, fun m ρ _ => frame_ref m ρ trivial,
  fun m ρ _ => Cert.Inp.Gen.frame m ρ, fun m ρ _ => Cert.InpIdeal.Gen.frame m ρ, frame_in_ref,
  fun m ρ _ => Cert.Out.Gen.frame m ρ, fun m ρ _ => Cert.OutIdeal.Gen.frame m ρ, frame_out_ref,
  frame_exp, frame_exp_ideal, frame_exp_weighted, frame_exp_ref, fun m ρ _ => frame_exp_ref m ρ trivial,
  trivial, attention, trivial, projection, trivial, mixing, trivial, experts⟩

end Cert.Proof

end
